-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥
  ∧ IdealRules.named_const.Statement Cert.KernelIdeal.κ "s" .f32 0x3DB504F3#32 (((Real.sqrt 128)⁻¹ : ℝ) : EReal)

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨3, ![1, 256, 1024]⟩ ⟨3, ![1, 2048, 1024]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = Layout.block ⟨3, ![1, 256, 1024]⟩ ⟨3, ![1, 2048, 1024]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v43) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1x256x1024 : Shape := ⟨3, ![1, 256, 1024]⟩
abbrev S1024x1024 : Shape := ⟨2, ![1024, 1024]⟩
abbrev S1x4096x64x128 : Shape := ⟨4, ![1, 4096, 64, 128]⟩
abbrev S_ : Shape := ⟨0, ![]⟩

class Facts : Prop where
  bcast_S_S1x256x1024 : S_.BroadcastsInDim S1x256x1024 (![] : Fin 0 → Fin S1x256x1024.rank)
  bcast_S_S1024x1024 : S_.BroadcastsInDim S1024x1024 (![] : Fin 0 → Fin S1024x1024.rank)
  bcast_S_S1x4096x64x128 : S_.BroadcastsInDim S1x4096x64x128 (![] : Fin 0 → Fin S1x4096x64x128.rank)

variable [Facts]

def fn {F : FTy → Type} [FloatOps F] (main_arg0 : FVec F S1x256x1024 .f32) (main_arg1 : FVec F S1024x1024 .f32) (main_arg2 : FVec F S1x4096x64x128 .f32) (main_arg3 : FVec F S1x4096x64x128 .f32) (main_arg4 : FVec F S1024x1024 .f32) : IVec S1x256x1024 1 × IVec S1024x1024 1 × IVec S1x4096x64x128 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1x4096x64x128 .f32 := Host.absf main_arg2
  let main_cst_1 : FVec F S_ .f32 := constant S_ .f32 0x7F800000#32
  let main_v7 : FVec F S1x4096x64x128 .f32 := broadcastInDim S1x4096x64x128 ![] bcast_S_S1x4096x64x128 main_cst_1
  let main_v8 : IVec S1x4096x64x128 1 := cmpf .olt main_v6 main_v7
  (main_v2, main_v5, main_v8)
-- ==== Pre_finite_scores_ReferenceIdeal.lean ====
abbrev S1x2048x1024 : Shape := ⟨3, ![1, 2048, 1024]⟩
abbrev S1024x8192 : Shape := ⟨2, ![1024, 8192]⟩
abbrev S1x4096x64x128 : Shape := ⟨4, ![1, 4096, 64, 128]⟩
abbrev S8192x1024 : Shape := ⟨2, ![8192, 1024]⟩
abbrev S_ : Shape := ⟨0, ![]⟩

class Facts : Prop where
  bcast_S_S1x2048x1024 : S_.BroadcastsInDim S1x2048x1024 (![] : Fin 0 → Fin S1x2048x1024.rank)
  bcast_S_S1024x8192 : S_.BroadcastsInDim S1024x8192 (![] : Fin 0 → Fin S1024x8192.rank)
  bcast_S_S1x4096x64x128 : S_.BroadcastsInDim S1x4096x64x128 (![] : Fin 0 → Fin S1x4096x64x128.rank)

variable [Facts]

def fn {F : FTy → Type} [FloatOps F] (main_arg0 : FVec F S1x2048x1024 .f32) (main_arg1 : FVec F S1024x8192 .f32) (main_arg2 : FVec F S1x4096x64x128 .f32) (main_arg3 : FVec F S1x4096x64x128 .f32) (main_arg4 : FVec F S8192x1024 .f32) : IVec S1x2048x1024 1 × IVec S1024x8192 1 × IVec S1x4096x64x128 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_v3 : FVec F S1024x8192 .f32 := Host.absf main_arg1
  let main_cst_0 : FVec F S_ .f32 := constant S_ .f32 0x7F800000#32
  let main_v4 : FVec F S1024x8192 .f32 := broadcastInDim S1024x8192 ![] bcast_S_S1024x8192 main_cst_0
  let main_v5 : IVec S1024x8192 1 := cmpf .olt main_v3 main_v4
  let main_v6 : FVec F S1x4096x64x128 .f32 := Host.absf main_arg2
  let main_cst_1 : FVec F S_ .f32 := constant S_ .f32 0x7F800000#32
  let main_v7 : FVec F S1x4096x64x128 .f32 := broadcastInDim S1x4096x64x128 ![] bcast_S_S1x4096x64x128 main_cst_1
  let main_v8 : IVec S1x4096x64x128 1 := cmpf .olt main_v6 main_v7
  (main_v2, main_v5, main_v8)
-- ==== Kernel.lean ====
abbrev S1x256x1024 : Shape := ⟨3, ![1, 256, 1024]⟩
abbrev S1024x1024 : Shape := ⟨2, ![1024, 1024]⟩
abbrev S1x4096x64x128 : Shape := ⟨4, ![1, 4096, 64, 128]⟩
abbrev S256x1024 : Shape := ⟨2, ![256, 1024]⟩
abbrev S1024x8x128 : Shape := ⟨3, ![1024, 8, 128]⟩
abbrev S8x1024x128 : Shape := ⟨3, ![8, 1024, 128]⟩
abbrev S8x128x1024 : Shape := ⟨3, ![8, 128, 1024]⟩
abbrev S4096x64x128 : Shape := ⟨3, ![4096, 64, 128]⟩
abbrev S2048x1024 : Shape := ⟨2, ![2048, 1024]⟩
abbrev S2x256x1024 : Shape := ⟨3, ![2, 256, 1024]⟩
abbrev S7x256x1024 : Shape := ⟨3, ![7, 256, 1024]⟩
abbrev S8x4096x128 : Shape := ⟨3, ![8, 4096, 128]⟩
abbrev S8x256x128 : Shape := ⟨3, ![8, 256, 128]⟩
abbrev S3 : Shape := ⟨1, ![3]⟩
abbrev S4 : Shape := ⟨1, ![4]⟩
abbrev S7 : Shape := ⟨1, ![7]⟩
abbrev S16 : Shape := ⟨1, ![16]⟩
abbrev S1 : Shape := ⟨1, ![1]⟩
abbrev S_ : Shape := ⟨0, ![]⟩
abbrev S1x4096x128 : Shape := ⟨3, ![1, 4096, 128]⟩
abbrev S4096x128 : Shape := ⟨2, ![4096, 128]⟩
abbrev S4096x1x128 : Shape := ⟨3, ![4096, 1, 128]⟩
abbrev S1x1024x128 : Shape := ⟨3, ![1, 1024, 128]⟩
abbrev S1024x128 : Shape := ⟨2, ![1024, 128]⟩
abbrev S256x128 : Shape := ⟨2, ![256, 128]⟩
abbrev S256x1 : Shape := ⟨2, ![256, 1]⟩
abbrev S256 : Shape := ⟨1, ![256]⟩
abbrev S1x256x128 : Shape := ⟨3, ![1, 256, 128]⟩
abbrev S256x256 : Shape := ⟨2, ![256, 256]⟩
abbrev S1x128x1024 : Shape := ⟨3, ![1, 128, 1024]⟩
abbrev S128x1024 : Shape := ⟨2, ![128, 1024]⟩

abbrev nBuf : Space → Nat
  | .hbm => 16
  | .vmem => 11
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1x4096x64x128, .f32⟩
  | .hbm, ⟨3, _⟩ => ⟨S1x4096x64x128, .f32⟩
  | .hbm, ⟨4, _⟩ => ⟨S1024x1024, .f32⟩
  | .hbm, ⟨5, _⟩ => ⟨S256x1024, .f32⟩
  | .hbm, ⟨6, _⟩ => ⟨S256x1024, .bf16⟩
  | .hbm, ⟨7, _⟩ => ⟨S1024x8x128, .f32⟩
  | .hbm, ⟨8, _⟩ => ⟨S8x1024x128, .f32⟩
  | .hbm, ⟨9, _⟩ => ⟨S8x1024x128, .bf16⟩
  | .hbm, ⟨10, _⟩ => ⟨S8x128x1024, .f32⟩
  | .hbm, ⟨11, _⟩ => ⟨S8x128x1024, .bf16⟩
  | .hbm, ⟨12, _⟩ => ⟨S4096x64x128, .f32⟩
  | .hbm, ⟨13, _⟩ => ⟨S4096x64x128, .f32⟩
  | .hbm, ⟨14, _⟩ => ⟨S256x1024, .f32⟩
  | .hbm, ⟨15, _⟩ => ⟨S1x256x1024, .f32⟩
  | .local _ .vmem, ⟨0, _⟩ => ⟨S256x1024, .bf16⟩
  | .local _ .vmem, ⟨1, _⟩ => ⟨S8x1024x128, .bf16⟩
  | .local _ .vmem, ⟨2, _⟩ => ⟨S8x128x1024, .bf16⟩
  | .local _ .vmem, ⟨3, _⟩ => ⟨S256x1024, .f32⟩
  | .local _ .vmem, ⟨4, _⟩ => ⟨S2048x1024, .bf16⟩
  | .local _ .vmem, ⟨5, _⟩ => ⟨S2048x1024, .f32⟩
  | .local _ .vmem, ⟨6, _⟩ => ⟨S2x256x1024, .bf16⟩
  | .local _ .vmem, ⟨7, _⟩ => ⟨S7x256x1024, .bf16⟩
  | .local _ .vmem, ⟨8, _⟩ => ⟨S8x4096x128, .f32⟩
  | .local _ .vmem, ⟨9, _⟩ => ⟨S8x4096x128, .f32⟩
  | .local _ .vmem, ⟨10, _⟩ => ⟨S8x256x128, .bf16⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 2 → Bool
  | ⟨0, _⟩ => false
  | ⟨1, _⟩ => true
  | _ => false

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  (ofTc nBuf bufTy 2 48 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_off1 (d0 : Dev nD) (c0_i32 : BitVec 32) : Fin 3 → Nat :=
  let c0_i32_10 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_5 : BitVec 32 := 8#32
  let v8 : BitVec 32 := Scalar.muli v2 c8_i32_5
  let v9 : BitVec 32 := Scalar.addi v8 c0_i32
  let c0_i32_11 : BitVec 32 := 0#32
  ![0, v9.toNat, 0]
def k0_dev1 (d0 : Dev nD) : Nat :=
  let c0_i32_105 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_104 : BitVec 32 := 1#32
  let v121 : BitVec 32 := Scalar.muli v7 c1_i32_104
  let v122 : BitVec 32 := Scalar.addi c0_i32_105 v121
  v122.toNat
def k0_dev2 (d0 : Dev nD) : Nat :=
  let c0_i32_108 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_107 : BitVec 32 := 1#32
  let v123 : BitVec 32 := Scalar.muli v4 c1_i32_107
  let v124 : BitVec 32 := Scalar.addi c0_i32_108 v123
  v124.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let v127 : BitVec 32 := Scalar.muli v2 c256_i32
  let v128 : Index := Scalar.indexCast v127
  let c0_111 : Index := 0#32
  ![v128.toNat, 0]
def k0_off3 (d0 : Dev nD) (c0_i32_112 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v132 : BitVec 32 := Scalar.subi v2 c0_i32_112
  let c8_i32_113 : BitVec 32 := 8#32
  let v133 : BitVec 32 := Scalar.addi v132 c8_i32_113
  let c8_i32_114 : BitVec 32 := 8#32
  let v134 : BitVec 32 := Scalar.remsi v133 c8_i32_114
  let c256_i32_115 : BitVec 32 := 256#32
  let v135 : BitVec 32 := Scalar.muli v134 c256_i32_115
  let c0_i32_120 : BitVec 32 := 0#32
  ![v135.toNat, 0]
def k0_dev3 (d0 : Dev nD) : Nat :=
  let c0_i32_119 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_118 : BitVec 32 := 1#32
  let v136 : BitVec 32 := Scalar.muli v4 c1_i32_118
  let v137 : BitVec 32 := Scalar.addi c0_i32_119 v136
  v137.toNat
def k0_off4 (d0 : Dev nD) (c0_i32_122 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v144 : BitVec 32 := Scalar.addi v2 c0_i32_122
  let c8_i32_123 : BitVec 32 := 8#32
  let v145 : BitVec 32 := Scalar.remsi v144 c8_i32_123
  let c256_i32_124 : BitVec 32 := 256#32
  let v146 : BitVec 32 := Scalar.muli v145 c256_i32_124
  let c0_i32_129 : BitVec 32 := 0#32
  ![v146.toNat, 0]
def k0_dev4 (d0 : Dev nD) : Nat :=
  let c0_i32_128 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_127 : BitVec 32 := 1#32
  let v147 : BitVec 32 := Scalar.muli v7 c1_i32_127
  let v148 : BitVec 32 := Scalar.addi c0_i32_128 v147
  v148.toNat
@[reducible] def k0_t1_loop : Scf.Loop 32 :=
  let c0_i32_135 : BitVec 32 := 0#32
  let c8_i32_136 : BitVec 32 := 8#32
  let v159 : BitVec 32 := Scalar.addi c0_i32_135 c8_i32_136
  let c1_i32_137 : BitVec 32 := 1#32
  ⟨c0_i32_135, v159, c1_i32_137⟩
def k0_off5 (k0_t1 : Fin k0_t1_loop.trips) : Fin 1 → Nat :=
  let c0_i32_135 : BitVec 32 := 0#32
  let c1_i32_137 : BitVec 32 := 1#32
  let arg20 : BitVec 32 := Scf.iv c0_i32_135 c1_i32_137 k0_t1
  ![arg20.toNat]
def k0_off6 (k0_t1 : Fin k0_t1_loop.trips) : Fin 3 → Nat :=
  let c0_i32_135 : BitVec 32 := 0#32
  let c1_i32_137 : BitVec 32 := 1#32
  let arg20 : BitVec 32 := Scf.iv c0_i32_135 c1_i32_137 k0_t1
  let c0_i32_1036 : BitVec 32 := 0#32
  let c0_i32_1037 : BitVec 32 := 0#32
  ![arg20.toNat, 0, 0]
def k0_off7 (d0 : Dev nD) (k0_t1 : Fin k0_t1_loop.trips) : Fin 3 → Nat :=
  let c0_i32_1038 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_1035 : BitVec 32 := 8#32
  let v1008 : BitVec 32 := Scalar.muli v2 c8_i32_1035
  let c0_i32_135 : BitVec 32 := 0#32
  let c1_i32_137 : BitVec 32 := 1#32
  let arg20 : BitVec 32 := Scf.iv c0_i32_135 c1_i32_137 k0_t1
  let v1009 : BitVec 32 := Scalar.addi v1008 arg20
  let c0_i32_1039 : BitVec 32 := 0#32
  ![0, v1009.toNat, 0]
def k0_off8 (k0_t1 : Fin k0_t1_loop.trips) : Fin 1 → Nat :=
  let c8_i32_1040 : BitVec 32 := 8#32
  let c0_i32_135 : BitVec 32 := 0#32
  let c1_i32_137 : BitVec 32 := 1#32
  let arg20 : BitVec 32 := Scf.iv c0_i32_135 c1_i32_137 k0_t1
  let v1016 : BitVec 32 := Scalar.addi c8_i32_1040 arg20
  ![v1016.toNat]
def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_131 : BitVec 32 := 0#32
  let v155 : BitVec 32 := Scalar.subi v2 c0_i32_131
  let c8_i32_132 : BitVec 32 := 8#32
  let v156 : BitVec 32 := Scalar.addi v155 c8_i32_132
  let c8_i32_133 : BitVec 32 := 8#32
  let v157 : BitVec 32 := Scalar.remsi v156 c8_i32_133
  let c256_i32_134 : BitVec 32 := 256#32
  let v158 : BitVec 32 := Scalar.muli v157 c256_i32_134
  let v1023 : Index := Scalar.indexCast v158
  let c0_1045 : Index := 0#32
  ![v1023.toNat, 0]
def k0_off10 (k0_t1 : Fin k0_t1_loop.trips) : Fin 3 → Nat :=
  let c0_i32_135 : BitVec 32 := 0#32
  let c1_i32_137 : BitVec 32 := 1#32
  let arg20 : BitVec 32 := Scf.iv c0_i32_135 c1_i32_137 k0_t1
  let v1025 : Index := Scalar.indexCast arg20
  let c0_1046 : Index := 0#32
  let c0_1047 : Index := 0#32
  ![v1025.toNat, 0, 0]
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_131 : BitVec 32 := 0#32
  let v155 : BitVec 32 := Scalar.subi v2 c0_i32_131
  let c8_i32_132 : BitVec 32 := 8#32
  let v156 : BitVec 32 := Scalar.addi v155 c8_i32_132
  let c8_i32_133 : BitVec 32 := 8#32
  let v157 : BitVec 32 := Scalar.remsi v156 c8_i32_133
  let c0_i32_1049 : BitVec 32 := 0#32
  let v1030 : BitVec 1 := Scalar.cmpi .eq v157 c0_i32_1049
  let v1031 : BitVec 32 := Scalar.extui v1030
  let c0_i32_1050 : BitVec 32 := 0#32
  let v1032 : BitVec 1 := Scalar.cmpi .ne v1031 c0_i32_1050
  v1032

def k0_off11 (k0_t1 : Fin k0_t1_loop.trips) : Fin 3 → Nat :=
  let c0_i32_135 : BitVec 32 := 0#32
  let c1_i32_137 : BitVec 32 := 1#32
  let arg20 : BitVec 32 := Scf.iv c0_i32_135 c1_i32_137 k0_t1
  let v1039 : Index := Scalar.indexCast arg20
  let c0_1056 : Index := 0#32
  let c0_1057 : Index := 0#32
  ![v1039.toNat, 0, 0]
def k0_off12 (k0_t1 : Fin k0_t1_loop.trips) : Fin 3 → Nat :=
  let c0_i32_135 : BitVec 32 := 0#32
  let c1_i32_137 : BitVec 32 := 1#32
  let arg20 : BitVec 32 := Scf.iv c0_i32_135 c1_i32_137 k0_t1
  let v1083 : Index := Scalar.indexCast arg20
  let c1024 : Index := 1024#32
  let c0_1068 : Index := 0#32
  ![v1083.toNat, 1024, 0]
def k0_off13 (k0_t1 : Fin k0_t1_loop.trips) : Fin 3 → Nat :=
  let c0_i32_135 : BitVec 32 := 0#32
  let c1_i32_137 : BitVec 32 := 1#32
  let arg20 : BitVec 32 := Scf.iv c0_i32_135 c1_i32_137 k0_t1
  let v1127 : Index := Scalar.indexCast arg20
  let c2048 : Index := 2048#32
  let c0_1080 : Index := 0#32
  ![v1127.toNat, 2048, 0]
def k0_off14 (k0_t1 : Fin k0_t1_loop.trips) : Fin 3 → Nat :=
  let c0_i32_135 : BitVec 32 := 0#32
  let c1_i32_137 : BitVec 32 := 1#32
  let arg20 : BitVec 32 := Scf.iv c0_i32_135 c1_i32_137 k0_t1
  let v1171 : Index := Scalar.indexCast arg20
  let c3072 : Index := 3072#32
  let c0_1092 : Index := 0#32
  ![v1171.toNat, 3072, 0]
def k0_off15 (k0_t1 : Fin k0_t1_loop.trips) : Fin 3 → Nat :=
  let c0_i32_135 : BitVec 32 := 0#32
  let c1_i32_137 : BitVec 32 := 1#32
  let arg20 : BitVec 32 := Scf.iv c0_i32_135 c1_i32_137 k0_t1
  let v1218 : Index := Scalar.indexCast arg20
  let c0_1104 : Index := 0#32
  let c0_1105 : Index := 0#32
  ![v1218.toNat, 0, 0]
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_131 : BitVec 32 := 0#32
  let v155 : BitVec 32 := Scalar.subi v2 c0_i32_131
  let c8_i32_132 : BitVec 32 := 8#32
  let v156 : BitVec 32 := Scalar.addi v155 c8_i32_132
  let c8_i32_133 : BitVec 32 := 8#32
  let v157 : BitVec 32 := Scalar.remsi v156 c8_i32_133
  let c0_i32_1051 : BitVec 32 := 0#32
  let v1033 : BitVec 1 := Scalar.cmpi .ne v157 c0_i32_1051
  let v1034 : BitVec 32 := Scalar.extui v1033
  let c0_i32_1052 : BitVec 32 := 0#32
  let v1035 : BitVec 1 := Scalar.cmpi .ne v1034 c0_i32_1052
  v1035

def k0_off16 (d0 : Dev nD) (k0_t1 : Fin k0_t1_loop.trips) : Fin 3 → Nat :=
  let c0_i32_135 : BitVec 32 := 0#32
  let c1_i32_137 : BitVec 32 := 1#32
  let arg20 : BitVec 32 := Scf.iv c0_i32_135 c1_i32_137 k0_t1
  let v1037 : Index := Scalar.indexCast arg20
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_131 : BitVec 32 := 0#32
  let v155 : BitVec 32 := Scalar.subi v2 c0_i32_131
  let c8_i32_132 : BitVec 32 := 8#32
  let v156 : BitVec 32 := Scalar.addi v155 c8_i32_132
  let c8_i32_133 : BitVec 32 := 8#32
  let v157 : BitVec 32 := Scalar.remsi v156 c8_i32_133
  let c256_i32_134 : BitVec 32 := 256#32
  let v158 : BitVec 32 := Scalar.muli v157 c256_i32_134
  let c128_i32 : BitVec 32 := 128#32
  let v1036 : BitVec 32 := Scalar.subi v158 c128_i32
  let v1038 : Index := Scalar.indexCast v1036
  let c0_1053 : Index := 0#32
  ![v1037.toNat, v1038.toNat, 0]
def k0_off17 (k0_t1 : Fin k0_t1_loop.trips) : Fin 3 → Nat :=
  let c0_i32_135 : BitVec 32 := 0#32
  let c1_i32_137 : BitVec 32 := 1#32
  let arg20 : BitVec 32 := Scf.iv c0_i32_135 c1_i32_137 k0_t1
  let v1054 : Index := Scalar.indexCast arg20
  let c0_1059 : Index := 0#32
  let c0_1060 : Index := 0#32
  ![v1054.toNat, 0, 0]
def k0_off18 (k0_t1 : Fin k0_t1_loop.trips) : Fin 3 → Nat :=
  let c0_i32_135 : BitVec 32 := 0#32
  let c1_i32_137 : BitVec 32 := 1#32
  let arg20 : BitVec 32 := Scf.iv c0_i32_135 c1_i32_137 k0_t1
  let v1100 : Index := Scalar.indexCast arg20
  let c0_1073 : Index := 0#32
  let c0_1074 : Index := 0#32
  ![v1100.toNat, 0, 0]
def k0_off19 (d0 : Dev nD) (c0_i32_131 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v155 : BitVec 32 := Scalar.subi v2 c0_i32_131
  let c8_i32_132 : BitVec 32 := 8#32
  let v156 : BitVec 32 := Scalar.addi v155 c8_i32_132
  let c8_i32_133 : BitVec 32 := 8#32
  let v157 : BitVec 32 := Scalar.remsi v156 c8_i32_133
  let c256_i32_134 : BitVec 32 := 256#32
  let v158 : BitVec 32 := Scalar.muli v157 c256_i32_134
  let v207 : Index := Scalar.indexCast v158
  let c0_187 : Index := 0#32
  ![v207.toNat, 0]
def k0_dev5 (d0 : Dev nD) : Nat :=
  let c0_i32_201 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_200 : BitVec 32 := 1#32
  let v221 : BitVec 32 := Scalar.muli v4 c1_i32_200
  let v222 : BitVec 32 := Scalar.addi c0_i32_201 v221
  v222.toNat
def k0_dev6 (d0 : Dev nD) : Nat :=
  let c0_i32_216 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_215 : BitVec 32 := 1#32
  let v238 : BitVec 32 := Scalar.muli v7 c1_i32_215
  let v239 : BitVec 32 := Scalar.addi c0_i32_216 v238
  v239.toNat
@[reducible] def k0_t2_loop : Scf.Loop 32 :=
  let c0_i32_223 : BitVec 32 := 0#32
  let c8_i32_224 : BitVec 32 := 8#32
  let v250 : BitVec 32 := Scalar.addi c0_i32_223 c8_i32_224
  let c1_i32_225 : BitVec 32 := 1#32
  ⟨c0_i32_223, v250, c1_i32_225⟩
def k0_off20 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_219 : BitVec 32 := 1#32
  let v246 : BitVec 32 := Scalar.subi v2 c1_i32_219
  let c8_i32_220 : BitVec 32 := 8#32
  let v247 : BitVec 32 := Scalar.addi v246 c8_i32_220
  let c8_i32_221 : BitVec 32 := 8#32
  let v248 : BitVec 32 := Scalar.remsi v247 c8_i32_221
  let c256_i32_222 : BitVec 32 := 256#32
  let v249 : BitVec 32 := Scalar.muli v248 c256_i32_222
  let v1008 : Index := Scalar.indexCast v249
  let c0_1035 : Index := 0#32
  ![v1008.toNat, 0]
def k0_off21 (k0_t2 : Fin k0_t2_loop.trips) : Fin 3 → Nat :=
  let c0_i32_223 : BitVec 32 := 0#32
  let c1_i32_225 : BitVec 32 := 1#32
  let arg20 : BitVec 32 := Scf.iv c0_i32_223 c1_i32_225 k0_t2
  let v1010 : Index := Scalar.indexCast arg20
  let c0_1036 : Index := 0#32
  let c0_1037 : Index := 0#32
  ![v1010.toNat, 0, 0]
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_219 : BitVec 32 := 1#32
  let v246 : BitVec 32 := Scalar.subi v2 c1_i32_219
  let c8_i32_220 : BitVec 32 := 8#32
  let v247 : BitVec 32 := Scalar.addi v246 c8_i32_220
  let c8_i32_221 : BitVec 32 := 8#32
  let v248 : BitVec 32 := Scalar.remsi v247 c8_i32_221
  let c0_i32_1039 : BitVec 32 := 0#32
  let v1015 : BitVec 1 := Scalar.cmpi .eq v248 c0_i32_1039
  let v1016 : BitVec 32 := Scalar.extui v1015
  let c0_i32_1040 : BitVec 32 := 0#32
  let v1017 : BitVec 1 := Scalar.cmpi .ne v1016 c0_i32_1040
  v1017

def k0_off22 (k0_t2 : Fin k0_t2_loop.trips) : Fin 3 → Nat :=
  let c0_i32_223 : BitVec 32 := 0#32
  let c1_i32_225 : BitVec 32 := 1#32
  let arg20 : BitVec 32 := Scf.iv c0_i32_223 c1_i32_225 k0_t2
  let v1024 : Index := Scalar.indexCast arg20
  let c0_1046 : Index := 0#32
  let c0_1047 : Index := 0#32
  ![v1024.toNat, 0, 0]
def k0_off23 (k0_t2 : Fin k0_t2_loop.trips) : Fin 3 → Nat :=
  let c0_i32_223 : BitVec 32 := 0#32
  let c1_i32_225 : BitVec 32 := 1#32
  let arg20 : BitVec 32 := Scf.iv c0_i32_223 c1_i32_225 k0_t2
  let v1068 : Index := Scalar.indexCast arg20
  let c1024 : Index := 1024#32
  let c0_1058 : Index := 0#32
  ![v1068.toNat, 1024, 0]
def k0_off24 (k0_t2 : Fin k0_t2_loop.trips) : Fin 3 → Nat :=
  let c0_i32_223 : BitVec 32 := 0#32
  let c1_i32_225 : BitVec 32 := 1#32
  let arg20 : BitVec 32 := Scf.iv c0_i32_223 c1_i32_225 k0_t2
  let v1112 : Index := Scalar.indexCast arg20
  let c2048 : Index := 2048#32
  let c0_1070 : Index := 0#32
  ![v1112.toNat, 2048, 0]
def k0_off25 (k0_t2 : Fin k0_t2_loop.trips) : Fin 3 → Nat :=
  let c0_i32_223 : BitVec 32 := 0#32
  let c1_i32_225 : BitVec 32 := 1#32
  let arg20 : BitVec 32 := Scf.iv c0_i32_223 c1_i32_225 k0_t2
  let v1156 : Index := Scalar.indexCast arg20
  let c3072 : Index := 3072#32
  let c0_1082 : Index := 0#32
  ![v1156.toNat, 3072, 0]
def k0_off26 (k0_t2 : Fin k0_t2_loop.trips) : Fin 3 → Nat :=
  let c0_i32_223 : BitVec 32 := 0#32
  let c1_i32_225 : BitVec 32 := 1#32
  let arg20 : BitVec 32 := Scf.iv c0_i32_223 c1_i32_225 k0_t2
  let v1203 : Index := Scalar.indexCast arg20
  let c0_1094 : Index := 0#32
  let c0_1095 : Index := 0#32
  ![v1203.toNat, 0, 0]
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_219 : BitVec 32 := 1#32
  let v246 : BitVec 32 := Scalar.subi v2 c1_i32_219
  let c8_i32_220 : BitVec 32 := 8#32
  let v247 : BitVec 32 := Scalar.addi v246 c8_i32_220
  let c8_i32_221 : BitVec 32 := 8#32
  let v248 : BitVec 32 := Scalar.remsi v247 c8_i32_221
  let c0_i32_1041 : BitVec 32 := 0#32
  let v1018 : BitVec 1 := Scalar.cmpi .ne v248 c0_i32_1041
  let v1019 : BitVec 32 := Scalar.extui v1018
  let c0_i32_1042 : BitVec 32 := 0#32
  let v1020 : BitVec 1 := Scalar.cmpi .ne v1019 c0_i32_1042
  v1020

def k0_off27 (d0 : Dev nD) (k0_t2 : Fin k0_t2_loop.trips) : Fin 3 → Nat :=
  let c0_i32_223 : BitVec 32 := 0#32
  let c1_i32_225 : BitVec 32 := 1#32
  let arg20 : BitVec 32 := Scf.iv c0_i32_223 c1_i32_225 k0_t2
  let v1022 : Index := Scalar.indexCast arg20
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_219 : BitVec 32 := 1#32
  let v246 : BitVec 32 := Scalar.subi v2 c1_i32_219
  let c8_i32_220 : BitVec 32 := 8#32
  let v247 : BitVec 32 := Scalar.addi v246 c8_i32_220
  let c8_i32_221 : BitVec 32 := 8#32
  let v248 : BitVec 32 := Scalar.remsi v247 c8_i32_221
  let c256_i32_222 : BitVec 32 := 256#32
  let v249 : BitVec 32 := Scalar.muli v248 c256_i32_222
  let c128_i32 : BitVec 32 := 128#32
  let v1021 : BitVec 32 := Scalar.subi v249 c128_i32
  let v1023 : Index := Scalar.indexCast v1021
  let c0_1043 : Index := 0#32
  ![v1022.toNat, v1023.toNat, 0]
def k0_off28 (k0_t2 : Fin k0_t2_loop.trips) : Fin 3 → Nat :=
  let c0_i32_223 : BitVec 32 := 0#32
  let c1_i32_225 : BitVec 32 := 1#32
  let arg20 : BitVec 32 := Scf.iv c0_i32_223 c1_i32_225 k0_t2
  let v1039 : Index := Scalar.indexCast arg20
  let c0_1049 : Index := 0#32
  let c0_1050 : Index := 0#32
  ![v1039.toNat, 0, 0]
def k0_off29 (k0_t2 : Fin k0_t2_loop.trips) : Fin 3 → Nat :=
  let c0_i32_223 : BitVec 32 := 0#32
  let c1_i32_225 : BitVec 32 := 1#32
  let arg20 : BitVec 32 := Scf.iv c0_i32_223 c1_i32_225 k0_t2
  let v1085 : Index := Scalar.indexCast arg20
  let c0_1063 : Index := 0#32
  let c0_1064 : Index := 0#32
  ![v1085.toNat, 0, 0]
def k0_dev7 (d0 : Dev nD) : Nat :=
  let c0_i32_293 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_292 : BitVec 32 := 1#32
  let v308 : BitVec 32 := Scalar.muli v4 c1_i32_292
  let v309 : BitVec 32 := Scalar.addi c0_i32_293 v308
  v309.toNat
def k0_dev8 (d0 : Dev nD) : Nat :=
  let c0_i32_311 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_310 : BitVec 32 := 1#32
  let v328 : BitVec 32 := Scalar.muli v4 c1_i32_310
  let v329 : BitVec 32 := Scalar.addi c0_i32_311 v328
  v329.toNat
def k0_dev9 (d0 : Dev nD) : Nat :=
  let c0_i32_326 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_325 : BitVec 32 := 1#32
  let v345 : BitVec 32 := Scalar.muli v7 c1_i32_325
  let v346 : BitVec 32 := Scalar.addi c0_i32_326 v345
  v346.toNat
@[reducible] def k0_t3_loop : Scf.Loop 32 :=
  let c0_i32_333 : BitVec 32 := 0#32
  let c8_i32_334 : BitVec 32 := 8#32
  let v357 : BitVec 32 := Scalar.addi c0_i32_333 c8_i32_334
  let c1_i32_335 : BitVec 32 := 1#32
  ⟨c0_i32_333, v357, c1_i32_335⟩
def k0_off30 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_329 : BitVec 32 := 2#32
  let v353 : BitVec 32 := Scalar.subi v2 c2_i32_329
  let c8_i32_330 : BitVec 32 := 8#32
  let v354 : BitVec 32 := Scalar.addi v353 c8_i32_330
  let c8_i32_331 : BitVec 32 := 8#32
  let v355 : BitVec 32 := Scalar.remsi v354 c8_i32_331
  let c256_i32_332 : BitVec 32 := 256#32
  let v356 : BitVec 32 := Scalar.muli v355 c256_i32_332
  let v1008 : Index := Scalar.indexCast v356
  let c0_1035 : Index := 0#32
  ![v1008.toNat, 0]
def k0_off31 (k0_t3 : Fin k0_t3_loop.trips) : Fin 3 → Nat :=
  let c0_i32_333 : BitVec 32 := 0#32
  let c1_i32_335 : BitVec 32 := 1#32
  let arg20 : BitVec 32 := Scf.iv c0_i32_333 c1_i32_335 k0_t3
  let v1010 : Index := Scalar.indexCast arg20
  let c0_1036 : Index := 0#32
  let c0_1037 : Index := 0#32
  ![v1010.toNat, 0, 0]
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_329 : BitVec 32 := 2#32
  let v353 : BitVec 32 := Scalar.subi v2 c2_i32_329
  let c8_i32_330 : BitVec 32 := 8#32
  let v354 : BitVec 32 := Scalar.addi v353 c8_i32_330
  let c8_i32_331 : BitVec 32 := 8#32
  let v355 : BitVec 32 := Scalar.remsi v354 c8_i32_331
  let c0_i32_1039 : BitVec 32 := 0#32
  let v1015 : BitVec 1 := Scalar.cmpi .eq v355 c0_i32_1039
  let v1016 : BitVec 32 := Scalar.extui v1015
  let c0_i32_1040 : BitVec 32 := 0#32
  let v1017 : BitVec 1 := Scalar.cmpi .ne v1016 c0_i32_1040
  v1017

def k0_off32 (k0_t3 : Fin k0_t3_loop.trips) : Fin 3 → Nat :=
  let c0_i32_333 : BitVec 32 := 0#32
  let c1_i32_335 : BitVec 32 := 1#32
  let arg20 : BitVec 32 := Scf.iv c0_i32_333 c1_i32_335 k0_t3
  let v1024 : Index := Scalar.indexCast arg20
  let c0_1046 : Index := 0#32
  let c0_1047 : Index := 0#32
  ![v1024.toNat, 0, 0]
def k0_off33 (k0_t3 : Fin k0_t3_loop.trips) : Fin 3 → Nat :=
  let c0_i32_333 : BitVec 32 := 0#32
  let c1_i32_335 : BitVec 32 := 1#32
  let arg20 : BitVec 32 := Scf.iv c0_i32_333 c1_i32_335 k0_t3
  let v1068 : Index := Scalar.indexCast arg20
  let c1024 : Index := 1024#32
  let c0_1058 : Index := 0#32
  ![v1068.toNat, 1024, 0]
def k0_off34 (k0_t3 : Fin k0_t3_loop.trips) : Fin 3 → Nat :=
  let c0_i32_333 : BitVec 32 := 0#32
  let c1_i32_335 : BitVec 32 := 1#32
  let arg20 : BitVec 32 := Scf.iv c0_i32_333 c1_i32_335 k0_t3
  let v1112 : Index := Scalar.indexCast arg20
  let c2048 : Index := 2048#32
  let c0_1070 : Index := 0#32
  ![v1112.toNat, 2048, 0]
def k0_off35 (k0_t3 : Fin k0_t3_loop.trips) : Fin 3 → Nat :=
  let c0_i32_333 : BitVec 32 := 0#32
  let c1_i32_335 : BitVec 32 := 1#32
  let arg20 : BitVec 32 := Scf.iv c0_i32_333 c1_i32_335 k0_t3
  let v1156 : Index := Scalar.indexCast arg20
  let c3072 : Index := 3072#32
  let c0_1082 : Index := 0#32
  ![v1156.toNat, 3072, 0]
def k0_off36 (k0_t3 : Fin k0_t3_loop.trips) : Fin 3 → Nat :=
  let c0_i32_333 : BitVec 32 := 0#32
  let c1_i32_335 : BitVec 32 := 1#32
  let arg20 : BitVec 32 := Scf.iv c0_i32_333 c1_i32_335 k0_t3
  let v1203 : Index := Scalar.indexCast arg20
  let c0_1094 : Index := 0#32
  let c0_1095 : Index := 0#32
  ![v1203.toNat, 0, 0]
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_329 : BitVec 32 := 2#32
  let v353 : BitVec 32 := Scalar.subi v2 c2_i32_329
  let c8_i32_330 : BitVec 32 := 8#32
  let v354 : BitVec 32 := Scalar.addi v353 c8_i32_330
  let c8_i32_331 : BitVec 32 := 8#32
  let v355 : BitVec 32 := Scalar.remsi v354 c8_i32_331
  let c0_i32_1041 : BitVec 32 := 0#32
  let v1018 : BitVec 1 := Scalar.cmpi .ne v355 c0_i32_1041
  let v1019 : BitVec 32 := Scalar.extui v1018
  let c0_i32_1042 : BitVec 32 := 0#32
  let v1020 : BitVec 1 := Scalar.cmpi .ne v1019 c0_i32_1042
  v1020

def k0_off37 (d0 : Dev nD) (k0_t3 : Fin k0_t3_loop.trips) : Fin 3 → Nat :=
  let c0_i32_333 : BitVec 32 := 0#32
  let c1_i32_335 : BitVec 32 := 1#32
  let arg20 : BitVec 32 := Scf.iv c0_i32_333 c1_i32_335 k0_t3
  let v1022 : Index := Scalar.indexCast arg20
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_329 : BitVec 32 := 2#32
  let v353 : BitVec 32 := Scalar.subi v2 c2_i32_329
  let c8_i32_330 : BitVec 32 := 8#32
  let v354 : BitVec 32 := Scalar.addi v353 c8_i32_330
  let c8_i32_331 : BitVec 32 := 8#32
  let v355 : BitVec 32 := Scalar.remsi v354 c8_i32_331
  let c256_i32_332 : BitVec 32 := 256#32
  let v356 : BitVec 32 := Scalar.muli v355 c256_i32_332
  let c128_i32 : BitVec 32 := 128#32
  let v1021 : BitVec 32 := Scalar.subi v356 c128_i32
  let v1023 : Index := Scalar.indexCast v1021
  let c0_1043 : Index := 0#32
  ![v1022.toNat, v1023.toNat, 0]
def k0_off38 (k0_t3 : Fin k0_t3_loop.trips) : Fin 3 → Nat :=
  let c0_i32_333 : BitVec 32 := 0#32
  let c1_i32_335 : BitVec 32 := 1#32
  let arg20 : BitVec 32 := Scf.iv c0_i32_333 c1_i32_335 k0_t3
  let v1039 : Index := Scalar.indexCast arg20
  let c0_1049 : Index := 0#32
  let c0_1050 : Index := 0#32
  ![v1039.toNat, 0, 0]
def k0_off39 (k0_t3 : Fin k0_t3_loop.trips) : Fin 3 → Nat :=
  let c0_i32_333 : BitVec 32 := 0#32
  let c1_i32_335 : BitVec 32 := 1#32
  let arg20 : BitVec 32 := Scf.iv c0_i32_333 c1_i32_335 k0_t3
  let v1085 : Index := Scalar.indexCast arg20
  let c0_1063 : Index := 0#32
  let c0_1064 : Index := 0#32
  ![v1085.toNat, 0, 0]
def k0_dev10 (d0 : Dev nD) : Nat :=
  let c0_i32_418 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_417 : BitVec 32 := 1#32
  let v433 : BitVec 32 := Scalar.muli v4 c1_i32_417
  let v434 : BitVec 32 := Scalar.addi c0_i32_418 v433
  v434.toNat
def k0_dev11 (d0 : Dev nD) : Nat :=
  let c0_i32_441 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_440 : BitVec 32 := 1#32
  let v458 : BitVec 32 := Scalar.muli v7 c1_i32_440
  let v459 : BitVec 32 := Scalar.addi c0_i32_441 v458
  v459.toNat
@[reducible] def k0_t4_loop : Scf.Loop 32 :=
  let c0_i32_448 : BitVec 32 := 0#32
  let c8_i32_449 : BitVec 32 := 8#32
  let v470 : BitVec 32 := Scalar.addi c0_i32_448 c8_i32_449
  let c1_i32_450 : BitVec 32 := 1#32
  ⟨c0_i32_448, v470, c1_i32_450⟩
def k0_off40 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_444 : BitVec 32 := 3#32
  let v466 : BitVec 32 := Scalar.subi v2 c3_i32_444
  let c8_i32_445 : BitVec 32 := 8#32
  let v467 : BitVec 32 := Scalar.addi v466 c8_i32_445
  let c8_i32_446 : BitVec 32 := 8#32
  let v468 : BitVec 32 := Scalar.remsi v467 c8_i32_446
  let c256_i32_447 : BitVec 32 := 256#32
  let v469 : BitVec 32 := Scalar.muli v468 c256_i32_447
  let v1008 : Index := Scalar.indexCast v469
  let c0_1035 : Index := 0#32
  ![v1008.toNat, 0]
def k0_off41 (k0_t4 : Fin k0_t4_loop.trips) : Fin 3 → Nat :=
  let c0_i32_448 : BitVec 32 := 0#32
  let c1_i32_450 : BitVec 32 := 1#32
  let arg20 : BitVec 32 := Scf.iv c0_i32_448 c1_i32_450 k0_t4
  let v1010 : Index := Scalar.indexCast arg20
  let c0_1036 : Index := 0#32
  let c0_1037 : Index := 0#32
  ![v1010.toNat, 0, 0]
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_444 : BitVec 32 := 3#32
  let v466 : BitVec 32 := Scalar.subi v2 c3_i32_444
  let c8_i32_445 : BitVec 32 := 8#32
  let v467 : BitVec 32 := Scalar.addi v466 c8_i32_445
  let c8_i32_446 : BitVec 32 := 8#32
  let v468 : BitVec 32 := Scalar.remsi v467 c8_i32_446
  let c0_i32_1039 : BitVec 32 := 0#32
  let v1015 : BitVec 1 := Scalar.cmpi .eq v468 c0_i32_1039
  let v1016 : BitVec 32 := Scalar.extui v1015
  let c0_i32_1040 : BitVec 32 := 0#32
  let v1017 : BitVec 1 := Scalar.cmpi .ne v1016 c0_i32_1040
  v1017

def k0_off42 (k0_t4 : Fin k0_t4_loop.trips) : Fin 3 → Nat :=
  let c0_i32_448 : BitVec 32 := 0#32
  let c1_i32_450 : BitVec 32 := 1#32
  let arg20 : BitVec 32 := Scf.iv c0_i32_448 c1_i32_450 k0_t4
  let v1024 : Index := Scalar.indexCast arg20
  let c0_1046 : Index := 0#32
  let c0_1047 : Index := 0#32
  ![v1024.toNat, 0, 0]
def k0_off43 (k0_t4 : Fin k0_t4_loop.trips) : Fin 3 → Nat :=
  let c0_i32_448 : BitVec 32 := 0#32
  let c1_i32_450 : BitVec 32 := 1#32
  let arg20 : BitVec 32 := Scf.iv c0_i32_448 c1_i32_450 k0_t4
  let v1068 : Index := Scalar.indexCast arg20
  let c1024 : Index := 1024#32
  let c0_1058 : Index := 0#32
  ![v1068.toNat, 1024, 0]
def k0_off44 (k0_t4 : Fin k0_t4_loop.trips) : Fin 3 → Nat :=
  let c0_i32_448 : BitVec 32 := 0#32
  let c1_i32_450 : BitVec 32 := 1#32
  let arg20 : BitVec 32 := Scf.iv c0_i32_448 c1_i32_450 k0_t4
  let v1112 : Index := Scalar.indexCast arg20
  let c2048 : Index := 2048#32
  let c0_1070 : Index := 0#32
  ![v1112.toNat, 2048, 0]
def k0_off45 (k0_t4 : Fin k0_t4_loop.trips) : Fin 3 → Nat :=
  let c0_i32_448 : BitVec 32 := 0#32
  let c1_i32_450 : BitVec 32 := 1#32
  let arg20 : BitVec 32 := Scf.iv c0_i32_448 c1_i32_450 k0_t4
  let v1156 : Index := Scalar.indexCast arg20
  let c3072 : Index := 3072#32
  let c0_1082 : Index := 0#32
  ![v1156.toNat, 3072, 0]
def k0_off46 (k0_t4 : Fin k0_t4_loop.trips) : Fin 3 → Nat :=
  let c0_i32_448 : BitVec 32 := 0#32
  let c1_i32_450 : BitVec 32 := 1#32
  let arg20 : BitVec 32 := Scf.iv c0_i32_448 c1_i32_450 k0_t4
  let v1203 : Index := Scalar.indexCast arg20
  let c0_1094 : Index := 0#32
  let c0_1095 : Index := 0#32
  ![v1203.toNat, 0, 0]
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_444 : BitVec 32 := 3#32
  let v466 : BitVec 32 := Scalar.subi v2 c3_i32_444
  let c8_i32_445 : BitVec 32 := 8#32
  let v467 : BitVec 32 := Scalar.addi v466 c8_i32_445
  let c8_i32_446 : BitVec 32 := 8#32
  let v468 : BitVec 32 := Scalar.remsi v467 c8_i32_446
  let c0_i32_1041 : BitVec 32 := 0#32
  let v1018 : BitVec 1 := Scalar.cmpi .ne v468 c0_i32_1041
  let v1019 : BitVec 32 := Scalar.extui v1018
  let c0_i32_1042 : BitVec 32 := 0#32
  let v1020 : BitVec 1 := Scalar.cmpi .ne v1019 c0_i32_1042
  v1020

def k0_off47 (d0 : Dev nD) (k0_t4 : Fin k0_t4_loop.trips) : Fin 3 → Nat :=
  let c0_i32_448 : BitVec 32 := 0#32
  let c1_i32_450 : BitVec 32 := 1#32
  let arg20 : BitVec 32 := Scf.iv c0_i32_448 c1_i32_450 k0_t4
  let v1022 : Index := Scalar.indexCast arg20
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_444 : BitVec 32 := 3#32
  let v466 : BitVec 32 := Scalar.subi v2 c3_i32_444
  let c8_i32_445 : BitVec 32 := 8#32
  let v467 : BitVec 32 := Scalar.addi v466 c8_i32_445
  let c8_i32_446 : BitVec 32 := 8#32
  let v468 : BitVec 32 := Scalar.remsi v467 c8_i32_446
  let c256_i32_447 : BitVec 32 := 256#32
  let v469 : BitVec 32 := Scalar.muli v468 c256_i32_447
  let c128_i32 : BitVec 32 := 128#32
  let v1021 : BitVec 32 := Scalar.subi v469 c128_i32
  let v1023 : Index := Scalar.indexCast v1021
  let c0_1043 : Index := 0#32
  ![v1022.toNat, v1023.toNat, 0]
def k0_off48 (k0_t4 : Fin k0_t4_loop.trips) : Fin 3 → Nat :=
  let c0_i32_448 : BitVec 32 := 0#32
  let c1_i32_450 : BitVec 32 := 1#32
  let arg20 : BitVec 32 := Scf.iv c0_i32_448 c1_i32_450 k0_t4
  let v1039 : Index := Scalar.indexCast arg20
  let c0_1049 : Index := 0#32
  let c0_1050 : Index := 0#32
  ![v1039.toNat, 0, 0]
def k0_off49 (k0_t4 : Fin k0_t4_loop.trips) : Fin 3 → Nat :=
  let c0_i32_448 : BitVec 32 := 0#32
  let c1_i32_450 : BitVec 32 := 1#32
  let arg20 : BitVec 32 := Scf.iv c0_i32_448 c1_i32_450 k0_t4
  let v1085 : Index := Scalar.indexCast arg20
  let c0_1063 : Index := 0#32
  let c0_1064 : Index := 0#32
  ![v1085.toNat, 0, 0]
def k0_dev12 (d0 : Dev nD) : Nat :=
  let c0_i32_542 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_541 : BitVec 32 := 1#32
  let v552 : BitVec 32 := Scalar.muli v4 c1_i32_541
  let v553 : BitVec 32 := Scalar.addi c0_i32_542 v552
  v553.toNat
@[reducible] def k0_t5_loop : Scf.Loop 32 :=
  let c0_i32_557 : BitVec 32 := 0#32
  let c8_i32_558 : BitVec 32 := 8#32
  let v572 : BitVec 32 := Scalar.addi c0_i32_557 c8_i32_558
  let c1_i32_559 : BitVec 32 := 1#32
  ⟨c0_i32_557, v572, c1_i32_559⟩
def k0_off50 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_553 : BitVec 32 := 4#32
  let v568 : BitVec 32 := Scalar.subi v2 c4_i32_553
  let c8_i32_554 : BitVec 32 := 8#32
  let v569 : BitVec 32 := Scalar.addi v568 c8_i32_554
  let c8_i32_555 : BitVec 32 := 8#32
  let v570 : BitVec 32 := Scalar.remsi v569 c8_i32_555
  let c256_i32_556 : BitVec 32 := 256#32
  let v571 : BitVec 32 := Scalar.muli v570 c256_i32_556
  let v1008 : Index := Scalar.indexCast v571
  let c0_1035 : Index := 0#32
  ![v1008.toNat, 0]
def k0_off51 (k0_t5 : Fin k0_t5_loop.trips) : Fin 3 → Nat :=
  let c0_i32_557 : BitVec 32 := 0#32
  let c1_i32_559 : BitVec 32 := 1#32
  let arg20 : BitVec 32 := Scf.iv c0_i32_557 c1_i32_559 k0_t5
  let v1010 : Index := Scalar.indexCast arg20
  let c0_1036 : Index := 0#32
  let c0_1037 : Index := 0#32
  ![v1010.toNat, 0, 0]
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_553 : BitVec 32 := 4#32
  let v568 : BitVec 32 := Scalar.subi v2 c4_i32_553
  let c8_i32_554 : BitVec 32 := 8#32
  let v569 : BitVec 32 := Scalar.addi v568 c8_i32_554
  let c8_i32_555 : BitVec 32 := 8#32
  let v570 : BitVec 32 := Scalar.remsi v569 c8_i32_555
  let c0_i32_1039 : BitVec 32 := 0#32
  let v1015 : BitVec 1 := Scalar.cmpi .eq v570 c0_i32_1039
  let v1016 : BitVec 32 := Scalar.extui v1015
  let c0_i32_1040 : BitVec 32 := 0#32
  let v1017 : BitVec 1 := Scalar.cmpi .ne v1016 c0_i32_1040
  v1017

def k0_off52 (k0_t5 : Fin k0_t5_loop.trips) : Fin 3 → Nat :=
  let c0_i32_557 : BitVec 32 := 0#32
  let c1_i32_559 : BitVec 32 := 1#32
  let arg20 : BitVec 32 := Scf.iv c0_i32_557 c1_i32_559 k0_t5
  let v1024 : Index := Scalar.indexCast arg20
  let c0_1046 : Index := 0#32
  let c0_1047 : Index := 0#32
  ![v1024.toNat, 0, 0]
def k0_off53 (k0_t5 : Fin k0_t5_loop.trips) : Fin 3 → Nat :=
  let c0_i32_557 : BitVec 32 := 0#32
  let c1_i32_559 : BitVec 32 := 1#32
  let arg20 : BitVec 32 := Scf.iv c0_i32_557 c1_i32_559 k0_t5
  let v1068 : Index := Scalar.indexCast arg20
  let c1024 : Index := 1024#32
  let c0_1058 : Index := 0#32
  ![v1068.toNat, 1024, 0]
def k0_off54 (k0_t5 : Fin k0_t5_loop.trips) : Fin 3 → Nat :=
  let c0_i32_557 : BitVec 32 := 0#32
  let c1_i32_559 : BitVec 32 := 1#32
  let arg20 : BitVec 32 := Scf.iv c0_i32_557 c1_i32_559 k0_t5
  let v1112 : Index := Scalar.indexCast arg20
  let c2048 : Index := 2048#32
  let c0_1070 : Index := 0#32
  ![v1112.toNat, 2048, 0]
def k0_off55 (k0_t5 : Fin k0_t5_loop.trips) : Fin 3 → Nat :=
  let c0_i32_557 : BitVec 32 := 0#32
  let c1_i32_559 : BitVec 32 := 1#32
  let arg20 : BitVec 32 := Scf.iv c0_i32_557 c1_i32_559 k0_t5
  let v1156 : Index := Scalar.indexCast arg20
  let c3072 : Index := 3072#32
  let c0_1082 : Index := 0#32
  ![v1156.toNat, 3072, 0]
def k0_off56 (k0_t5 : Fin k0_t5_loop.trips) : Fin 3 → Nat :=
  let c0_i32_557 : BitVec 32 := 0#32
  let c1_i32_559 : BitVec 32 := 1#32
  let arg20 : BitVec 32 := Scf.iv c0_i32_557 c1_i32_559 k0_t5
  let v1203 : Index := Scalar.indexCast arg20
  let c0_1094 : Index := 0#32
  let c0_1095 : Index := 0#32
  ![v1203.toNat, 0, 0]
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_553 : BitVec 32 := 4#32
  let v568 : BitVec 32 := Scalar.subi v2 c4_i32_553
  let c8_i32_554 : BitVec 32 := 8#32
  let v569 : BitVec 32 := Scalar.addi v568 c8_i32_554
  let c8_i32_555 : BitVec 32 := 8#32
  let v570 : BitVec 32 := Scalar.remsi v569 c8_i32_555
  let c0_i32_1041 : BitVec 32 := 0#32
  let v1018 : BitVec 1 := Scalar.cmpi .ne v570 c0_i32_1041
  let v1019 : BitVec 32 := Scalar.extui v1018
  let c0_i32_1042 : BitVec 32 := 0#32
  let v1020 : BitVec 1 := Scalar.cmpi .ne v1019 c0_i32_1042
  v1020

def k0_off57 (d0 : Dev nD) (k0_t5 : Fin k0_t5_loop.trips) : Fin 3 → Nat :=
  let c0_i32_557 : BitVec 32 := 0#32
  let c1_i32_559 : BitVec 32 := 1#32
  let arg20 : BitVec 32 := Scf.iv c0_i32_557 c1_i32_559 k0_t5
  let v1022 : Index := Scalar.indexCast arg20
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_553 : BitVec 32 := 4#32
  let v568 : BitVec 32 := Scalar.subi v2 c4_i32_553
  let c8_i32_554 : BitVec 32 := 8#32
  let v569 : BitVec 32 := Scalar.addi v568 c8_i32_554
  let c8_i32_555 : BitVec 32 := 8#32
  let v570 : BitVec 32 := Scalar.remsi v569 c8_i32_555
  let c256_i32_556 : BitVec 32 := 256#32
  let v571 : BitVec 32 := Scalar.muli v570 c256_i32_556
  let c128_i32 : BitVec 32 := 128#32
  let v1021 : BitVec 32 := Scalar.subi v571 c128_i32
  let v1023 : Index := Scalar.indexCast v1021
  let c0_1043 : Index := 0#32
  ![v1022.toNat, v1023.toNat, 0]
def k0_off58 (k0_t5 : Fin k0_t5_loop.trips) : Fin 3 → Nat :=
  let c0_i32_557 : BitVec 32 := 0#32
  let c1_i32_559 : BitVec 32 := 1#32
  let arg20 : BitVec 32 := Scf.iv c0_i32_557 c1_i32_559 k0_t5
  let v1039 : Index := Scalar.indexCast arg20
  let c0_1049 : Index := 0#32
  let c0_1050 : Index := 0#32
  ![v1039.toNat, 0, 0]
def k0_off59 (k0_t5 : Fin k0_t5_loop.trips) : Fin 3 → Nat :=
  let c0_i32_557 : BitVec 32 := 0#32
  let c1_i32_559 : BitVec 32 := 1#32
  let arg20 : BitVec 32 := Scf.iv c0_i32_557 c1_i32_559 k0_t5
  let v1085 : Index := Scalar.indexCast arg20
  let c0_1063 : Index := 0#32
  let c0_1064 : Index := 0#32
  ![v1085.toNat, 0, 0]
def k0_dev13 (d0 : Dev nD) : Nat :=
  let c0_i32_651 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_650 : BitVec 32 := 1#32
  let v654 : BitVec 32 := Scalar.muli v4 c1_i32_650
  let v655 : BitVec 32 := Scalar.addi c0_i32_651 v654
  v655.toNat
@[reducible] def k0_t6_loop : Scf.Loop 32 :=
  let c0_i32_660 : BitVec 32 := 0#32
  let c8_i32_661 : BitVec 32 := 8#32
  let v668 : BitVec 32 := Scalar.addi c0_i32_660 c8_i32_661
  let c1_i32_662 : BitVec 32 := 1#32
  ⟨c0_i32_660, v668, c1_i32_662⟩
def k0_off60 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_656 : BitVec 32 := 5#32
  let v664 : BitVec 32 := Scalar.subi v2 c5_i32_656
  let c8_i32_657 : BitVec 32 := 8#32
  let v665 : BitVec 32 := Scalar.addi v664 c8_i32_657
  let c8_i32_658 : BitVec 32 := 8#32
  let v666 : BitVec 32 := Scalar.remsi v665 c8_i32_658
  let c256_i32_659 : BitVec 32 := 256#32
  let v667 : BitVec 32 := Scalar.muli v666 c256_i32_659
  let v1008 : Index := Scalar.indexCast v667
  let c0_1035 : Index := 0#32
  ![v1008.toNat, 0]
def k0_off61 (k0_t6 : Fin k0_t6_loop.trips) : Fin 3 → Nat :=
  let c0_i32_660 : BitVec 32 := 0#32
  let c1_i32_662 : BitVec 32 := 1#32
  let arg20 : BitVec 32 := Scf.iv c0_i32_660 c1_i32_662 k0_t6
  let v1010 : Index := Scalar.indexCast arg20
  let c0_1036 : Index := 0#32
  let c0_1037 : Index := 0#32
  ![v1010.toNat, 0, 0]
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_656 : BitVec 32 := 5#32
  let v664 : BitVec 32 := Scalar.subi v2 c5_i32_656
  let c8_i32_657 : BitVec 32 := 8#32
  let v665 : BitVec 32 := Scalar.addi v664 c8_i32_657
  let c8_i32_658 : BitVec 32 := 8#32
  let v666 : BitVec 32 := Scalar.remsi v665 c8_i32_658
  let c0_i32_1039 : BitVec 32 := 0#32
  let v1015 : BitVec 1 := Scalar.cmpi .eq v666 c0_i32_1039
  let v1016 : BitVec 32 := Scalar.extui v1015
  let c0_i32_1040 : BitVec 32 := 0#32
  let v1017 : BitVec 1 := Scalar.cmpi .ne v1016 c0_i32_1040
  v1017

def k0_off62 (k0_t6 : Fin k0_t6_loop.trips) : Fin 3 → Nat :=
  let c0_i32_660 : BitVec 32 := 0#32
  let c1_i32_662 : BitVec 32 := 1#32
  let arg20 : BitVec 32 := Scf.iv c0_i32_660 c1_i32_662 k0_t6
  let v1024 : Index := Scalar.indexCast arg20
  let c0_1046 : Index := 0#32
  let c0_1047 : Index := 0#32
  ![v1024.toNat, 0, 0]
def k0_off63 (k0_t6 : Fin k0_t6_loop.trips) : Fin 3 → Nat :=
  let c0_i32_660 : BitVec 32 := 0#32
  let c1_i32_662 : BitVec 32 := 1#32
  let arg20 : BitVec 32 := Scf.iv c0_i32_660 c1_i32_662 k0_t6
  let v1068 : Index := Scalar.indexCast arg20
  let c1024 : Index := 1024#32
  let c0_1058 : Index := 0#32
  ![v1068.toNat, 1024, 0]
def k0_off64 (k0_t6 : Fin k0_t6_loop.trips) : Fin 3 → Nat :=
  let c0_i32_660 : BitVec 32 := 0#32
  let c1_i32_662 : BitVec 32 := 1#32
  let arg20 : BitVec 32 := Scf.iv c0_i32_660 c1_i32_662 k0_t6
  let v1112 : Index := Scalar.indexCast arg20
  let c2048 : Index := 2048#32
  let c0_1070 : Index := 0#32
  ![v1112.toNat, 2048, 0]
def k0_off65 (k0_t6 : Fin k0_t6_loop.trips) : Fin 3 → Nat :=
  let c0_i32_660 : BitVec 32 := 0#32
  let c1_i32_662 : BitVec 32 := 1#32
  let arg20 : BitVec 32 := Scf.iv c0_i32_660 c1_i32_662 k0_t6
  let v1156 : Index := Scalar.indexCast arg20
  let c3072 : Index := 3072#32
  let c0_1082 : Index := 0#32
  ![v1156.toNat, 3072, 0]
def k0_off66 (k0_t6 : Fin k0_t6_loop.trips) : Fin 3 → Nat :=
  let c0_i32_660 : BitVec 32 := 0#32
  let c1_i32_662 : BitVec 32 := 1#32
  let arg20 : BitVec 32 := Scf.iv c0_i32_660 c1_i32_662 k0_t6
  let v1203 : Index := Scalar.indexCast arg20
  let c0_1094 : Index := 0#32
  let c0_1095 : Index := 0#32
  ![v1203.toNat, 0, 0]
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_656 : BitVec 32 := 5#32
  let v664 : BitVec 32 := Scalar.subi v2 c5_i32_656
  let c8_i32_657 : BitVec 32 := 8#32
  let v665 : BitVec 32 := Scalar.addi v664 c8_i32_657
  let c8_i32_658 : BitVec 32 := 8#32
  let v666 : BitVec 32 := Scalar.remsi v665 c8_i32_658
  let c0_i32_1041 : BitVec 32 := 0#32
  let v1018 : BitVec 1 := Scalar.cmpi .ne v666 c0_i32_1041
  let v1019 : BitVec 32 := Scalar.extui v1018
  let c0_i32_1042 : BitVec 32 := 0#32
  let v1020 : BitVec 1 := Scalar.cmpi .ne v1019 c0_i32_1042
  v1020

def k0_off67 (d0 : Dev nD) (k0_t6 : Fin k0_t6_loop.trips) : Fin 3 → Nat :=
  let c0_i32_660 : BitVec 32 := 0#32
  let c1_i32_662 : BitVec 32 := 1#32
  let arg20 : BitVec 32 := Scf.iv c0_i32_660 c1_i32_662 k0_t6
  let v1022 : Index := Scalar.indexCast arg20
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_656 : BitVec 32 := 5#32
  let v664 : BitVec 32 := Scalar.subi v2 c5_i32_656
  let c8_i32_657 : BitVec 32 := 8#32
  let v665 : BitVec 32 := Scalar.addi v664 c8_i32_657
  let c8_i32_658 : BitVec 32 := 8#32
  let v666 : BitVec 32 := Scalar.remsi v665 c8_i32_658
  let c256_i32_659 : BitVec 32 := 256#32
  let v667 : BitVec 32 := Scalar.muli v666 c256_i32_659
  let c128_i32 : BitVec 32 := 128#32
  let v1021 : BitVec 32 := Scalar.subi v667 c128_i32
  let v1023 : Index := Scalar.indexCast v1021
  let c0_1043 : Index := 0#32
  ![v1022.toNat, v1023.toNat, 0]
def k0_off68 (k0_t6 : Fin k0_t6_loop.trips) : Fin 3 → Nat :=
  let c0_i32_660 : BitVec 32 := 0#32
  let c1_i32_662 : BitVec 32 := 1#32
  let arg20 : BitVec 32 := Scf.iv c0_i32_660 c1_i32_662 k0_t6
  let v1039 : Index := Scalar.indexCast arg20
  let c0_1049 : Index := 0#32
  let c0_1050 : Index := 0#32
  ![v1039.toNat, 0, 0]
def k0_off69 (k0_t6 : Fin k0_t6_loop.trips) : Fin 3 → Nat :=
  let c0_i32_660 : BitVec 32 := 0#32
  let c1_i32_662 : BitVec 32 := 1#32
  let arg20 : BitVec 32 := Scf.iv c0_i32_660 c1_i32_662 k0_t6
  let v1085 : Index := Scalar.indexCast arg20
  let c0_1063 : Index := 0#32
  let c0_1064 : Index := 0#32
  ![v1085.toNat, 0, 0]
def k0_dev14 (d0 : Dev nD) : Nat :=
  let c0_i32_754 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_753 : BitVec 32 := 1#32
  let v750 : BitVec 32 := Scalar.muli v4 c1_i32_753
  let v751 : BitVec 32 := Scalar.addi c0_i32_754 v750
  v751.toNat
@[reducible] def k0_t7_loop : Scf.Loop 32 :=
  let c0_i32_763 : BitVec 32 := 0#32
  let c8_i32_764 : BitVec 32 := 8#32
  let v764 : BitVec 32 := Scalar.addi c0_i32_763 c8_i32_764
  let c1_i32_765 : BitVec 32 := 1#32
  ⟨c0_i32_763, v764, c1_i32_765⟩
def k0_off70 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_759 : BitVec 32 := 6#32
  let v760 : BitVec 32 := Scalar.subi v2 c6_i32_759
  let c8_i32_760 : BitVec 32 := 8#32
  let v761 : BitVec 32 := Scalar.addi v760 c8_i32_760
  let c8_i32_761 : BitVec 32 := 8#32
  let v762 : BitVec 32 := Scalar.remsi v761 c8_i32_761
  let c256_i32_762 : BitVec 32 := 256#32
  let v763 : BitVec 32 := Scalar.muli v762 c256_i32_762
  let v1008 : Index := Scalar.indexCast v763
  let c0_1035 : Index := 0#32
  ![v1008.toNat, 0]
def k0_off71 (k0_t7 : Fin k0_t7_loop.trips) : Fin 3 → Nat :=
  let c0_i32_763 : BitVec 32 := 0#32
  let c1_i32_765 : BitVec 32 := 1#32
  let arg20 : BitVec 32 := Scf.iv c0_i32_763 c1_i32_765 k0_t7
  let v1010 : Index := Scalar.indexCast arg20
  let c0_1036 : Index := 0#32
  let c0_1037 : Index := 0#32
  ![v1010.toNat, 0, 0]
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_759 : BitVec 32 := 6#32
  let v760 : BitVec 32 := Scalar.subi v2 c6_i32_759
  let c8_i32_760 : BitVec 32 := 8#32
  let v761 : BitVec 32 := Scalar.addi v760 c8_i32_760
  let c8_i32_761 : BitVec 32 := 8#32
  let v762 : BitVec 32 := Scalar.remsi v761 c8_i32_761
  let c0_i32_1039 : BitVec 32 := 0#32
  let v1015 : BitVec 1 := Scalar.cmpi .eq v762 c0_i32_1039
  let v1016 : BitVec 32 := Scalar.extui v1015
  let c0_i32_1040 : BitVec 32 := 0#32
  let v1017 : BitVec 1 := Scalar.cmpi .ne v1016 c0_i32_1040
  v1017

def k0_off72 (k0_t7 : Fin k0_t7_loop.trips) : Fin 3 → Nat :=
  let c0_i32_763 : BitVec 32 := 0#32
  let c1_i32_765 : BitVec 32 := 1#32
  let arg20 : BitVec 32 := Scf.iv c0_i32_763 c1_i32_765 k0_t7
  let v1024 : Index := Scalar.indexCast arg20
  let c0_1046 : Index := 0#32
  let c0_1047 : Index := 0#32
  ![v1024.toNat, 0, 0]
def k0_off73 (k0_t7 : Fin k0_t7_loop.trips) : Fin 3 → Nat :=
  let c0_i32_763 : BitVec 32 := 0#32
  let c1_i32_765 : BitVec 32 := 1#32
  let arg20 : BitVec 32 := Scf.iv c0_i32_763 c1_i32_765 k0_t7
  let v1068 : Index := Scalar.indexCast arg20
  let c1024 : Index := 1024#32
  let c0_1058 : Index := 0#32
  ![v1068.toNat, 1024, 0]
def k0_off74 (k0_t7 : Fin k0_t7_loop.trips) : Fin 3 → Nat :=
  let c0_i32_763 : BitVec 32 := 0#32
  let c1_i32_765 : BitVec 32 := 1#32
  let arg20 : BitVec 32 := Scf.iv c0_i32_763 c1_i32_765 k0_t7
  let v1112 : Index := Scalar.indexCast arg20
  let c2048 : Index := 2048#32
  let c0_1070 : Index := 0#32
  ![v1112.toNat, 2048, 0]
def k0_off75 (k0_t7 : Fin k0_t7_loop.trips) : Fin 3 → Nat :=
  let c0_i32_763 : BitVec 32 := 0#32
  let c1_i32_765 : BitVec 32 := 1#32
  let arg20 : BitVec 32 := Scf.iv c0_i32_763 c1_i32_765 k0_t7
  let v1156 : Index := Scalar.indexCast arg20
  let c3072 : Index := 3072#32
  let c0_1082 : Index := 0#32
  ![v1156.toNat, 3072, 0]
def k0_off76 (k0_t7 : Fin k0_t7_loop.trips) : Fin 3 → Nat :=
  let c0_i32_763 : BitVec 32 := 0#32
  let c1_i32_765 : BitVec 32 := 1#32
  let arg20 : BitVec 32 := Scf.iv c0_i32_763 c1_i32_765 k0_t7
  let v1203 : Index := Scalar.indexCast arg20
  let c0_1094 : Index := 0#32
  let c0_1095 : Index := 0#32
  ![v1203.toNat, 0, 0]
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_759 : BitVec 32 := 6#32
  let v760 : BitVec 32 := Scalar.subi v2 c6_i32_759
  let c8_i32_760 : BitVec 32 := 8#32
  let v761 : BitVec 32 := Scalar.addi v760 c8_i32_760
  let c8_i32_761 : BitVec 32 := 8#32
  let v762 : BitVec 32 := Scalar.remsi v761 c8_i32_761
  let c0_i32_1041 : BitVec 32 := 0#32
  let v1018 : BitVec 1 := Scalar.cmpi .ne v762 c0_i32_1041
  let v1019 : BitVec 32 := Scalar.extui v1018
  let c0_i32_1042 : BitVec 32 := 0#32
  let v1020 : BitVec 1 := Scalar.cmpi .ne v1019 c0_i32_1042
  v1020

def k0_off77 (d0 : Dev nD) (k0_t7 : Fin k0_t7_loop.trips) : Fin 3 → Nat :=
  let c0_i32_763 : BitVec 32 := 0#32
  let c1_i32_765 : BitVec 32 := 1#32
  let arg20 : BitVec 32 := Scf.iv c0_i32_763 c1_i32_765 k0_t7
  let v1022 : Index := Scalar.indexCast arg20
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_759 : BitVec 32 := 6#32
  let v760 : BitVec 32 := Scalar.subi v2 c6_i32_759
  let c8_i32_760 : BitVec 32 := 8#32
  let v761 : BitVec 32 := Scalar.addi v760 c8_i32_760
  let c8_i32_761 : BitVec 32 := 8#32
  let v762 : BitVec 32 := Scalar.remsi v761 c8_i32_761
  let c256_i32_762 : BitVec 32 := 256#32
  let v763 : BitVec 32 := Scalar.muli v762 c256_i32_762
  let c128_i32 : BitVec 32 := 128#32
  let v1021 : BitVec 32 := Scalar.subi v763 c128_i32
  let v1023 : Index := Scalar.indexCast v1021
  let c0_1043 : Index := 0#32
  ![v1022.toNat, v1023.toNat, 0]
def k0_off78 (k0_t7 : Fin k0_t7_loop.trips) : Fin 3 → Nat :=
  let c0_i32_763 : BitVec 32 := 0#32
  let c1_i32_765 : BitVec 32 := 1#32
  let arg20 : BitVec 32 := Scf.iv c0_i32_763 c1_i32_765 k0_t7
  let v1039 : Index := Scalar.indexCast arg20
  let c0_1049 : Index := 0#32
  let c0_1050 : Index := 0#32
  ![v1039.toNat, 0, 0]
def k0_off79 (k0_t7 : Fin k0_t7_loop.trips) : Fin 3 → Nat :=
  let c0_i32_763 : BitVec 32 := 0#32
  let c1_i32_765 : BitVec 32 := 1#32
  let arg20 : BitVec 32 := Scf.iv c0_i32_763 c1_i32_765 k0_t7
  let v1085 : Index := Scalar.indexCast arg20
  let c0_1063 : Index := 0#32
  let c0_1064 : Index := 0#32
  ![v1085.toNat, 0, 0]
def k0_dev15 (d0 : Dev nD) : Nat :=
  let c0_i32_857 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_856 : BitVec 32 := 1#32
  let v846 : BitVec 32 := Scalar.muli v4 c1_i32_856
  let v847 : BitVec 32 := Scalar.addi c0_i32_857 v846
  v847.toNat
@[reducible] def k0_t8_loop : Scf.Loop 32 :=
  let c0_i32_866 : BitVec 32 := 0#32
  let c8_i32_867 : BitVec 32 := 8#32
  let v860 : BitVec 32 := Scalar.addi c0_i32_866 c8_i32_867
  let c1_i32_868 : BitVec 32 := 1#32
  ⟨c0_i32_866, v860, c1_i32_868⟩
def k0_off80 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_862 : BitVec 32 := 7#32
  let v856 : BitVec 32 := Scalar.subi v2 c7_i32_862
  let c8_i32_863 : BitVec 32 := 8#32
  let v857 : BitVec 32 := Scalar.addi v856 c8_i32_863
  let c8_i32_864 : BitVec 32 := 8#32
  let v858 : BitVec 32 := Scalar.remsi v857 c8_i32_864
  let c256_i32_865 : BitVec 32 := 256#32
  let v859 : BitVec 32 := Scalar.muli v858 c256_i32_865
  let v1008 : Index := Scalar.indexCast v859
  let c0_1035 : Index := 0#32
  ![v1008.toNat, 0]
def k0_off81 (k0_t8 : Fin k0_t8_loop.trips) : Fin 3 → Nat :=
  let c0_i32_866 : BitVec 32 := 0#32
  let c1_i32_868 : BitVec 32 := 1#32
  let arg20 : BitVec 32 := Scf.iv c0_i32_866 c1_i32_868 k0_t8
  let v1010 : Index := Scalar.indexCast arg20
  let c0_1036 : Index := 0#32
  let c0_1037 : Index := 0#32
  ![v1010.toNat, 0, 0]
def k0_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_862 : BitVec 32 := 7#32
  let v856 : BitVec 32 := Scalar.subi v2 c7_i32_862
  let c8_i32_863 : BitVec 32 := 8#32
  let v857 : BitVec 32 := Scalar.addi v856 c8_i32_863
  let c8_i32_864 : BitVec 32 := 8#32
  let v858 : BitVec 32 := Scalar.remsi v857 c8_i32_864
  let c0_i32_1039 : BitVec 32 := 0#32
  let v1015 : BitVec 1 := Scalar.cmpi .eq v858 c0_i32_1039
  let v1016 : BitVec 32 := Scalar.extui v1015
  let c0_i32_1040 : BitVec 32 := 0#32
  let v1017 : BitVec 1 := Scalar.cmpi .ne v1016 c0_i32_1040
  v1017

def k0_off82 (k0_t8 : Fin k0_t8_loop.trips) : Fin 3 → Nat :=
  let c0_i32_866 : BitVec 32 := 0#32
  let c1_i32_868 : BitVec 32 := 1#32
  let arg20 : BitVec 32 := Scf.iv c0_i32_866 c1_i32_868 k0_t8
  let v1024 : Index := Scalar.indexCast arg20
  let c0_1046 : Index := 0#32
  let c0_1047 : Index := 0#32
  ![v1024.toNat, 0, 0]
def k0_off83 (k0_t8 : Fin k0_t8_loop.trips) : Fin 3 → Nat :=
  let c0_i32_866 : BitVec 32 := 0#32
  let c1_i32_868 : BitVec 32 := 1#32
  let arg20 : BitVec 32 := Scf.iv c0_i32_866 c1_i32_868 k0_t8
  let v1068 : Index := Scalar.indexCast arg20
  let c1024 : Index := 1024#32
  let c0_1058 : Index := 0#32
  ![v1068.toNat, 1024, 0]
def k0_off84 (k0_t8 : Fin k0_t8_loop.trips) : Fin 3 → Nat :=
  let c0_i32_866 : BitVec 32 := 0#32
  let c1_i32_868 : BitVec 32 := 1#32
  let arg20 : BitVec 32 := Scf.iv c0_i32_866 c1_i32_868 k0_t8
  let v1112 : Index := Scalar.indexCast arg20
  let c2048 : Index := 2048#32
  let c0_1070 : Index := 0#32
  ![v1112.toNat, 2048, 0]
def k0_off85 (k0_t8 : Fin k0_t8_loop.trips) : Fin 3 → Nat :=
  let c0_i32_866 : BitVec 32 := 0#32
  let c1_i32_868 : BitVec 32 := 1#32
  let arg20 : BitVec 32 := Scf.iv c0_i32_866 c1_i32_868 k0_t8
  let v1156 : Index := Scalar.indexCast arg20
  let c3072 : Index := 3072#32
  let c0_1082 : Index := 0#32
  ![v1156.toNat, 3072, 0]
def k0_off86 (k0_t8 : Fin k0_t8_loop.trips) : Fin 3 → Nat :=
  let c0_i32_866 : BitVec 32 := 0#32
  let c1_i32_868 : BitVec 32 := 1#32
  let arg20 : BitVec 32 := Scf.iv c0_i32_866 c1_i32_868 k0_t8
  let v1203 : Index := Scalar.indexCast arg20
  let c0_1094 : Index := 0#32
  let c0_1095 : Index := 0#32
  ![v1203.toNat, 0, 0]
def k0_cond16 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_862 : BitVec 32 := 7#32
  let v856 : BitVec 32 := Scalar.subi v2 c7_i32_862
  let c8_i32_863 : BitVec 32 := 8#32
  let v857 : BitVec 32 := Scalar.addi v856 c8_i32_863
  let c8_i32_864 : BitVec 32 := 8#32
  let v858 : BitVec 32 := Scalar.remsi v857 c8_i32_864
  let c0_i32_1041 : BitVec 32 := 0#32
  let v1018 : BitVec 1 := Scalar.cmpi .ne v858 c0_i32_1041
  let v1019 : BitVec 32 := Scalar.extui v1018
  let c0_i32_1042 : BitVec 32 := 0#32
  let v1020 : BitVec 1 := Scalar.cmpi .ne v1019 c0_i32_1042
  v1020

def k0_off87 (d0 : Dev nD) (k0_t8 : Fin k0_t8_loop.trips) : Fin 3 → Nat :=
  let c0_i32_866 : BitVec 32 := 0#32
  let c1_i32_868 : BitVec 32 := 1#32
  let arg20 : BitVec 32 := Scf.iv c0_i32_866 c1_i32_868 k0_t8
  let v1022 : Index := Scalar.indexCast arg20
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_862 : BitVec 32 := 7#32
  let v856 : BitVec 32 := Scalar.subi v2 c7_i32_862
  let c8_i32_863 : BitVec 32 := 8#32
  let v857 : BitVec 32 := Scalar.addi v856 c8_i32_863
  let c8_i32_864 : BitVec 32 := 8#32
  let v858 : BitVec 32 := Scalar.remsi v857 c8_i32_864
  let c256_i32_865 : BitVec 32 := 256#32
  let v859 : BitVec 32 := Scalar.muli v858 c256_i32_865
  let c128_i32 : BitVec 32 := 128#32
  let v1021 : BitVec 32 := Scalar.subi v859 c128_i32
  let v1023 : Index := Scalar.indexCast v1021
  let c0_1043 : Index := 0#32
  ![v1022.toNat, v1023.toNat, 0]
def k0_off88 (k0_t8 : Fin k0_t8_loop.trips) : Fin 3 → Nat :=
  let c0_i32_866 : BitVec 32 := 0#32
  let c1_i32_868 : BitVec 32 := 1#32
  let arg20 : BitVec 32 := Scf.iv c0_i32_866 c1_i32_868 k0_t8
  let v1039 : Index := Scalar.indexCast arg20
  let c0_1049 : Index := 0#32
  let c0_1050 : Index := 0#32
  ![v1039.toNat, 0, 0]
def k0_off89 (k0_t8 : Fin k0_t8_loop.trips) : Fin 3 → Nat :=
  let c0_i32_866 : BitVec 32 := 0#32
  let c1_i32_868 : BitVec 32 := 1#32
  let arg20 : BitVec 32 := Scf.iv c0_i32_866 c1_i32_868 k0_t8
  let v1085 : Index := Scalar.indexCast arg20
  let c0_1063 : Index := 0#32
  let c0_1064 : Index := 0#32
  ![v1085.toNat, 0, 0]
def k0_dev16 (d0 : Dev nD) : Nat :=
  let c0_i32_960 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_959 : BitVec 32 := 1#32
  let v942 : BitVec 32 := Scalar.muli v4 c1_i32_959
  let v943 : BitVec 32 := Scalar.addi c0_i32_960 v942
  v943.toNat
def k0_dev17 (d0 : Dev nD) : Nat :=
  let c0_i32_1037_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_2 : BitVec 32 := 8#32
  let v5 : BitVec 32 := Scalar.addi v2 c8_i32_2
  let c1_i32_3 : BitVec 32 := 1#32
  let v6 : BitVec 32 := Scalar.subi v5 c1_i32_3
  let c8_i32_4 : BitVec 32 := 8#32
  let v7 : BitVec 32 := Scalar.remsi v6 c8_i32_4
  let c1_i32_1036_r0 : BitVec 32 := 1#32
  let v1009_r0 : BitVec 32 := Scalar.muli v7 c1_i32_1036_r0
  let v1010_r0 : BitVec 32 := Scalar.addi c0_i32_1037_r0 v1009_r0
  v1010_r0.toNat
def k0_dev18 (d0 : Dev nD) : Nat :=
  let c0_i32_1040_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let v4 : BitVec 32 := Scalar.remsi v3 c8_i32_1
  let c1_i32_1039_r0 : BitVec 32 := 1#32
  let v1011_r0 : BitVec 32 := Scalar.muli v4 c1_i32_1039_r0
  let v1012_r0 : BitVec 32 := Scalar.addi c0_i32_1040_r0 v1011_r0
  v1012_r0.toNat
abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | "s" => some (((Real.sqrt 128)⁻¹ : ℝ) : EReal)
  | _ => none
-- ==== ReferenceIdeal.lean ====
abbrev S1x2048x1024 : Shape := ⟨3, ![1, 2048, 1024]⟩
abbrev S1024x8192 : Shape := ⟨2, ![1024, 8192]⟩
abbrev S1x4096x64x128 : Shape := ⟨4, ![1, 4096, 64, 128]⟩
abbrev S8192x1024 : Shape := ⟨2, ![8192, 1024]⟩
abbrev S1x2048x8192 : Shape := ⟨3, ![1, 2048, 8192]⟩
abbrev S1x2048x64x128 : Shape := ⟨4, ![1, 2048, 64, 128]⟩
abbrev S2048 : Shape := ⟨1, ![2048]⟩
abbrev S2048x1 : Shape := ⟨2, ![2048, 1]⟩
abbrev S4096 : Shape := ⟨1, ![4096]⟩
abbrev S1x4096 : Shape := ⟨2, ![1, 4096]⟩
abbrev S2048x4096 : Shape := ⟨2, ![2048, 4096]⟩
abbrev S_ : Shape := ⟨0, ![]⟩
abbrev S1x64x2048x4096 : Shape := ⟨4, ![1, 64, 2048, 4096]⟩
abbrev S1x1x2048x4096 : Shape := ⟨4, ![1, 1, 2048, 4096]⟩
abbrev S1x64x2048 : Shape := ⟨3, ![1, 64, 2048]⟩
abbrev S1x64x2048x1 : Shape := ⟨4, ![1, 64, 2048, 1]⟩
abbrev S1x1x2048x1 : Shape := ⟨4, ![1, 1, 2048, 1]⟩
abbrev S1x64x128x2048 : Shape := ⟨4, ![1, 64, 128, 2048]⟩

abbrev nBuf : Space → Nat
  | .hbm => 68
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024x8192, .f32⟩
  | .hbm, ⟨2, _⟩ => ⟨S1x4096x64x128, .f32⟩
  | .hbm, ⟨3, _⟩ => ⟨S1x4096x64x128, .f32⟩
  | .hbm, ⟨4, _⟩ => ⟨S8192x1024, .f32⟩
  | .hbm, ⟨5, _⟩ => ⟨S1x2048x8192, .f32⟩
  | .hbm, ⟨6, _⟩ => ⟨S1x2048x64x128, .f32⟩
  | .hbm, ⟨7, _⟩ => ⟨S2048, .i32⟩
  | .hbm, ⟨8, _⟩ => ⟨S2048x1, .i32⟩
  | .hbm, ⟨9, _⟩ => ⟨S4096, .i32⟩
  | .hbm, ⟨10, _⟩ => ⟨S1x4096, .i32⟩
  | .hbm, ⟨11, _⟩ => ⟨S2048x4096, .i32⟩
  | .hbm, ⟨12, _⟩ => ⟨S2048x4096, .i32⟩
  | .hbm, ⟨13, _⟩ => ⟨S2048x4096, .i32⟩
  | .hbm, ⟨14, _⟩ => ⟨S2048x4096, .i32⟩
  | .hbm, ⟨15, _⟩ => ⟨S_, .i32⟩
  | .hbm, ⟨16, _⟩ => ⟨S2048x4096, .i32⟩
  | .hbm, ⟨17, _⟩ => ⟨S2048x4096, .i1⟩
  | .hbm, ⟨18, _⟩ => ⟨S_, .i32⟩
  | .hbm, ⟨19, _⟩ => ⟨S1x4096, .i32⟩
  | .hbm, ⟨20, _⟩ => ⟨S1x4096, .i1⟩
  | .hbm, ⟨21, _⟩ => ⟨S_, .i32⟩
  | .hbm, ⟨22, _⟩ => ⟨S2048x1, .i32⟩
  | .hbm, ⟨23, _⟩ => ⟨S2048x1, .i1⟩
  | .hbm, ⟨24, _⟩ => ⟨S2048x4096, .i1⟩
  | .hbm, ⟨25, _⟩ => ⟨S2048x4096, .i1⟩
  | .hbm, ⟨26, _⟩ => ⟨S2048x4096, .i1⟩
  | .hbm, ⟨27, _⟩ => ⟨S2048x4096, .i1⟩
  | .hbm, ⟨28, _⟩ => ⟨S1x64x2048x4096, .f32⟩
  | .hbm, ⟨29, _⟩ => ⟨S_, .f32⟩
  | .hbm, ⟨30, _⟩ => ⟨S_, .f32⟩
  | .hbm, ⟨31, _⟩ => ⟨S1x64x2048x4096, .f32⟩
  | .hbm, ⟨32, _⟩ => ⟨S1x64x2048x4096, .f32⟩
  | .hbm, ⟨33, _⟩ => ⟨S1x1x2048x4096, .i1⟩
  | .hbm, ⟨34, _⟩ => ⟨S_, .f32⟩
  | .hbm, ⟨35, _⟩ => ⟨S_, .f32⟩
  | .hbm, ⟨36, _⟩ => ⟨S1x64x2048x4096, .i1⟩
  | .hbm, ⟨37, _⟩ => ⟨S1x64x2048x4096, .f32⟩
  | .hbm, ⟨38, _⟩ => ⟨S1x64x2048x4096, .f32⟩
  | .hbm, ⟨39, _⟩ => ⟨S_, .f32⟩
  | .hbm, ⟨40, _⟩ => ⟨S1x64x2048, .f32⟩
  | .hbm, ⟨41, _⟩ => ⟨S1x64x2048x1, .f32⟩
  | .hbm, ⟨42, _⟩ => ⟨S1x64x2048x4096, .f32⟩
  | .hbm, ⟨43, _⟩ => ⟨S1x64x2048x4096, .f32⟩
  | .hbm, ⟨44, _⟩ => ⟨S1x64x2048x4096, .f32⟩
  | .hbm, ⟨45, _⟩ => ⟨S_, .i1⟩
  | .hbm, ⟨46, _⟩ => ⟨S2048, .i1⟩
  | .hbm, ⟨47, _⟩ => ⟨S1x1x2048x1, .i1⟩
  | .hbm, ⟨48, _⟩ => ⟨S_, .f32⟩
  | .hbm, ⟨49, _⟩ => ⟨S1x64x2048, .f32⟩
  | .hbm, ⟨50, _⟩ => ⟨S1x64x2048x1, .f32⟩
  | .hbm, ⟨51, _⟩ => ⟨S_, .f32⟩
  | .hbm, ⟨52, _⟩ => ⟨S_, .f32⟩
  | .hbm, ⟨53, _⟩ => ⟨S1x64x2048x1, .i1⟩
  | .hbm, ⟨54, _⟩ => ⟨S1x64x2048x1, .f32⟩
  | .hbm, ⟨55, _⟩ => ⟨S1x64x2048x1, .f32⟩
  | .hbm, ⟨56, _⟩ => ⟨S1x64x2048x4096, .f32⟩
  | .hbm, ⟨57, _⟩ => ⟨S1x64x2048x4096, .f32⟩
  | .hbm, ⟨58, _⟩ => ⟨S1x1x2048x1, .i1⟩
  | .hbm, ⟨59, _⟩ => ⟨S_, .f32⟩
  | .hbm, ⟨60, _⟩ => ⟨S_, .f32⟩
  | .hbm, ⟨61, _⟩ => ⟨S1x64x2048x4096, .i1⟩
  | .hbm, ⟨62, _⟩ => ⟨S1x64x2048x4096, .f32⟩
  | .hbm, ⟨63, _⟩ => ⟨S1x64x2048x4096, .f32⟩
  | .hbm, ⟨64, _⟩ => ⟨S1x64x128x2048, .f32⟩
  | .hbm, ⟨65, _⟩ => ⟨S1x2048x64x128, .f32⟩
  | .hbm, ⟨66, _⟩ => ⟨S1x2048x8192, .f32⟩
  | .hbm, ⟨67, _⟩ => ⟨S1x2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_4 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩

abbrev nD : Nat := 1
abbrev τ : Topo := Topo.v7x

variable {F : FTy → Type} [FloatOps F]
-- ==== Proof.Pieces.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Points
public import Idealize.ShloMosaic.Lib.Tactic

@[expose] public section

noncomputable section

namespace Cert.KernelIdeal

open Cert.KernelIdeal.Gen
open Idealize.ShloMosaic Idealize.ShloMosaic.TcCoe Idealize.ShloMosaic.Tactic
open Idealize.SL Idealize.SL.Sem

variable {F : FTy → Type} [FloatOps F] [Named F]

/-! ## The kernel's program in pieces

The body is written once more as a sequence of a few kinds of steps, each of them one definition that takes the rest of
the program as its last argument. A stage of the kernel appears in it as the same definitions at another chunk. -/

/-- A kernel program without a result. -/
abbrev PU (F : FTy → Type) [FloatOps F] [Named F] := Prog (TpuEff nD τ sig (Elt F) Λ₀ .tc) PUnit

/-! ### The buffers -/

abbrev xStg : Memref sig .tc .vmem S256x1024 .bf16 := Memref.whole cc0_stg0_0
abbrev wqM : Memref sig .tc .vmem S8x1024x128 .bf16 := Memref.whole cc0_stg1_0
abbrev woM : Memref sig .tc .vmem S8x128x1024 .bf16 := Memref.whole cc0_stg2_0
abbrev outM : Memref sig .tc .vmem S256x1024 .f32 := Memref.whole cc0_stg3_0
abbrev kH : Memref sig .tc .hbm S4096x64x128 .f32 := Memref.whole main_v8
abbrev vH : Memref sig .tc .hbm S4096x64x128 .f32 := Memref.whole main_v9
abbrev xM : Memref sig .tc .vmem S2048x1024 .bf16 := Memref.whole cc0_scratch0
abbrev pM : Memref sig .tc .vmem S2048x1024 .f32 := Memref.whole cc0_scratch1
abbrev sM : Memref sig .tc .vmem S2x256x1024 .bf16 := Memref.whole cc0_scratch2
abbrev rM : Memref sig .tc .vmem S7x256x1024 .bf16 := Memref.whole cc0_scratch3
abbrev kM : Memref sig .tc .vmem S8x4096x128 .f32 := Memref.whole cc0_scratch4
abbrev vM : Memref sig .tc .vmem S8x4096x128 .f32 := Memref.whole cc0_scratch5
abbrev cM : Memref sig .tc .vmem S8x256x128 .bf16 := Memref.whole cc0_scratch6

/-- The `n`-th of the device's transfer semaphores. -/
abbrev dq (n : ℕ) (h : n < 48 := by decide) : DmaSem sig := ⟨n, h⟩

/-- A chunk of 256 rows of the gathered input. -/
abbrev xS (o : Fin 2 → ℕ) (i : ∀ a, o a + S256x1024.size a ≤ S2048x1024.size a) : Memref sig .tc .vmem S256x1024 .bf16 :=
  xM.slice (Rect.unit (s := S2048x1024) o S256x1024.size i) (fun _ => rfl)
/-- A head's keys, or values, in the device's own memory. -/
abbrev kvS (m : Memref sig .tc .vmem S8x4096x128 .f32) (o : Fin 3 → ℕ) (i : ∀ a, o a + S1x4096x128.size a ≤ S8x4096x128.size a) :
    Memref sig .tc .vmem S4096x128 .f32 :=
  (m.slice (Rect.unit (s := S8x4096x128) o S1x4096x128.size i) (fun _ => rfl)).squeeze S4096x128 squeezes_S1x4096x128_S4096x128
/-- A head's keys, or values, among all heads'. -/
abbrev kvH (m : Memref sig .tc .hbm S4096x64x128 .f32) (o : Fin 3 → ℕ) (i : ∀ a, o a + S4096x1x128.size a ≤ S4096x64x128.size a) :
    Memref sig .tc .hbm S4096x128 .f32 :=
  (m.slice (Rect.unit (s := S4096x64x128) o S4096x1x128.size i) (fun _ => rfl)).squeeze S4096x128 squeezes_S4096x1x128_S4096x128
/-- A block of the send buffer, as a slice of the buffer and as a matrix. -/
abbrev sB (o : Fin 3 → ℕ) (i : ∀ a, o a + S1x256x1024.size a ≤ S2x256x1024.size a) : Memref sig .tc .vmem S1x256x1024 .bf16 :=
  sM.slice (Rect.unit (s := S2x256x1024) o S1x256x1024.size i) (fun _ => rfl)
abbrev sQ (o : Fin 3 → ℕ) (i : ∀ a, o a + S1x256x1024.size a ≤ S2x256x1024.size a) : Memref sig .tc .vmem S256x1024 .bf16 :=
  (sB o i).squeeze S256x1024 squeezes_S1x256x1024_S256x1024
/-- A block of the receive buffer, as a slice of the buffer and as a matrix. -/
abbrev rB (o : Fin 3 → ℕ) (i : ∀ a, o a + S1x256x1024.size a ≤ S7x256x1024.size a) : Memref sig .tc .vmem S1x256x1024 .bf16 :=
  rM.slice (Rect.unit (s := S7x256x1024) o S1x256x1024.size i) (fun _ => rfl)
abbrev rQ (o : Fin 3 → ℕ) (i : ∀ a, o a + S1x256x1024.size a ≤ S7x256x1024.size a) : Memref sig .tc .vmem S256x1024 .bf16 :=
  (rB o i).squeeze S256x1024 squeezes_S1x256x1024_S256x1024

/-! ### The values -/

/-- The queries of one head on one chunk. -/
def qOf (x : Vec F S256x1024 .bf16) (w : Vec F S1x1024x128 .bf16) : FVec F S256x128 .bf16 := k0_pay233 x w

/-- One head's result on the first chunk, whose rows see every key: the running softmax over four blocks of keys. -/
def fullOf (q : FVec F S256x128 .bf16) (k0 k1 k2 k3 v0 v1 v2 v3 : Vec F S1x1024x128 .f32) : FVec F S1x256x128 .bf16 :=
  let m0 := k0_pay31 q k0
  let w0 := k0_pay33 q k0
  let m1 := k0_pay38 q m0 k1
  let w1 := k0_pay40 q m0 k1
  let d1 := k0_pay41 q m0 (k0_pay34 q k0) k1
  let a1 := k0_pay42 q m0 w0 (k0_pay35 q k0) (k0_pay36 v0) k1
  let m2 := k0_pay45 q m1 k2
  let d2 := k0_pay48 q m1 d1 k2
  let a2 := k0_pay49 q m1 w1 a1 (k0_pay43 v1) (constant S256x128 .f32 0x00000000#32) k2 v2
  k0_pay234 (k0_pay50 q m2 d2 a2 k3 v3)

/-- One head's result on a later chunk: a softmax over a window of keys and the first keys. -/
def winOf (q : FVec F S256x128 .bf16) (kw : Vec F S1x1024x128 .f32) (k0 : Vec F S1x256x128 .f32) (vw : Vec F S1x1024x128 .f32)
    (v0 : Vec F S1x256x128 .f32) : FVec F S1x256x128 .bf16 :=
  k0_pay235 (k0_pay54 q kw k0) (k0_pay55 q kw k0) (k0_pay56 q kw k0) vw v0

/-- The product of eight heads' results with their rows of the output matrix. -/
def proj16 (c0 : Vec F S1x256x128 .bf16) (w0 : Vec F S1x128x1024 .bf16) (c1 : Vec F S1x256x128 .bf16) (w1 : Vec F S1x128x1024 .bf16)
    (c2 : Vec F S1x256x128 .bf16) (w2 : Vec F S1x128x1024 .bf16) (c3 : Vec F S1x256x128 .bf16) (w3 : Vec F S1x128x1024 .bf16)
    (c4 : Vec F S1x256x128 .bf16) (w4 : Vec F S1x128x1024 .bf16) (c5 : Vec F S1x256x128 .bf16) (w5 : Vec F S1x128x1024 .bf16)
    (c6 : Vec F S1x256x128 .bf16) (w6 : Vec F S1x128x1024 .bf16) (c7 : Vec F S1x256x128 .bf16) (w7 : Vec F S1x128x1024 .bf16) :
    FVec F S256x1024 .f32 :=
  k0_pay232 (k0_pay231 (k0_pay229 c0 w0) (k0_pay230 c1) w1 c2 w2 c3 w3 c4 w4 c5 w5) c6 w6 c7 w7

/-- The same, of two families. -/
def projOf (c : Fin 8 → Vec F S1x256x128 .bf16) (w : Fin 8 → Vec F S1x128x1024 .bf16) : FVec F S256x1024 .f32 :=
  proj16 (c 0) (w 0) (c 1) (w 1) (c 2) (w 2) (c 3) (w 3) (c 4) (w 4) (c 5) (w 5) (c 6) (w 6) (c 7) (w 7)

/-! ### The steps -/

/-- One head's keys, or values, are fetched. -/
def kvCopy (src : Memref sig .tc .hbm S4096x64x128 .f32) (dst : Memref sig .tc .vmem S8x4096x128 .f32) (q : DmaSem sig)
    (o : Fin 3 → ℕ) (i : ∀ a, o a + S1x4096x128.size a ≤ S8x4096x128.size a)
    (o' : Fin 3 → ℕ) (i' : ∀ a, o' a + S4096x1x128.size a ≤ S4096x64x128.size a) (k : PU F) : PU F :=
  Prog.op (.enqueueDma (kvH src o' i') (.here (kvS dst o i)) (.dma q) ((View.wordExact_bits rfl).reshape _ _) ((View.wordExact_bits rfl).reshape _ _)
    ⟨Or.inl rfl, trivial⟩) fun _ => k

/-- The fetch of one head's keys, or values, is waited for. -/
def kvWait (src : Memref sig .tc .hbm S4096x64x128 .f32) (dst : Memref sig .tc .vmem S8x4096x128 .f32) (q : DmaSem sig)
    (o : Fin 3 → ℕ) (i : ∀ a, o a + S1x4096x128.size a ≤ S8x4096x128.size a)
    (o' : Fin 3 → ℕ) (i' : ∀ a, o' a + S4096x1x128.size a ≤ S4096x64x128.size a) (k : PU F) : PU F :=
  Prog.op (.waitDma2 q (kvH src o' i') (kvS dst o i) ((View.wordExact_bits rfl).reshape _ _) ((View.wordExact_bits rfl).reshape _ _)) fun _ => k

/-- A chunk of the gathered input is sent to a neighbour. -/
def xSend (d : Dev nD) (qs qr : DmaSem sig) (o : Fin 2 → ℕ) (i : ∀ a, o a + S256x1024.size a ≤ S2048x1024.size a)
    (h : (xS o i).view.WordExact) (k : PU F) : PU F :=
  Prog.op (.enqueueDma (xS o i) (.remote (Dev.tc d) (xS o i) (.dma qs)) (.dma qr) h h ⟨⟨rfl, Or.inl rfl⟩, trivial⟩) fun _ => k

/-- A transfer of a chunk of the gathered input is waited for, at its receiver or at its sender. -/
def xWait (q : DmaSem sig) (o : Fin 2 → ℕ) (i : ∀ a, o a + S256x1024.size a ≤ S2048x1024.size a) (h : (xS o i).view.WordExact)
    (k : PU F) : PU F :=
  Prog.op (.waitDma2 q (xS o i) (xS o i) h h) fun _ => k

/-- The meeting with both neighbours. -/
def meet (s : Sem sig) (d e : Dev nD) (k : PU F) : PU F :=
  Prog.op (.semSignal (Dev.tc d) s 1) fun _ => Prog.op (.semSignal (Dev.tc e) s 1) fun _ => Prog.op (.semWait s 2) fun _ => k

/-- The device's own rows enter the gathered input. -/
def ownRows (o : Fin 2 → ℕ) (i : ∀ a, o a + S256x1024.size a ≤ S2048x1024.size a)
    (h : (xM.access (Rect.unit (s := S2048x1024) o S256x1024.size i)).Stores Finset.univ) (k : PU F) : PU F :=
  Prog.op (.load xStg (Rect.unit (s := S256x1024) ![0, 0] S256x1024.size inb_S256x1024_S256x1024_0_0).toLoadRect (View.loadsAt_vmem h_S256x1024)) fun x =>
  Prog.op (.load xM (Rect.unit (s := S2048x1024) o S256x1024.size i).toLoadRect (View.loadsAt_vmem h_S256x1024)) fun _ =>
  Prog.op (.store xM (Rect.unit (s := S2048x1024) o S256x1024.size i) (k0_pay225 x) Finset.univ h (.inl rfl)) fun _ => k

/-- A block of a head's keys or values is loaded. -/
def kvLoad (m : Memref sig .tc .vmem S8x4096x128 .f32) (o : Fin 3 → ℕ) (i : ∀ a, o a + S1x1024x128.size a ≤ S8x4096x128.size a)
    (k : Vec F S1x1024x128 .f32 → PU F) : PU F :=
  Prog.op (.load m (Rect.unit (s := S8x4096x128) o S1x1024x128.size i).toLoadRect (View.loadsAt_vmem h_S1x1024x128)) k

/-- The first keys, or values, of a head are loaded. -/
def kvFirst (m : Memref sig .tc .vmem S8x4096x128 .f32) (o : Fin 3 → ℕ) (i : ∀ a, o a + S1x256x128.size a ≤ S8x4096x128.size a)
    (k : Vec F S1x256x128 .f32 → PU F) : PU F :=
  Prog.op (.load m (Rect.unit (s := S8x4096x128) o S1x256x128.size i).toLoadRect (View.loadsAt_vmem h_S1x256x128)) k

theorem off22_inb (t : Fin k0_t2_loop.trips) : ∀ a, (k0_off22 t) a + S1x1024x128.size a ≤ S8x4096x128.size a := by revert t; decide +kernel
theorem off23_inb (t : Fin k0_t2_loop.trips) : ∀ a, (k0_off23 t) a + S1x1024x128.size a ≤ S8x4096x128.size a := by revert t; decide +kernel
theorem off24_inb (t : Fin k0_t2_loop.trips) : ∀ a, (k0_off24 t) a + S1x1024x128.size a ≤ S8x4096x128.size a := by revert t; decide +kernel
theorem off25_inb (t : Fin k0_t2_loop.trips) : ∀ a, (k0_off25 t) a + S1x1024x128.size a ≤ S8x4096x128.size a := by revert t; decide +kernel
theorem off28_inb (t : Fin k0_t2_loop.trips) : ∀ a, (k0_off28 t) a + S1x256x128.size a ≤ S8x4096x128.size a := by revert t; decide +kernel
theorem off26_inb (t : Fin k0_t2_loop.trips) : ∀ a, (k0_off26 t) a + S1x256x128.size a ≤ S8x256x128.size a := by revert t; decide +kernel
theorem off26_packed (t : Fin k0_t2_loop.trips) :
    (Rect.unit (s := S8x256x128) (k0_off26 t) S1x256x128.size (off26_inb t)).PackedRows (EltTy.packing .bf16) := by revert t; decide +kernel

/-- A head's result is written over what was there. -/
def ctxPut (o : Fin 3 → ℕ) (i : ∀ a, o a + S1x256x128.size a ≤ S8x256x128.size a)
    (h : (cM.access (Rect.unit (s := S8x256x128) o S1x256x128.size i)).Stores Finset.univ) (w : Vec F S1x256x128 .bf16) (k : PU F) : PU F :=
  Prog.op (.load cM (Rect.unit (s := S8x256x128) o S1x256x128.size i).toLoadRect (View.loadsAt_vmem h_S1x256x128)) fun _ =>
  Prog.op (.store cM (Rect.unit (s := S8x256x128) o S1x256x128.size i) w Finset.univ h (.inl rfl)) fun _ => k

/-- One head on the first chunk. -/
def headFull (t : Fin k0_t2_loop.trips) (q : FVec F S256x128 .bf16) (k : PU F) : PU F :=
  kvLoad kM (k0_off22 t) (off22_inb t) fun k0 => kvLoad vM (k0_off22 t) (off22_inb t) fun v0 =>
  kvLoad kM (k0_off23 t) (off23_inb t) fun k1 => kvLoad vM (k0_off23 t) (off23_inb t) fun v1 =>
  kvLoad kM (k0_off24 t) (off24_inb t) fun k2 => kvLoad vM (k0_off24 t) (off24_inb t) fun v2 =>
  kvLoad kM (k0_off25 t) (off25_inb t) fun k3 => kvLoad vM (k0_off25 t) (off25_inb t) fun v3 =>
  ctxPut (k0_off26 t) (off26_inb t)
    (View.stores_vmem h_S1x256x128 ((Memref.isWhole_whole cc0_scratch6).storeExact_slice rfl _ (off26_packed t)) (fun _ => rfl))
    (fullOf q k0 k1 k2 k3 v0 v1 v2 v3) k

/-- One head on a later chunk. -/
def headWin (t : Fin k0_t2_loop.trips) (o : Fin 3 → ℕ) (i : ∀ a, o a + S1x1024x128.size a ≤ S8x4096x128.size a)
    (q : FVec F S256x128 .bf16) (k : PU F) : PU F :=
  kvLoad kM o i fun kw => kvFirst kM (k0_off28 t) (off28_inb t) fun k0 =>
  kvLoad vM o i fun vw => kvFirst vM (k0_off28 t) (off28_inb t) fun v0 =>
  ctxPut (k0_off26 t) (off26_inb t)
    (View.stores_vmem h_S1x256x128 ((Memref.isWhole_whole cc0_scratch6).storeExact_slice rfl _ (off26_packed t)) (fun _ => rfl))
    (winOf q kw k0 vw v0) k

/-- One head on one chunk. -/
def headOne (o : Fin 2 → ℕ) (i : ∀ a, o a + S256x1024.size a ≤ S2048x1024.size a) (cg cw : BitVec 1)
    (oW : Fin k0_t2_loop.trips → Fin 3 → ℕ)
    (iW : ∀ t, cw = 1#1 → ∀ a, oW t a + S1x1024x128.size a ≤ S8x4096x128.size a) (t : Fin k0_t2_loop.trips) : PU F :=
  Prog.op (.load xM (Rect.unit (s := S2048x1024) o S256x1024.size i).toLoadRect (View.loadsAt_vmem h_S256x1024)) fun x =>
  Prog.op (.load wqM (Rect.unit (s := S8x1024x128) (k0_off21 t) S1x1024x128.size (k0_off21_inb t)).toLoadRect (View.loadsAt_vmem h_S1x1024x128)) fun w =>
  if h : cg = 1#1 then headFull t (qOf x w) (if h : cw = 1#1 then headWin t (oW t) (iW t h) (qOf x w) (.ret ⟨⟩) else .ret ⟨⟩)
  else if h : cw = 1#1 then headWin t (oW t) (iW t h) (qOf x w) (.ret ⟨⟩) else .ret ⟨⟩

/-- The eight heads on one chunk. -/
def heads (o : Fin 2 → ℕ) (i : ∀ a, o a + S256x1024.size a ≤ S2048x1024.size a) (cg cw : BitVec 1)
    (oW : Fin k0_t2_loop.trips → Fin 3 → ℕ)
    (iW : ∀ t, cw = 1#1 → ∀ a, oW t a + S1x1024x128.size a ≤ S8x4096x128.size a) (k : PU F) : PU F :=
  (Scf.Loop.for k0_t2_loop k0_t2_ok ⟨⟩ fun t _ => headOne o i cg cw oW iW t).bind fun _ => k

/-- The semaphore of a head's keys, and the one of its values. -/
abbrev kSem (t : Fin k0_t1_loop.trips) : DmaSem sig :=
  ((cc0_scratch13.slice (Rect.unit (s := S16) (k0_off5 t) S1.size (k0_off5_inb t))).squeeze S_ squeezes_S1_S_).sem
abbrev vSem (t : Fin k0_t1_loop.trips) : DmaSem sig :=
  ((cc0_scratch13.slice (Rect.unit (s := S16) (k0_off8 t) S1.size (k0_off8_inb t))).squeeze S_ squeezes_S1_S_).sem

/-- The eight heads on the device's own chunk: each waits for its keys and values first. -/
def heads0 (d : Dev nD) (o : Fin 2 → ℕ) (i : ∀ a, o a + S256x1024.size a ≤ S2048x1024.size a) (cg cw : BitVec 1)
    (oW : Fin k0_t2_loop.trips → Fin 3 → ℕ)
    (iW : ∀ t, cw = 1#1 → ∀ a, oW t a + S1x1024x128.size a ≤ S8x4096x128.size a) (k : PU F) : PU F :=
  (Scf.Loop.for k0_t2_loop k0_t2_ok ⟨⟩ fun t _ =>
    kvWait kH kM (kSem t) (k0_off6 t) (k0_off6_inb t) (k0_off7 d t) (k0_off7_inb d t) <|
    kvWait vH vM (vSem t) (k0_off6 t) (k0_off6_inb t) (k0_off7 d t) (k0_off7_inb d t) <|
    headOne o i cg cw oW iW t).bind fun _ => k

/-- One head's result and its rows of the output matrix are loaded. -/
def cwLoad (o : Fin 3 → ℕ) (i : ∀ a, o a + S1x256x128.size a ≤ S8x256x128.size a) (i' : ∀ a, o a + S1x128x1024.size a ≤ S8x128x1024.size a)
    (k : Vec F S1x256x128 .bf16 → Vec F S1x128x1024 .bf16 → PU F) : PU F :=
  Prog.op (.load cM (Rect.unit (s := S8x256x128) o S1x256x128.size i).toLoadRect (View.loadsAt_vmem h_S1x256x128)) fun c =>
  Prog.op (.load woM (Rect.unit (s := S8x128x1024) o S1x128x1024.size i').toLoadRect (View.loadsAt_vmem h_S1x128x1024)) fun w => k c w

/-- Rows of the partial sums are loaded. -/
def pLoad (o : Fin 2 → ℕ) (i : ∀ a, o a + S256x1024.size a ≤ S2048x1024.size a) (k : Vec F S256x1024 .f32 → PU F) : PU F :=
  Prog.op (.load pM (Rect.unit (s := S2048x1024) o S256x1024.size i).toLoadRect (View.loadsAt_vmem h_S256x1024)) k

/-- Rows of the partial sums are written over. -/
def pPut (o : Fin 2 → ℕ) (i : ∀ a, o a + S256x1024.size a ≤ S2048x1024.size a) (w : Vec F S256x1024 .f32) (k : PU F) : PU F :=
  pLoad o i fun _ =>
  Prog.op (.store pM (Rect.unit (s := S2048x1024) o S256x1024.size i) w Finset.univ (View.stores_vmem_bits_univ h_S256x1024 rfl) (.inl rfl)) fun _ => k

/-- The heads' results are multiplied into the partial sums' rows. -/
def project (o : Fin 2 → ℕ) (i : ∀ a, o a + S256x1024.size a ≤ S2048x1024.size a) (k : PU F) : PU F :=
  cwLoad ![0, 0, 0] inb_S8x256x128_S1x256x128_0_0_0 inb_S8x128x1024_S1x128x1024_0_0_0 fun c0 w0 =>
  cwLoad ![1, 0, 0] inb_S8x256x128_S1x256x128_1_0_0 inb_S8x128x1024_S1x128x1024_1_0_0 fun c1 w1 =>
  cwLoad ![2, 0, 0] inb_S8x256x128_S1x256x128_2_0_0 inb_S8x128x1024_S1x128x1024_2_0_0 fun c2 w2 =>
  cwLoad ![3, 0, 0] inb_S8x256x128_S1x256x128_3_0_0 inb_S8x128x1024_S1x128x1024_3_0_0 fun c3 w3 =>
  cwLoad ![4, 0, 0] inb_S8x256x128_S1x256x128_4_0_0 inb_S8x128x1024_S1x128x1024_4_0_0 fun c4 w4 =>
  cwLoad ![5, 0, 0] inb_S8x256x128_S1x256x128_5_0_0 inb_S8x128x1024_S1x128x1024_5_0_0 fun c5 w5 =>
  cwLoad ![6, 0, 0] inb_S8x256x128_S1x256x128_6_0_0 inb_S8x128x1024_S1x128x1024_6_0_0 fun c6 w6 =>
  cwLoad ![7, 0, 0] inb_S8x256x128_S1x256x128_7_0_0 inb_S8x128x1024_S1x128x1024_7_0_0 fun c7 w7 =>
  pPut o i (proj16 c0 w0 c1 w1 c2 w2 c3 w3 c4 w4 c5 w5 c6 w6 c7 w7) k

/-- A block of the receive buffer is loaded. -/
def rLoad (o : Fin 3 → ℕ) (i : ∀ a, o a + S1x256x1024.size a ≤ S7x256x1024.size a) (k : Vec F S1x256x1024 .bf16 → PU F) : PU F :=
  Prog.op (.load rM (Rect.unit (s := S7x256x1024) o S1x256x1024.size i).toLoadRect (View.loadsAt_vmem h_S1x256x1024)) k

/-- Rows of the partial sums are narrowed into a block of the send buffer. -/
def sPut (o : Fin 2 → ℕ) (i : ∀ a, o a + S256x1024.size a ≤ S2048x1024.size a)
    (o' : Fin 3 → ℕ) (i' : ∀ a, o' a + S1x256x1024.size a ≤ S2x256x1024.size a)
    (h : (sM.access (Rect.unit (s := S2x256x1024) o' S1x256x1024.size i')).Stores Finset.univ) (k : PU F) : PU F :=
  pLoad o i fun p =>
  Prog.op (.load sM (Rect.unit (s := S2x256x1024) o' S1x256x1024.size i').toLoadRect (View.loadsAt_vmem h_S1x256x1024)) fun _ =>
  Prog.op (.store sM (Rect.unit (s := S2x256x1024) o' S1x256x1024.size i') (k0_pay239 p) Finset.univ h (.inl rfl)) fun _ => k

/-- A block of the send buffer is sent to a block of a neighbour's receive buffer. -/
def rsSend (d : Dev nD) (qs qr : DmaSem sig) (o : Fin 3 → ℕ) (i : ∀ a, o a + S1x256x1024.size a ≤ S2x256x1024.size a)
    (o' : Fin 3 → ℕ) (i' : ∀ a, o' a + S1x256x1024.size a ≤ S7x256x1024.size a)
    (h : (sQ o i).view.WordExact) (h' : (rQ o' i').view.WordExact) (k : PU F) : PU F :=
  Prog.op (.enqueueDma (sQ o i) (.remote (Dev.tc d) (rQ o' i') (.dma qs)) (.dma qr) h h' ⟨⟨rfl, Or.inl rfl⟩, trivial⟩) fun _ => k

/-- The transfer into a block of the receive buffer is waited for. -/
def rsRecv (q : DmaSem sig) (o : Fin 3 → ℕ) (i : ∀ a, o a + S1x256x1024.size a ≤ S2x256x1024.size a)
    (o' : Fin 3 → ℕ) (i' : ∀ a, o' a + S1x256x1024.size a ≤ S7x256x1024.size a)
    (h : (sQ o i).view.WordExact) (h' : (rQ o' i').view.WordExact) (k : PU F) : PU F :=
  Prog.op (.waitDma2 q (sQ o i) (rQ o' i') h h') fun _ => k

/-- The transfer from a block of the send buffer is waited for. -/
def rsSent (q : DmaSem sig) (o : Fin 3 → ℕ) (i : ∀ a, o a + S1x256x1024.size a ≤ S2x256x1024.size a)
    (o' : Fin 3 → ℕ) (i' : ∀ a, o' a + S1x256x1024.size a ≤ S7x256x1024.size a)
    (h : (sQ o i).view.WordExact) (h' : (rQ o' i').view.WordExact) (k : PU F) : PU F :=
  Prog.op (.waitDma2 q (rQ o' i') (sQ o i) h' h) fun _ => k

/-- A received block is added to rows of the partial sums. -/
def addTo (o : Fin 2 → ℕ) (i : ∀ a, o a + S256x1024.size a ≤ S2048x1024.size a)
    (o' : Fin 3 → ℕ) (i' : ∀ a, o' a + S1x256x1024.size a ≤ S7x256x1024.size a) (k : PU F) : PU F :=
  pLoad o i fun p => rLoad o' i' fun r => pPut o i (k0_pay248 (k0_pay247 p r)) k

/-- The last received block is added to the device's own rows: the result. -/
def outPut (o : Fin 2 → ℕ) (i : ∀ a, o a + S256x1024.size a ≤ S2048x1024.size a)
    (o' : Fin 3 → ℕ) (i' : ∀ a, o' a + S1x256x1024.size a ≤ S7x256x1024.size a) (k : PU F) : PU F :=
  pLoad o i fun p => rLoad o' i' fun r =>
  Prog.op (.load outM (Rect.unit (s := S256x1024) ![0, 0] S256x1024.size inb_S256x1024_S256x1024_0_0).toLoadRect (View.loadsAt_vmem h_S256x1024)) fun _ =>
  Prog.op (.store outM (Rect.unit (s := S256x1024) ![0, 0] S256x1024.size inb_S256x1024_S256x1024_0_0) (k0_pay297 p r) Finset.univ
    (View.stores_vmem_bits_univ h_S256x1024 rfl) (.inl rfl)) fun _ => k

/-! ### The whole -/

/-- The fetches of the keys and values, the meeting with the neighbours, the device's own rows. -/
def seg0 (d : Dev nD) (k : PU F) : PU F :=
  kvCopy kH kM (dq 32) ![0, 0, 0] inb_S8x4096x128_S1x4096x128_0_0_0 (k0_off1 d 0#32) (k0_off1_inb d 0) <|
  kvCopy vH vM (dq 40) ![0, 0, 0] inb_S8x4096x128_S1x4096x128_0_0_0 (k0_off1 d 0#32) (k0_off1_inb d 0) <|
  kvCopy kH kM (dq 33) ![1, 0, 0] inb_S8x4096x128_S1x4096x128_1_0_0 (k0_off1 d 1#32) (k0_off1_inb d 1) <|
  kvCopy vH vM (dq 41) ![1, 0, 0] inb_S8x4096x128_S1x4096x128_1_0_0 (k0_off1 d 1#32) (k0_off1_inb d 1) <|
  kvCopy kH kM (dq 34) ![2, 0, 0] inb_S8x4096x128_S1x4096x128_2_0_0 (k0_off1 d 2#32) (k0_off1_inb d 2) <|
  kvCopy vH vM (dq 42) ![2, 0, 0] inb_S8x4096x128_S1x4096x128_2_0_0 (k0_off1 d 2#32) (k0_off1_inb d 2) <|
  kvCopy kH kM (dq 35) ![3, 0, 0] inb_S8x4096x128_S1x4096x128_3_0_0 (k0_off1 d 3#32) (k0_off1_inb d 3) <|
  kvCopy vH vM (dq 43) ![3, 0, 0] inb_S8x4096x128_S1x4096x128_3_0_0 (k0_off1 d 3#32) (k0_off1_inb d 3) <|
  kvCopy kH kM (dq 36) ![4, 0, 0] inb_S8x4096x128_S1x4096x128_4_0_0 (k0_off1 d 4#32) (k0_off1_inb d 4) <|
  kvCopy vH vM (dq 44) ![4, 0, 0] inb_S8x4096x128_S1x4096x128_4_0_0 (k0_off1 d 4#32) (k0_off1_inb d 4) <|
  kvCopy kH kM (dq 37) ![5, 0, 0] inb_S8x4096x128_S1x4096x128_5_0_0 (k0_off1 d 5#32) (k0_off1_inb d 5) <|
  kvCopy vH vM (dq 45) ![5, 0, 0] inb_S8x4096x128_S1x4096x128_5_0_0 (k0_off1 d 5#32) (k0_off1_inb d 5) <|
  kvCopy kH kM (dq 38) ![6, 0, 0] inb_S8x4096x128_S1x4096x128_6_0_0 (k0_off1 d 6#32) (k0_off1_inb d 6) <|
  kvCopy vH vM (dq 46) ![6, 0, 0] inb_S8x4096x128_S1x4096x128_6_0_0 (k0_off1 d 6#32) (k0_off1_inb d 6) <|
  kvCopy kH kM (dq 39) ![7, 0, 0] inb_S8x4096x128_S1x4096x128_7_0_0 (k0_off1 d 7#32) (k0_off1_inb d 7) <|
  kvCopy vH vM (dq 47) ![7, 0, 0] inb_S8x4096x128_S1x4096x128_7_0_0 (k0_off1 d 7#32) (k0_off1_inb d 7) <|
  meet (SemArray.scalar (sig.barrier 0 rfl) : Sems sig S_).sem ⟨k0_dev1 d, k0_dev1_lt d⟩ ⟨k0_dev2 d, k0_dev2_lt d⟩ <|
  ownRows (k0_off2 d) (k0_off2_inb d) (View.stores_vmem h_S256x1024 ((Memref.isWhole_whole cc0_scratch0).storeExact_slice rfl _ (k0_off2_packedbf16 d)) (fun _ => rfl)) <|
  k

/-- The device's own chunk. -/
def seg1 (d : Dev nD) (k : PU F) : PU F :=
  xSend ⟨k0_dev3 d, k0_dev3_lt d⟩ (dq 4) (dq 7) (k0_off3 d 0#32) (k0_off3_inb d 0) ((Memref.isWhole_whole cc0_scratch0).wordExact_slice rfl _ (k0_off3_wordsbf16 d 0)) <|
  xSend ⟨k0_dev4 d, k0_dev4_lt d⟩ (dq 10) (dq 14) (k0_off4 d 0#32) (k0_off4_inb d 0) ((Memref.isWhole_whole cc0_scratch0).wordExact_slice rfl _ (k0_off4_wordsbf16 d 0)) <|
  heads0 d (k0_off9 d) (k0_off9_inb d) (k0_cond1 d) (k0_cond2 d) (k0_off16 d) (k0_off16_inb d) <|
  project (k0_off19 d 0#32) (k0_off19_inb d 0) <|
  xWait (dq 7) (k0_off3 d 0#32) (k0_off3_inb d 0) ((Memref.isWhole_whole cc0_scratch0).wordExact_slice rfl _ (k0_off3_wordsbf16 d 0)) <|
  k

/-- The second chunk. -/
def seg2 (d : Dev nD) (k : PU F) : PU F :=
  xSend ⟨k0_dev5 d, k0_dev5_lt d⟩ (dq 5) (dq 8) (k0_off3 d 1#32) (k0_off3_inb d 1) ((Memref.isWhole_whole cc0_scratch0).wordExact_slice rfl _ (k0_off3_wordsbf16 d 1)) <|
  xWait (dq 14) (k0_off4 d 0#32) (k0_off4_inb d 0) ((Memref.isWhole_whole cc0_scratch0).wordExact_slice rfl _ (k0_off4_wordsbf16 d 0)) <|
  xSend ⟨k0_dev6 d, k0_dev6_lt d⟩ (dq 11) (dq 15) (k0_off4 d 1#32) (k0_off4_inb d 1) ((Memref.isWhole_whole cc0_scratch0).wordExact_slice rfl _ (k0_off4_wordsbf16 d 1)) <|
  heads (k0_off20 d) (k0_off20_inb d) (k0_cond3 d) (k0_cond4 d) (k0_off27 d) (k0_off27_inb d) <|
  project (k0_off19 d 1#32) (k0_off19_inb d 1) <|
  sPut (k0_off19 d 1#32) (k0_off19_inb d 1) ![0, 0, 0] inb_S2x256x1024_S1x256x1024_0_0_0 (View.stores_vmem h_S1x256x1024 ((Memref.isWhole_whole cc0_scratch2).storeExact_slice rfl _ packedbf16_S2x256x1024_S1x256x1024_0_0_0) (fun _ => rfl)) <|
  rsSend ⟨k0_dev7 d, k0_dev7_lt d⟩ (dq 18) (dq 25) ![0, 0, 0] inb_S2x256x1024_S1x256x1024_0_0_0 ![0, 0, 0] inb_S7x256x1024_S1x256x1024_0_0_0 (((Memref.isWhole_whole cc0_scratch2).wordExact_slice rfl _ wordsbf16_S2x256x1024_S1x256x1024_0_0_0).reshape _ _) (((Memref.isWhole_whole cc0_scratch3).wordExact_slice rfl _ wordsbf16_S7x256x1024_S1x256x1024_0_0_0).reshape _ _) <|
  xWait (dq 8) (k0_off3 d 1#32) (k0_off3_inb d 1) ((Memref.isWhole_whole cc0_scratch0).wordExact_slice rfl _ (k0_off3_wordsbf16 d 1)) <|
  xSend ⟨k0_dev8 d, k0_dev8_lt d⟩ (dq 6) (dq 9) (k0_off3 d 2#32) (k0_off3_inb d 2) ((Memref.isWhole_whole cc0_scratch0).wordExact_slice rfl _ (k0_off3_wordsbf16 d 2)) <|
  k

/-- The third chunk. -/
def seg3 (d : Dev nD) (k : PU F) : PU F :=
  xWait (dq 15) (k0_off4 d 1#32) (k0_off4_inb d 1) ((Memref.isWhole_whole cc0_scratch0).wordExact_slice rfl _ (k0_off4_wordsbf16 d 1)) <|
  xSend ⟨k0_dev9 d, k0_dev9_lt d⟩ (dq 12) (dq 16) (k0_off4 d 2#32) (k0_off4_inb d 2) ((Memref.isWhole_whole cc0_scratch0).wordExact_slice rfl _ (k0_off4_wordsbf16 d 2)) <|
  heads (k0_off30 d) (k0_off30_inb d) (k0_cond5 d) (k0_cond6 d) (k0_off37 d) (k0_off37_inb d) <|
  project (k0_off19 d 2#32) (k0_off19_inb d 2) <|
  rsRecv (dq 25) ![0, 0, 0] inb_S2x256x1024_S1x256x1024_0_0_0 ![0, 0, 0] inb_S7x256x1024_S1x256x1024_0_0_0 (((Memref.isWhole_whole cc0_scratch2).wordExact_slice rfl _ wordsbf16_S2x256x1024_S1x256x1024_0_0_0).reshape _ _) (((Memref.isWhole_whole cc0_scratch3).wordExact_slice rfl _ wordsbf16_S7x256x1024_S1x256x1024_0_0_0).reshape _ _) <|
  addTo (k0_off19 d 2#32) (k0_off19_inb d 2) ![0, 0, 0] inb_S7x256x1024_S1x256x1024_0_0_0 <|
  sPut (k0_off19 d 2#32) (k0_off19_inb d 2) ![1, 0, 0] inb_S2x256x1024_S1x256x1024_1_0_0 (View.stores_vmem h_S1x256x1024 ((Memref.isWhole_whole cc0_scratch2).storeExact_slice rfl _ packedbf16_S2x256x1024_S1x256x1024_1_0_0) (fun _ => rfl)) <|
  rsSend ⟨k0_dev10 d, k0_dev10_lt d⟩ (dq 19) (dq 26) ![1, 0, 0] inb_S2x256x1024_S1x256x1024_1_0_0 ![1, 0, 0] inb_S7x256x1024_S1x256x1024_1_0_0 (((Memref.isWhole_whole cc0_scratch2).wordExact_slice rfl _ wordsbf16_S2x256x1024_S1x256x1024_1_0_0).reshape _ _) (((Memref.isWhole_whole cc0_scratch3).wordExact_slice rfl _ wordsbf16_S7x256x1024_S1x256x1024_1_0_0).reshape _ _) <|
  xWait (dq 9) (k0_off3 d 2#32) (k0_off3_inb d 2) ((Memref.isWhole_whole cc0_scratch0).wordExact_slice rfl _ (k0_off3_wordsbf16 d 2)) <|
  k

/-- The fourth chunk. -/
def seg4 (d : Dev nD) (k : PU F) : PU F :=
  xWait (dq 16) (k0_off4 d 2#32) (k0_off4_inb d 2) ((Memref.isWhole_whole cc0_scratch0).wordExact_slice rfl _ (k0_off4_wordsbf16 d 2)) <|
  xSend ⟨k0_dev11 d, k0_dev11_lt d⟩ (dq 13) (dq 17) (k0_off4 d 3#32) (k0_off4_inb d 3) ((Memref.isWhole_whole cc0_scratch0).wordExact_slice rfl _ (k0_off4_wordsbf16 d 3)) <|
  heads (k0_off40 d) (k0_off40_inb d) (k0_cond7 d) (k0_cond8 d) (k0_off47 d) (k0_off47_inb d) <|
  project (k0_off19 d 3#32) (k0_off19_inb d 3) <|
  rsRecv (dq 26) ![1, 0, 0] inb_S2x256x1024_S1x256x1024_1_0_0 ![1, 0, 0] inb_S7x256x1024_S1x256x1024_1_0_0 (((Memref.isWhole_whole cc0_scratch2).wordExact_slice rfl _ wordsbf16_S2x256x1024_S1x256x1024_1_0_0).reshape _ _) (((Memref.isWhole_whole cc0_scratch3).wordExact_slice rfl _ wordsbf16_S7x256x1024_S1x256x1024_1_0_0).reshape _ _) <|
  addTo (k0_off19 d 3#32) (k0_off19_inb d 3) ![1, 0, 0] inb_S7x256x1024_S1x256x1024_1_0_0 <|
  rsSent (dq 18) ![0, 0, 0] inb_S2x256x1024_S1x256x1024_0_0_0 ![0, 0, 0] inb_S7x256x1024_S1x256x1024_0_0_0 (((Memref.isWhole_whole cc0_scratch2).wordExact_slice rfl _ wordsbf16_S2x256x1024_S1x256x1024_0_0_0).reshape _ _) (((Memref.isWhole_whole cc0_scratch3).wordExact_slice rfl _ wordsbf16_S7x256x1024_S1x256x1024_0_0_0).reshape _ _) <|
  sPut (k0_off19 d 3#32) (k0_off19_inb d 3) ![0, 0, 0] inb_S2x256x1024_S1x256x1024_0_0_0 (View.stores_vmem h_S1x256x1024 ((Memref.isWhole_whole cc0_scratch2).storeExact_slice rfl _ packedbf16_S2x256x1024_S1x256x1024_0_0_0) (fun _ => rfl)) <|
  rsSend ⟨k0_dev12 d, k0_dev12_lt d⟩ (dq 20) (dq 27) ![0, 0, 0] inb_S2x256x1024_S1x256x1024_0_0_0 ![2, 0, 0] inb_S7x256x1024_S1x256x1024_2_0_0 (((Memref.isWhole_whole cc0_scratch2).wordExact_slice rfl _ wordsbf16_S2x256x1024_S1x256x1024_0_0_0).reshape _ _) (((Memref.isWhole_whole cc0_scratch3).wordExact_slice rfl _ wordsbf16_S7x256x1024_S1x256x1024_2_0_0).reshape _ _) <|
  k

/-- The fifth chunk. -/
def seg5 (d : Dev nD) (k : PU F) : PU F :=
  xWait (dq 17) (k0_off4 d 3#32) (k0_off4_inb d 3) ((Memref.isWhole_whole cc0_scratch0).wordExact_slice rfl _ (k0_off4_wordsbf16 d 3)) <|
  heads (k0_off50 d) (k0_off50_inb d) (k0_cond9 d) (k0_cond10 d) (k0_off57 d) (k0_off57_inb d) <|
  project (k0_off19 d 4#32) (k0_off19_inb d 4) <|
  rsRecv (dq 27) ![0, 0, 0] inb_S2x256x1024_S1x256x1024_0_0_0 ![2, 0, 0] inb_S7x256x1024_S1x256x1024_2_0_0 (((Memref.isWhole_whole cc0_scratch2).wordExact_slice rfl _ wordsbf16_S2x256x1024_S1x256x1024_0_0_0).reshape _ _) (((Memref.isWhole_whole cc0_scratch3).wordExact_slice rfl _ wordsbf16_S7x256x1024_S1x256x1024_2_0_0).reshape _ _) <|
  addTo (k0_off19 d 4#32) (k0_off19_inb d 4) ![2, 0, 0] inb_S7x256x1024_S1x256x1024_2_0_0 <|
  rsSent (dq 19) ![1, 0, 0] inb_S2x256x1024_S1x256x1024_1_0_0 ![1, 0, 0] inb_S7x256x1024_S1x256x1024_1_0_0 (((Memref.isWhole_whole cc0_scratch2).wordExact_slice rfl _ wordsbf16_S2x256x1024_S1x256x1024_1_0_0).reshape _ _) (((Memref.isWhole_whole cc0_scratch3).wordExact_slice rfl _ wordsbf16_S7x256x1024_S1x256x1024_1_0_0).reshape _ _) <|
  sPut (k0_off19 d 4#32) (k0_off19_inb d 4) ![1, 0, 0] inb_S2x256x1024_S1x256x1024_1_0_0 (View.stores_vmem h_S1x256x1024 ((Memref.isWhole_whole cc0_scratch2).storeExact_slice rfl _ packedbf16_S2x256x1024_S1x256x1024_1_0_0) (fun _ => rfl)) <|
  rsSend ⟨k0_dev13 d, k0_dev13_lt d⟩ (dq 21) (dq 28) ![1, 0, 0] inb_S2x256x1024_S1x256x1024_1_0_0 ![3, 0, 0] inb_S7x256x1024_S1x256x1024_3_0_0 (((Memref.isWhole_whole cc0_scratch2).wordExact_slice rfl _ wordsbf16_S2x256x1024_S1x256x1024_1_0_0).reshape _ _) (((Memref.isWhole_whole cc0_scratch3).wordExact_slice rfl _ wordsbf16_S7x256x1024_S1x256x1024_3_0_0).reshape _ _) <|
  k

/-- The sixth chunk. -/
def seg6 (d : Dev nD) (k : PU F) : PU F :=
  heads (k0_off60 d) (k0_off60_inb d) (k0_cond11 d) (k0_cond12 d) (k0_off67 d) (k0_off67_inb d) <|
  project (k0_off19 d 5#32) (k0_off19_inb d 5) <|
  rsRecv (dq 28) ![1, 0, 0] inb_S2x256x1024_S1x256x1024_1_0_0 ![3, 0, 0] inb_S7x256x1024_S1x256x1024_3_0_0 (((Memref.isWhole_whole cc0_scratch2).wordExact_slice rfl _ wordsbf16_S2x256x1024_S1x256x1024_1_0_0).reshape _ _) (((Memref.isWhole_whole cc0_scratch3).wordExact_slice rfl _ wordsbf16_S7x256x1024_S1x256x1024_3_0_0).reshape _ _) <|
  addTo (k0_off19 d 5#32) (k0_off19_inb d 5) ![3, 0, 0] inb_S7x256x1024_S1x256x1024_3_0_0 <|
  rsSent (dq 20) ![0, 0, 0] inb_S2x256x1024_S1x256x1024_0_0_0 ![2, 0, 0] inb_S7x256x1024_S1x256x1024_2_0_0 (((Memref.isWhole_whole cc0_scratch2).wordExact_slice rfl _ wordsbf16_S2x256x1024_S1x256x1024_0_0_0).reshape _ _) (((Memref.isWhole_whole cc0_scratch3).wordExact_slice rfl _ wordsbf16_S7x256x1024_S1x256x1024_2_0_0).reshape _ _) <|
  sPut (k0_off19 d 5#32) (k0_off19_inb d 5) ![0, 0, 0] inb_S2x256x1024_S1x256x1024_0_0_0 (View.stores_vmem h_S1x256x1024 ((Memref.isWhole_whole cc0_scratch2).storeExact_slice rfl _ packedbf16_S2x256x1024_S1x256x1024_0_0_0) (fun _ => rfl)) <|
  rsSend ⟨k0_dev14 d, k0_dev14_lt d⟩ (dq 22) (dq 29) ![0, 0, 0] inb_S2x256x1024_S1x256x1024_0_0_0 ![4, 0, 0] inb_S7x256x1024_S1x256x1024_4_0_0 (((Memref.isWhole_whole cc0_scratch2).wordExact_slice rfl _ wordsbf16_S2x256x1024_S1x256x1024_0_0_0).reshape _ _) (((Memref.isWhole_whole cc0_scratch3).wordExact_slice rfl _ wordsbf16_S7x256x1024_S1x256x1024_4_0_0).reshape _ _) <|
  k

/-- The seventh chunk. -/
def seg7 (d : Dev nD) (k : PU F) : PU F :=
  heads (k0_off70 d) (k0_off70_inb d) (k0_cond13 d) (k0_cond14 d) (k0_off77 d) (k0_off77_inb d) <|
  project (k0_off19 d 6#32) (k0_off19_inb d 6) <|
  rsRecv (dq 29) ![0, 0, 0] inb_S2x256x1024_S1x256x1024_0_0_0 ![4, 0, 0] inb_S7x256x1024_S1x256x1024_4_0_0 (((Memref.isWhole_whole cc0_scratch2).wordExact_slice rfl _ wordsbf16_S2x256x1024_S1x256x1024_0_0_0).reshape _ _) (((Memref.isWhole_whole cc0_scratch3).wordExact_slice rfl _ wordsbf16_S7x256x1024_S1x256x1024_4_0_0).reshape _ _) <|
  addTo (k0_off19 d 6#32) (k0_off19_inb d 6) ![4, 0, 0] inb_S7x256x1024_S1x256x1024_4_0_0 <|
  rsSent (dq 21) ![1, 0, 0] inb_S2x256x1024_S1x256x1024_1_0_0 ![3, 0, 0] inb_S7x256x1024_S1x256x1024_3_0_0 (((Memref.isWhole_whole cc0_scratch2).wordExact_slice rfl _ wordsbf16_S2x256x1024_S1x256x1024_1_0_0).reshape _ _) (((Memref.isWhole_whole cc0_scratch3).wordExact_slice rfl _ wordsbf16_S7x256x1024_S1x256x1024_3_0_0).reshape _ _) <|
  sPut (k0_off19 d 6#32) (k0_off19_inb d 6) ![1, 0, 0] inb_S2x256x1024_S1x256x1024_1_0_0 (View.stores_vmem h_S1x256x1024 ((Memref.isWhole_whole cc0_scratch2).storeExact_slice rfl _ packedbf16_S2x256x1024_S1x256x1024_1_0_0) (fun _ => rfl)) <|
  rsSend ⟨k0_dev15 d, k0_dev15_lt d⟩ (dq 23) (dq 30) ![1, 0, 0] inb_S2x256x1024_S1x256x1024_1_0_0 ![5, 0, 0] inb_S7x256x1024_S1x256x1024_5_0_0 (((Memref.isWhole_whole cc0_scratch2).wordExact_slice rfl _ wordsbf16_S2x256x1024_S1x256x1024_1_0_0).reshape _ _) (((Memref.isWhole_whole cc0_scratch3).wordExact_slice rfl _ wordsbf16_S7x256x1024_S1x256x1024_5_0_0).reshape _ _) <|
  k

/-- The last chunk. -/
def seg8 (d : Dev nD) (k : PU F) : PU F :=
  heads (k0_off80 d) (k0_off80_inb d) (k0_cond15 d) (k0_cond16 d) (k0_off87 d) (k0_off87_inb d) <|
  project (k0_off19 d 7#32) (k0_off19_inb d 7) <|
  rsRecv (dq 30) ![1, 0, 0] inb_S2x256x1024_S1x256x1024_1_0_0 ![5, 0, 0] inb_S7x256x1024_S1x256x1024_5_0_0 (((Memref.isWhole_whole cc0_scratch2).wordExact_slice rfl _ wordsbf16_S2x256x1024_S1x256x1024_1_0_0).reshape _ _) (((Memref.isWhole_whole cc0_scratch3).wordExact_slice rfl _ wordsbf16_S7x256x1024_S1x256x1024_5_0_0).reshape _ _) <|
  addTo (k0_off19 d 7#32) (k0_off19_inb d 7) ![5, 0, 0] inb_S7x256x1024_S1x256x1024_5_0_0 <|
  rsSent (dq 22) ![0, 0, 0] inb_S2x256x1024_S1x256x1024_0_0_0 ![4, 0, 0] inb_S7x256x1024_S1x256x1024_4_0_0 (((Memref.isWhole_whole cc0_scratch2).wordExact_slice rfl _ wordsbf16_S2x256x1024_S1x256x1024_0_0_0).reshape _ _) (((Memref.isWhole_whole cc0_scratch3).wordExact_slice rfl _ wordsbf16_S7x256x1024_S1x256x1024_4_0_0).reshape _ _) <|
  sPut (k0_off19 d 7#32) (k0_off19_inb d 7) ![0, 0, 0] inb_S2x256x1024_S1x256x1024_0_0_0 (View.stores_vmem h_S1x256x1024 ((Memref.isWhole_whole cc0_scratch2).storeExact_slice rfl _ packedbf16_S2x256x1024_S1x256x1024_0_0_0) (fun _ => rfl)) <|
  rsSend ⟨k0_dev16 d, k0_dev16_lt d⟩ (dq 24) (dq 31) ![0, 0, 0] inb_S2x256x1024_S1x256x1024_0_0_0 ![6, 0, 0] inb_S7x256x1024_S1x256x1024_6_0_0 (((Memref.isWhole_whole cc0_scratch2).wordExact_slice rfl _ wordsbf16_S2x256x1024_S1x256x1024_0_0_0).reshape _ _) (((Memref.isWhole_whole cc0_scratch3).wordExact_slice rfl _ wordsbf16_S7x256x1024_S1x256x1024_6_0_0).reshape _ _) <|
  k

/-- The result, and the transfers still under way. -/
def seg9 (d : Dev nD) (k : PU F) : PU F :=
  rsRecv (dq 31) ![0, 0, 0] inb_S2x256x1024_S1x256x1024_0_0_0 ![6, 0, 0] inb_S7x256x1024_S1x256x1024_6_0_0 (((Memref.isWhole_whole cc0_scratch2).wordExact_slice rfl _ wordsbf16_S2x256x1024_S1x256x1024_0_0_0).reshape _ _) (((Memref.isWhole_whole cc0_scratch3).wordExact_slice rfl _ wordsbf16_S7x256x1024_S1x256x1024_6_0_0).reshape _ _) <|
  outPut (k0_off2 d) (k0_off2_inb d) ![6, 0, 0] inb_S7x256x1024_S1x256x1024_6_0_0 <|
  xWait (dq 4) (k0_off3 d 0#32) (k0_off3_inb d 0) ((Memref.isWhole_whole cc0_scratch0).wordExact_slice rfl _ (k0_off3_wordsbf16 d 0)) <|
  xWait (dq 5) (k0_off3 d 1#32) (k0_off3_inb d 1) ((Memref.isWhole_whole cc0_scratch0).wordExact_slice rfl _ (k0_off3_wordsbf16 d 1)) <|
  xWait (dq 6) (k0_off3 d 2#32) (k0_off3_inb d 2) ((Memref.isWhole_whole cc0_scratch0).wordExact_slice rfl _ (k0_off3_wordsbf16 d 2)) <|
  xWait (dq 10) (k0_off4 d 0#32) (k0_off4_inb d 0) ((Memref.isWhole_whole cc0_scratch0).wordExact_slice rfl _ (k0_off4_wordsbf16 d 0)) <|
  xWait (dq 11) (k0_off4 d 1#32) (k0_off4_inb d 1) ((Memref.isWhole_whole cc0_scratch0).wordExact_slice rfl _ (k0_off4_wordsbf16 d 1)) <|
  xWait (dq 12) (k0_off4 d 2#32) (k0_off4_inb d 2) ((Memref.isWhole_whole cc0_scratch0).wordExact_slice rfl _ (k0_off4_wordsbf16 d 2)) <|
  xWait (dq 13) (k0_off4 d 3#32) (k0_off4_inb d 3) ((Memref.isWhole_whole cc0_scratch0).wordExact_slice rfl _ (k0_off4_wordsbf16 d 3)) <|
  rsSent (dq 23) ![1, 0, 0] inb_S2x256x1024_S1x256x1024_1_0_0 ![5, 0, 0] inb_S7x256x1024_S1x256x1024_5_0_0 (((Memref.isWhole_whole cc0_scratch2).wordExact_slice rfl _ wordsbf16_S2x256x1024_S1x256x1024_1_0_0).reshape _ _) (((Memref.isWhole_whole cc0_scratch3).wordExact_slice rfl _ wordsbf16_S7x256x1024_S1x256x1024_5_0_0).reshape _ _) <|
  rsSent (dq 24) ![0, 0, 0] inb_S2x256x1024_S1x256x1024_0_0_0 ![6, 0, 0] inb_S7x256x1024_S1x256x1024_6_0_0 (((Memref.isWhole_whole cc0_scratch2).wordExact_slice rfl _ wordsbf16_S2x256x1024_S1x256x1024_0_0_0).reshape _ _) (((Memref.isWhole_whole cc0_scratch3).wordExact_slice rfl _ wordsbf16_S7x256x1024_S1x256x1024_6_0_0).reshape _ _) <|
  meet cc0_scoped0.sem ⟨k0_dev17 d, k0_dev17_lt d⟩ ⟨k0_dev18 d, k0_dev18_lt d⟩ <|
  k

/-- The kernel's program on one device. -/
def prog (d : Dev nD) : PU F :=
  seg0 d <| seg1 d <| seg2 d <| seg3 d <| seg4 d <| seg5 d <| seg6 d <| seg7 d <| seg8 d <| seg9 d <| .ret ⟨⟩

end Cert.KernelIdeal
-- ==== Proof.Protocol.lean ====
module

public import proofs.«01_k».proof.Proof.Pieces
public import proofs.«01_k».proof.Proof.Gen.KernelIdeal.Launch
public import proofs.«01_k».proof.Proof.Gen.KernelIdeal.Frame
public import Idealize.ShloMosaic.Lib.Rounds
public import Idealize.ShloMosaic.Lib.Ring
public import Idealize.ShloMosaic.Lib.Pipeline.RegionTalk

@[expose] public section

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## What every device computes

`Ins` lists what the devices' memories hold when the kernel starts: the rows of the input, the two weight matrices,
the keys and the values. Everything the kernel writes is a function of it. -/

/-- The operands of all devices. -/
structure Ins (F : FTy → Type) [FloatOps F] [Named F] where
  x : Dev nD → Vec F S256x1024 .bf16
  wq : Dev nD → Vec F S8x1024x128 .bf16
  wo : Dev nD → Vec F S8x128x1024 .bf16
  k : Dev nD → Vec F S4096x64x128 .f32
  v : Dev nD → Vec F S4096x64x128 .f32

/-! ### Chunks and slots -/

abbrev xo (j : Fin 8) : Fin 2 → ℕ := ![256 * j.val, 0]
theorem xi (j : Fin 8) : ∀ a, xo j a + S256x1024.size a ≤ S2048x1024.size a := by revert j; decide
abbrev so (n : ℕ) : Fin 3 → ℕ := ![n, 0, 0]
theorem si (b : Fin 2) : ∀ a, so b.val a + S1x256x1024.size a ≤ S2x256x1024.size a := by revert b; decide
theorem ri (s : Fin 7) : ∀ a, so s.val a + S1x256x1024.size a ≤ S7x256x1024.size a := by revert s; decide
theorem ki (h : Fin 8) : ∀ a, so h.val a + S1x4096x128.size a ≤ S8x4096x128.size a := by revert h; decide
theorem ci (h : Fin 8) : ∀ a, so h.val a + S1x256x128.size a ≤ S8x256x128.size a := by revert h; decide
theorem qi (h : Fin 8) : ∀ a, so h.val a + S1x1024x128.size a ≤ S8x1024x128.size a := by revert h; decide
theorem wi (h : Fin 8) : ∀ a, so h.val a + S1x128x1024.size a ≤ S8x128x1024.size a := by revert h; decide
abbrev ho (c : Dev nD) (h : Fin 8) : Fin 3 → ℕ := ![0, 8 * c.val + h.val, 0]
theorem hi (c : Dev nD) (h : Fin 8) : ∀ a, ho c h a + S4096x1x128.size a ≤ S4096x64x128.size a := by revert c h; decide
theorem bi {r n : ℕ} (hr : r + n ≤ 4096) : ∀ a, (![0, r, 0] : Fin 3 → ℕ) a + (![1, n, 128] : Fin 3 → ℕ) a ≤ S1x4096x128.size a := by
  intro a; fin_cases a
  · show 0 + 1 ≤ 1; omega
  · show r + n ≤ 4096; omega
  · show 0 + 128 ≤ 128; omega

abbrev xK (j : Fin 8) : Memref sig .tc .vmem S256x1024 .bf16 := xS (xo j) (xi j)
abbrev pK (j : Fin 8) : Memref sig .tc .vmem S256x1024 .f32 :=
  pM.slice (Rect.unit (s := S2048x1024) (xo j) S256x1024.size (xi j)) (fun _ => rfl)
abbrev sK (b : Fin 2) : Memref sig .tc .vmem S1x256x1024 .bf16 := sB (so b.val) (si b)
abbrev rK (s : Fin 7) : Memref sig .tc .vmem S1x256x1024 .bf16 := rB (so s.val) (ri s)
/-- A head's keys, or values, in the device's own memory, as a slice of the buffer. -/
abbrev kvB (m : Memref sig .tc .vmem S8x4096x128 .f32) (h : Fin 8) : Memref sig .tc .vmem S1x4096x128 .f32 :=
  m.slice (Rect.unit (s := S8x4096x128) (so h.val) S1x4096x128.size (ki h)) (fun _ => rfl)
abbrev cK (h : Fin 8) : Memref sig .tc .vmem S1x256x128 .bf16 :=
  cM.slice (Rect.unit (s := S8x256x128) (so h.val) S1x256x128.size (ci h)) (fun _ => rfl)
/-- A head's keys, or values, among all heads', of device `c`. -/
abbrev kvG (m : Memref sig .tc .hbm S4096x64x128 .f32) (c : Dev nD) (h : Fin 8) : Memref sig .tc .hbm S4096x128 .f32 := kvH m (ho c h) (hi c h)

/-! ### The values -/

/-- The rows of device `j`, as they stand in the gathered input. -/
def xv (a : Ins F) (j : Dev nD) : Vec F S256x1024 .bf16 := k0_pay225 (a.x j)
/-- One head's part of the first weight matrix. -/
def wqv (a : Ins F) (c : Dev nD) (h : Fin 8) : Vec F S1x1024x128 .bf16 :=
  fun i => a.wq c ((Rect.unit (s := S8x1024x128) (so h.val) S1x1024x128.size (qi h)).emb i)
/-- One head's part of the second. -/
def wov (a : Ins F) (c : Dev nD) (h : Fin 8) : Vec F S1x128x1024 .bf16 :=
  fun i => a.wo c ((Rect.unit (s := S8x128x1024) (so h.val) S1x128x1024.size (wi h)).emb i)
/-- One head's keys, or values. -/
def kvv (K : Vec F S4096x64x128 .f32) (c : Dev nD) (h : Fin 8) : Vec F S1x4096x128 .f32 :=
  fun i => (kvG kH c h).view.read (Elt F) K ((Shape.reshapeEquiv squeezes_S1x4096x128_S4096x128.numel_eq).symm i)
/-- A block of rows of them. -/
def blk (w : Vec F S1x4096x128 .f32) (r : ℕ) (hr : r + 1024 ≤ 4096) : Vec F S1x1024x128 .f32 :=
  fun i => w ((Rect.unit (s := S1x4096x128) ![0, r, 0] S1x1024x128.size (bi hr)).emb i)
/-- The first rows of them. -/
def fst (w : Vec F S1x4096x128 .f32) : Vec F S1x256x128 .f32 :=
  fun i => w ((Rect.unit (s := S1x4096x128) ![0, 0, 0] S1x256x128.size (bi (by decide))).emb i)
theorem win_le (j : Fin 8) : 256 * j.val - 128 + 1024 ≤ 4096 := by have := j.isLt; omega
/-- One head's result on chunk `j`. -/
def cxOf (x : Vec F S256x1024 .bf16) (w : Vec F S1x1024x128 .bf16) (K V : Vec F S1x4096x128 .f32) (j : Fin 8) : Vec F S1x256x128 .bf16 :=
  if j = 0 then fullOf (qOf x w) (blk K 0 (by decide)) (blk K 1024 (by decide)) (blk K 2048 (by decide)) (blk K 3072 (by decide))
      (blk V 0 (by decide)) (blk V 1024 (by decide)) (blk V 2048 (by decide)) (blk V 3072 (by decide))
  else winOf (qOf x w) (blk K (256 * j.val - 128) (win_le j)) (fst K) (blk V (256 * j.val - 128) (win_le j)) (fst V)
def cx (a : Ins F) (c : Dev nD) (j : Fin 8) (h : Fin 8) : Vec F S1x256x128 .bf16 :=
  cxOf (xv a j) (wqv a c h) (kvv (a.k c) c h) (kvv (a.v c) c h) j
/-- Device `c`'s part of chunk `j` of the result. -/
def pr (a : Ins F) (c : Dev nD) (j : Fin 8) : Vec F S256x1024 .f32 := projOf (cx a c j) (wov a c)
/-- The partial sum device `e` holds of a chunk after its `s`-th receipt. -/
def psum (a : Ins F) (e : Dev nD) (j : Fin 8) (m : Vec F S1x256x1024 .bf16) : Vec F S256x1024 .f32 := k0_pay248 (k0_pay247 (pr a e j) m)
/-- The `s`-th message of device `e`. -/
def msg (a : Ins F) : ℕ → Dev nD → Vec F S1x256x1024 .bf16
  | 0, e => k0_pay239 (pr a e (e + 7))
  | s + 1, e => k0_pay239 (psum a e (e + Fin.ofNat 8 (14 - s)) (msg a s (e + 7)))
/-- Device `c`'s rows of the result. -/
def outv (a : Ins F) (c : Dev nD) : Vec F S256x1024 .f32 := k0_pay297 (pr a c c) (msg a 6 (c + 7))

/-! ## The protocol -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-- A memref's elements held at a share, reading `w`. -/
def held {sp : Space} {s : Shape} {e : EltTy} (c : Dev nD) (v : Memref sig .tc sp s e) (q : PosShare TreeShare) (w : s.Idx → Elt F e) : sProp 𝕄 :=
  iprop(∃ f, (v.view.loc (c : Thread nD τ) ↦[v.view.set]{q} f) ∗ ⌜v.view.read (Elt F) f = w⌝)
/-- A memref's elements held in full, at some contents. -/
def anyv {sp : Space} {s : Shape} {e : EltTy} (c : Dev nD) (v : Memref sig .tc sp s e) : sProp 𝕄 :=
  iprop(∃ f, (v.view.loc (c : Thread nD τ) ↦[v.view.set]{fullShare} f))

abbrev cell (c : Dev nD) (sm : SemLoc sig) : GSem nD τ sig := ((c : Thread nD τ), sm)
abbrev dc (c : Dev nD) (n : ℕ) (h : n < 48 := by decide) : GSem nD τ sig := cell c (.dma (dq n h))
abbrev barS : SemLoc sig := .reg (SemArray.scalar (sig.barrier 0 rfl) : Sems sig S_).sem
abbrev endS : SemLoc sig := .reg cc0_scoped0.sem

/-- The scoped semaphores the kernel uses itself. -/
def osem (k : Fin 45) : SemLoc sig := if h : k.val < 44 then .dma ⟨4 + k.val, by show 4 + k.val < 48; omega⟩ else endS

abbrev qA : PosShare TreeShare := fullShare.left
abbrev qB : PosShare TreeShare := fullShare.right.left
abbrev qC : PosShare TreeShare := fullShare.right.right

/-- All of a device's own semaphores have begun. -/
def rch (c : Dev nD) : sProp 𝕄 := bigSep Finset.univ fun k : Fin 45 => reached ER (cell c (osem k)) 0

/-- A part of the operand in the device's slow memory, at the contents it had. -/
def src (m : Memref sig .tc .hbm S4096x64x128 .f32) (c : Dev nD) (h : Fin 8) (K : Buf (Elt F) ((kvG m c h).view.loc (c : Thread nD τ))) : sProp 𝕄 :=
  (kvG m c h).view.loc (c : Thread nD τ) ↦[(kvG m c h).view.set]{fullShare} K

/-- What a transfer semaphore's one completion brings. -/
def pay (a : Ins F) (c : Dev nD) (n : ℕ) : sProp 𝕄 :=
  if n < 7 then held c (xK (c + Fin.ofNat 8 (12 - n))) qA (xv a (c + Fin.ofNat 8 (12 - n)))
  else if n < 10 then held c (xK (c + Fin.ofNat 8 (14 - n))) fullShare (xv a (c + Fin.ofNat 8 (14 - n)))
  else if n < 14 then held c (xK (c + Fin.ofNat 8 (n - 10))) qB (xv a (c + Fin.ofNat 8 (n - 10)))
  else if n < 18 then held c (xK (c + Fin.ofNat 8 (n - 13))) fullShare (xv a (c + Fin.ofNat 8 (n - 13)))
  else if n < 25 then anyv c (sK (Fin.ofNat 2 (n - 18)))
  else if n < 32 then held c (rK (Fin.ofNat 7 (n - 25))) fullShare (msg a (n - 25) (c + 7))
  else if n < 40 then iprop(held c (kvB kM (Fin.ofNat 8 (n - 32))) fullShare (kvv (a.k c) c (Fin.ofNat 8 (n - 32))) ∗ src kH c (Fin.ofNat 8 (n - 32)) (a.k c))
  else iprop(held c (kvB vM (Fin.ofNat 8 (n - 40))) fullShare (kvv (a.v c) c (Fin.ofNat 8 (n - 40))) ∗ src vH c (Fin.ofNat 8 (n - 40)) (a.v c))

/-- What the meeting at the start brings from the right neighbour: room for the chunks sent to the right, and for the messages; -/
def barR (c : Dev nD) : sProp 𝕄 :=
  iprop(anyv (c + 1) (xK c) ∗ anyv (c + 1) (xK (c + 7)) ∗ anyv (c + 1) (xK (c + 6))
    ∗ (bigSep Finset.univ fun s : Fin 7 => anyv (F := F) (c + 1) (rK s)) ∗ rch (c + 1))
/-- from the left neighbour: room for the chunks sent to the left. -/
def barL (c : Dev nD) : sProp 𝕄 :=
  iprop(anyv (c + 7) (xK c) ∗ anyv (c + 7) (xK (c + 1)) ∗ anyv (c + 7) (xK (c + 2)) ∗ anyv (c + 7) (xK (c + 3)) ∗ rch (c + 7))

/-- Transfers count what they move. -/
def amt : SemLoc sig → ℕ
  | .dma n => if n.val < 18 then (xK 0).view.dmaCredit else if n.val < 32 then (sQ (so 0) (si 0)).view.dmaCredit else (kvS kM (so 0) (ki 0)).view.dmaCredit
  | _ => 1
theorem amt_pos (s : SemLoc sig) : 0 < amt s := by
  unfold amt
  split
  · split
    · exact View.dmaCredit_pos _ (by decide)
    · split
      · exact View.dmaCredit_pos _ (by decide)
      · exact View.dmaCredit_pos _ (by decide)
  · exact Nat.one_pos

/-- One round on every cell: a transfer's completion; or one unit from each neighbour. -/
def sched (a : Ins F) : Rounds.Schedule (GSem nD τ sig) Bool 𝕄 where
  duties g r := if r = 0 ∧ g.1.2 = .tc then (match g.2 with | .dma _ => {false} | _ => {false, true}) else ∅
  unitless _ := False
  amount g _ _ := amt g.2
  payload g _ d := match g.2 with
    | .dma n => pay a g.1.1 n.val
    | .reg n => if n.val = 0 then (if d then barR g.1.1 else barL g.1.1) else iprop(emp)
  amount_pos g _ _ _ := amt_pos g.2

instance held_storable {sp : Space} {s : Shape} {e : EltTy} (c : Dev nD) (v : Memref sig .tc sp s e) (q : PosShare TreeShare) (w : s.Idx → Elt F e) :
    BI.Storable (upEmb : UEmb _ 𝕄) (held c v q w) := by unfold held; infer_instance
instance anyv_storable {sp : Space} {s : Shape} {e : EltTy} (c : Dev nD) (v : Memref sig .tc sp s e) :
    BI.Storable (upEmb : UEmb _ 𝕄) (anyv (F := F) c v) := by unfold anyv; infer_instance
instance rch_storable (c : Dev nD) : BI.Storable (upEmb : UEmb _ 𝕄) (rch (F := F) c) := by unfold rch; infer_instance
instance src_storable (m : Memref sig .tc .hbm S4096x64x128 .f32) (c : Dev nD) (h : Fin 8) (K) :
    BI.Storable (upEmb : UEmb _ 𝕄) (src (F := F) m c h K) := by unfold src; infer_instance
instance rch_persistent (c : Dev nD) : BI.Persistent (rch (F := F) c) := by unfold rch; infer_instance
instance pay_storable (a : Ins F) (c : Dev nD) (n : ℕ) : BI.Storable (upEmb : UEmb _ 𝕄) (pay a c n) := by
  unfold pay; (repeat' split) <;> infer_instance
instance barR_storable (c : Dev nD) : BI.Storable (upEmb : UEmb _ 𝕄) (barR (F := F) c) := by unfold barR; infer_instance
instance barL_storable (c : Dev nD) : BI.Storable (upEmb : UEmb _ 𝕄) (barL (F := F) c) := by unfold barL; infer_instance
instance sched_storable (a : Ins F) (g : GSem nD τ sig) (r : ℕ) (d : Bool) : BI.Storable (upEmb : UEmb _ 𝕄) ((sched a).payload g r d) := by
  dsimp only [sched]; (repeat' split) <;> infer_instance

section Sched
variable (a : Ins F) (c : Dev nD)

theorem duties_dma (n : DmaSem sig) : (sched a).duties (cell c (.dma n)) 0 = {false} := by dsimp only [sched]; exact if_pos ⟨rfl, rfl⟩
theorem duties_reg (n : Sem sig) : (sched a).duties (cell c (.reg n)) 0 = {false, true} := by dsimp only [sched]; exact if_pos ⟨rfl, rfl⟩
theorem duties_later (g : GSem nD τ sig) : ∀ r, 1 ≤ r → (sched a).duties g r = ∅ :=
  fun r hr => by dsimp only [sched]; exact if_neg (fun h => by omega)
theorem amount_at (sm : SemLoc sig) (d : Bool) : (sched a).amount (cell c sm) 0 d = amt sm := rfl
theorem expect_dma (n : DmaSem sig) : (sched a).expect (cell c (.dma n)) 0 = amt (.dma n) := by
  unfold Schedule.expect Schedule.amountOf; rw [duties_dma, Finset.sum_singleton, amount_at]
theorem expect_reg (n : Sem sig) : (sched a).expect (cell c (.reg n)) 0 = 2 := by
  unfold Schedule.expect Schedule.amountOf; rw [duties_reg, Finset.sum_pair (by decide), amount_at, amount_at]; rfl
theorem payload_dma (n : DmaSem sig) (d : Bool) : (sched a).payload (cell c (.dma n)) 0 d = pay a c n.val := rfl
theorem rest_dma (n : DmaSem sig) : bigSep ((sched a).duties (cell c (.dma n)) 0 \ ∅) (fun u => (sched a).payload (cell c (.dma n)) 0 u) = pay a c n.val := by
  rw [Finset.sdiff_empty, duties_dma, bigSep_singleton, payload_dma]
theorem rest_reg (n : Sem sig) : bigSep ((sched a).duties (cell c (.reg n)) 0 \ ∅) (fun u => (sched a).payload (cell c (.reg n)) 0 u)
    = iprop((sched a).payload (cell c (.reg n)) 0 false ∗ (sched a).payload (cell c (.reg n)) 0 true) := by
  rw [Finset.sdiff_empty, duties_reg, bigSep_insert (by decide), bigSep_singleton]; rfl
end Sched

/-! ### What a device owes, in the order it pays -/

/-- The semaphores a device pays at its neighbours, in the program's order, each with the neighbour. -/
def payList : List (SemLoc sig × Fin 8) :=
  [(barS, 7), (barS, 1), (.dma (dq 7), 1), (.dma (dq 14), 7), (.dma (dq 8), 1), (.dma (dq 15), 7), (.dma (dq 25), 1), (.dma (dq 9), 1), (.dma (dq 16), 7),
   (.dma (dq 26), 1), (.dma (dq 17), 7), (.dma (dq 27), 1), (.dma (dq 28), 1), (.dma (dq 29), 1), (.dma (dq 30), 1), (.dma (dq 31), 1), (endS, 7), (endS, 1)]
def pp (i : ℕ) : SemLoc sig × Fin 8 := payList.getD i (barS, 7)
/-- What is still owed before the `n`-th payment. -/
def Oat (c : Dev nD) (n : ℕ) : CellTallies nD τ sig Unit := ∑ i ∈ Finset.Ico n 18, tallyAt (cell (c + (pp i).2) (pp i).1) () (amt (pp i).1)
theorem Oat_step (c : Dev nD) (n : ℕ) (h : n < 18) : Oat c n = Oat c (n + 1) + tallyAt (cell (c + (pp n).2) (pp n).1) () (amt (pp n).1) := by
  unfold Oat; rw [Finset.sum_eq_sum_Ico_succ_bot h, add_comm]
theorem Oat_end (c : Dev nD) : Oat c 18 = 0 := by unfold Oat; rw [Finset.Ico_self, Finset.sum_empty]

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl
/-- A semaphore's level: its place in the order of payments; 0 where nobody else pays. -/
def slv : SemLoc sig → ℕ
  | .dma n => [0, 0, 0, 0, 0, 0, 0, 3, 5, 8, 0, 0, 0, 0, 4, 6, 9, 11, 0, 0, 0, 0, 0, 0, 0, 7, 10, 12, 13, 14, 15, 16].getD n.val 0
  | .reg n => if n.val = 0 then 1 else 17
def lv (g : GSem nD τ sig) (_ : Unit) : ℕ := slv g.2

theorem Oat_pos {c : Dev nD} {n : ℕ} {g : GSem nD τ sig} {u : Unit} (h : 0 < Oat c n g u) :
    ∃ i, n ≤ i ∧ i < 18 ∧ g = cell (c + (pp i).2) (pp i).1 := by
  by_contra hn
  push Not at hn
  have : Oat c n g u = 0 := by
    unfold Oat
    rw [Finset.sum_apply, Finsupp.finset_sum_apply]
    refine Finset.sum_eq_zero fun i hi => ?_
    rw [Finset.mem_Ico] at hi
    rw [tallyAt_apply, if_neg (fun hh => hn i hi.1 hi.2 hh.1)]
  omega

theorem mayWait (c : Dev nD) (sm : SemLoc sig) (n : ℕ) (h : ∀ i, n ≤ i → i < 18 → slv sm < slv (pp i).1) :
    (levAts L lv : sProp 𝕄) ⊢ MayWait (c : Thread nD τ) sm () (Oat c n) :=
  MayOwe.of_cut (L := L) (lev := lv) (slv sm) (fun p hp => by rw [Finset.mem_singleton.mp hp, L_tc]; exact Finset.mem_singleton_self _)
    (fun g u hg => by obtain ⟨i, _, _, rfl⟩ := Oat_pos hg; rw [L_tc]; exact Finset.mem_singleton_self _)
    (fun p hp => by rw [Finset.mem_singleton.mp hp]; exact le_refl _)
    (fun g u hg => by obtain ⟨i, h1, h2, rfl⟩ := Oat_pos hg; exact h i h1 h2)

/-! ### The ghost state -/

def barEmb : Dev nD ↪ GSem nD τ sig := ⟨fun c => cell c barS, fun _ _ h => congrArg (fun g : GSem nD τ sig => g.1.1) h⟩
theorem osem_inj : Function.Injective osem := by decide
theorem osem_ne_bar : ∀ k, osem k ≠ barS := by decide
def scEmb : Dev nD × Fin 45 ↪ GSem nD τ sig :=
  ⟨fun ck => cell ck.1 (osem ck.2), fun _ _ h =>
    Prod.ext (congrArg (fun g : GSem nD τ sig => g.1.1) h) (osem_inj (congrArg Prod.snd h))⟩
abbrev barCells : Finset (GSem nD τ sig) := Finset.univ.map barEmb
abbrev scCells : Finset (GSem nD τ sig) := Finset.univ.map scEmb

/-- What every device may consult: all cells' invariants; that the meeting cells have begun. -/
def records (a : Ins F) (κ : GSem nD τ sig → ℕ) : sProp 𝕄 :=
  iprop((bigSep (barCells ∪ scCells) fun g => cellInv ER (sched a) (κ g) g) ∗ bigSep barCells fun g => reached ER g 0)
instance records_persistent (a : Ins F) (κ : GSem nD τ sig → ℕ) : BI.Persistent (records a κ) := by unfold records; infer_instance

/-- What a device's program consults throughout. -/
def env (a : Ins F) (κ : GSem nD τ sig → ℕ) (c : Dev nD) : sProp 𝕄 := iprop(records a κ ∗ rch c ∗ levAts L lv)
instance env_persistent (a : Ins F) (κ : GSem nD τ sig → ℕ) (c : Dev nD) : BI.Persistent (env a κ c) := by unfold env; infer_instance

theorem bar_mem (c : Dev nD) : cell c barS ∈ (barCells ∪ scCells : Finset (GSem nD τ sig)) :=
  Finset.mem_union_left _ (Finset.mem_map_of_mem barEmb (Finset.mem_univ c))
theorem sc_mem (c : Dev nD) (k : Fin 45) : cell c (osem k) ∈ (barCells ∪ scCells : Finset (GSem nD τ sig)) :=
  Finset.mem_union_right _ (Finset.mem_map_of_mem scEmb (Finset.mem_univ (c, k)))
theorem osem_dma (n : ℕ) (h : n < 48) (h4 : 4 ≤ n) : (.dma (dq n h) : SemLoc sig) = osem ⟨n - 4, by omega⟩ := by
  unfold osem
  have h1 : n - 4 < 44 := by omega
  have h2 : 4 + (n - 4) = n := by omega
  simp only [h1, dif_pos, h2]
theorem osem_end : endS = osem 44 := rfl

theorem inv_at (a : Ins F) (κ : GSem nD τ sig → ℕ) (c : Dev nD) {g : GSem nD τ sig} (hg : g ∈ (barCells ∪ scCells : Finset (GSem nD τ sig))) :
    env a κ c ⊢ cellInv ER (sched a) (κ g) g := by
  unfold env records
  iintro ⟨⟨H, -⟩, -⟩
  iapply (show (bigSep (barCells ∪ scCells) fun g => (cellInv ER (sched a) (κ g) g : sProp 𝕄)) ⊢ cellInv ER (sched a) (κ g) g from bigSep_elim hg) $$ H
theorem rch_at (c : Dev nD) (k : Fin 45) : rch (F := F) c ⊢ reached ER (cell c (osem k)) 0 := by
  unfold rch; exact bigSep_elim (Φ := fun k : Fin 45 => (reached ER (cell c (osem k)) 0 : sProp 𝕄)) (Finset.mem_univ k)

/-- A transfer semaphore of the device's own, before its transfer: the right to complete it, and to wait for it; -/
def snd (c : Dev nD) (n : ℕ) (h : n < 48 := by decide) : sProp 𝕄 := iprop(dutyTok ER (dc c n h) 0 false ∗ atPos ER (dc c n h) 0 ∅ 0)
/-- while the transfer is under way, -/
def fly (c : Dev nD) (n : ℕ) (h : n < 48 := by decide) : sProp 𝕄 := iprop(cred (tallyAt (dc c n h) () (amt (.dma (dq n h)))) ∗ atPos ER (dc c n h) 0 ∅ 0)
/-- and after it: the counter at zero. -/
def fin (c : Dev nD) (n : ℕ) (h : n < 48 := by decide) : sProp 𝕄 := semVal (dc c n h) 0
/-- The right to complete a neighbour's semaphore. -/
def tok (c : Dev nD) (n : ℕ) (h : n < 48 := by decide) : sProp 𝕄 := dutyTok ER (dc c n h) 0 false
/-- What the device still owes. -/
def ow (c : Dev nD) (n : ℕ) : sProp 𝕄 := iprop(∃ W, owes (c : Thread nD τ) (Oat c n) W)

end Cert.KernelIdeal
-- ==== Proof.Steps.lean ====
module

public import proofs.«01_k».proof.Proof.Protocol

@[expose] public section

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## The steps that touch only the device's own memory -/

/-- What is to hold at the end. -/
abbrev Post (F : FTy → Type) [FloatOps F] [Named F] := PUnit.{1} → sProp (MT nD τ sig Unit (Elt F) ℕ UU ℕ)
/-- Device `c`'s program from here on is safe and ends in `Q`. -/
abbrev W (c : Dev nD) (k : PU F) (Q : Post F) : sProp 𝕄 :=
  wp frame (wpE (defs₀ (F := F)) 𝒱₀ (c : Thread nD τ) none) Set.univ k Q

section Mem
variable {c : Dev nD} {Q : Post F} {cs : CoreSpace} {s : Shape} {e : EltTy}

theorem W_ret {c : Dev nD} {Q : Post F} : Q ⟨⟩ ⊢ W c (.ret ⟨⟩) Q := by
  unfold W; rw [wp_ret]; iintro H; imodintro; iexact H

theorem sep8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem sep7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem sep2 (Φ : Fin 2 → sProp 𝕄) : bigSep Finset.univ Φ = iprop(Φ 0 ∗ Φ 1) :=
  bigSep_univ_eq_bigSepL [0, 1] (by decide) (by decide) Φ

/-- Equal offsets, equal rectangles. -/
theorem emb_congr {β : Type} {s : Shape} {sz o o' : Fin s.rank → ℕ} (e : o = o') {h : ∀ x, o x + sz x ≤ s.size x} {h' : ∀ x, o' x + sz x ≤ s.size x}
    (f : s.Idx → β) : (fun x => f ((Rect.unit (s := s) o sz h).emb x)) = fun x => f ((Rect.unit (s := s) o' sz h').emb x) := by subst e; rfl

theorem held_any (v : Memref sig .tc cs s e) (w : s.Idx → Elt F e) : held c v fullShare w ⊢ anyv c v := by
  unfold held anyv; iintro ⟨%f, H, %hf⟩; iexists f; iexact H

/-- A held slice is loaded. -/
theorem ld (m : Memref sig .tc cs s e) (r : Rect s) (hr : ∀ a, r.stride a = 1) {q : PosShare TreeShare} {w : r.shape.Idx → Elt F e}
    {hl : m.view.LoadsAt r.toLoadRect} {k : (r.shape.Idx → Elt F e) → PU F} :
    held c (m.slice r hr) q w ⊢ iprop((held c (m.slice r hr) q w -∗ W c (k w) Q) -∗ W c (.op (.load m r.toLoadRect hl) k) Q) := by
  unfold held
  iintro ⟨%f, H, %hf⟩ Hk
  iapply (wp_load_rect 𝒱₀ (c : Thread nD τ) none Set.univ (m := m) (r := r) (S := (m.slice r hr).view.set) subset_rfl) $$ H
  iintro H
  rw [show (m.access r).read (Elt F) f = w from hf]
  iapply Hk
  iexists f
  isplitl [H]
  · iexact H
  · ipureintro; exact hf

/-- A slice is loaded and what it held is of no use. -/
theorem ldAny (m : Memref sig .tc cs s e) (r : Rect s) (hr : ∀ a, r.stride a = 1)
    {hl : m.view.LoadsAt r.toLoadRect} {k : PU F} :
    anyv c (m.slice r hr) ⊢ iprop((anyv c (m.slice r hr) -∗ W c k Q) -∗ W c (.op (.load m r.toLoadRect hl) fun _ => k) Q) := by
  unfold anyv
  iintro ⟨%f, H⟩ Hk
  iapply (wp_load_rect 𝒱₀ (c : Thread nD τ) none Set.univ (m := m) (r := r) (S := (m.slice r hr).view.set) subset_rfl) $$ H
  iintro H
  iapply Hk
  iexists f
  iexact H

/-- A part of a held memref is loaded. -/
theorem ldPart (m : Memref sig .tc cs s e) (r : Rect s) {q : PosShare TreeShare} {w : s.Idx → Elt F e}
    {hl : m.view.LoadsAt r.toLoadRect} {k : (r.shape.Idx → Elt F e) → PU F} :
    held c m q w ⊢ iprop((held c m q w -∗ W c (k fun i => w (r.emb i)) Q) -∗ W c (.op (.load m r.toLoadRect hl) k) Q) := by
  unfold held
  iintro ⟨%f, H, %hf⟩ Hk
  iapply (wp_load_rect 𝒱₀ (c : Thread nD τ) none Set.univ (m := m) (r := r) (S := m.view.set) (View.set_slice_subset _ _)) $$ H
  iintro H
  rw [show (m.access r).read (Elt F) f = (fun i => w (r.emb i)) from by subst hf; rfl]
  iapply Hk
  iexists f
  isplitl [H]
  · iexact H
  · ipureintro; exact hf

/-- A part of a held slice is loaded. -/
theorem ldSub (m : Memref sig .tc cs s e) (r r' : Rect s) (hr : ∀ a, r.stride a = 1) {q : PosShare TreeShare} {w : r.shape.Idx → Elt F e}
    (g : r'.shape.Idx → r.shape.Idx) (hg : ∀ i, r'.emb i = r.emb (g i))
    {hl : m.view.LoadsAt r'.toLoadRect} {k : (r'.shape.Idx → Elt F e) → PU F} :
    held c (m.slice r hr) q w ⊢ iprop((held c (m.slice r hr) q w -∗ W c (k fun i => w (g i)) Q) -∗ W c (.op (.load m r'.toLoadRect hl) k) Q) := by
  unfold held
  iintro ⟨%f, H, %hf⟩ Hk
  have hS : (m.access r').set ⊆ (m.slice r hr).view.set := by
    intro x hx
    obtain ⟨i, -, rfl⟩ := Finset.mem_map.mp hx
    exact Finset.mem_map.mpr ⟨g i, Finset.mem_univ _, congrArg m.view.emb (hg i).symm⟩
  iapply (wp_load_rect 𝒱₀ (c : Thread nD τ) none Set.univ (m := m) (r := r') (S := (m.slice r hr).view.set) hS) $$ H
  iintro H
  rw [show (m.access r').read (Elt F) f = (fun i => w (g i)) from by
    subst hf; funext i; show m.view.read (Elt F) f (r'.emb i) = m.view.read (Elt F) f (r.emb (g i)); rw [hg i]]
  iapply Hk
  iexists f
  isplitl [H]
  · iexact H
  · ipureintro; exact hf

/-- A slice is stored. -/
theorem st (m : Memref sig .tc cs s e) (r : Rect s) (hr : ∀ a, r.stride a = 1) {v : r.shape.Idx → Elt F e}
    {h : (m.access r).Stores Finset.univ} {hm} {k : PUnit → PU F} :
    anyv c (m.slice r hr) ⊢ iprop((held c (m.slice r hr) fullShare v -∗ W c (k ⟨⟩) Q) -∗ W c (.op (.store m r v Finset.univ h hm) k) Q) := by
  unfold held anyv
  iintro ⟨%f, H⟩ Hk
  iapply (wp_store 𝒱₀ (c : Thread nD τ) none Set.univ (m := m) (r := r) (S := (m.slice r hr).view.set) subset_rfl) $$ H
  iintro H
  iapply Hk
  iexists _
  isplitl [H]
  · iexact H
  · ipureintro; exact View.read_write_univ (v := (m.slice r hr).view) f v

/-- A whole memref is stored. -/
theorem stAll (m : Memref sig .tc cs s e) (r : Rect s) {v : r.shape.Idx → Elt F e} (v' : s.Idx → Elt F e)
    (g : s.Idx → r.shape.Idx) (hg : ∀ i, r.emb (g i) = i) (hv : ∀ i, v (g i) = v' i)
    {h : (m.access r).Stores Finset.univ} {hm} {k : PUnit → PU F} :
    anyv c m ⊢ iprop((held c m fullShare v' -∗ W c (k ⟨⟩) Q) -∗ W c (.op (.store m r v Finset.univ h hm) k) Q) := by
  unfold held anyv
  iintro ⟨%f, H⟩ Hk
  iapply (wp_store 𝒱₀ (c : Thread nD τ) none Set.univ (m := m) (r := r) (S := m.view.set) (View.set_slice_subset _ _)) $$ H
  iintro H
  iapply Hk
  iexists _
  isplitl [H]
  · iexact H
  · ipureintro
    funext i
    refine Eq.trans ?_ ((congrFun (View.read_write_univ (v := m.access r) f v) (g i)).trans (hv i))
    show m.view.read (Elt F) _ i = m.view.read (Elt F) _ (r.emb (g i))
    rw [hg]

/-- A held memref's share is split in three, -/
theorem held_split (m : Memref sig .tc cs s e) {w : s.Idx → Elt F e} :
    held c m fullShare w ⊢ iprop(held c m qA w ∗ held c m qB w ∗ held c m qC w) := by
  unfold held
  iintro ⟨%f, H, %hf⟩
  ihave H := (pointsTo_share (PosShare.mem_left_op_right fullShare)).1 $$ H
  icases H with ⟨HA, HR⟩
  ihave HR := (pointsTo_share (PosShare.mem_left_op_right fullShare.right)).1 $$ HR
  icases HR with ⟨HB, HC⟩
  isplitl [HA]
  · iexists f; isplitl [HA]; · iexact HA
    ipureintro; exact hf
  isplitl [HB]
  · iexists f; isplitl [HB]; · iexact HB
    ipureintro; exact hf
  iexists f; isplitl [HC]; · iexact HC
  ipureintro; exact hf

/-- two holders of one memref have the same contents there, -/
theorem held_join (m : Memref sig .tc cs s e) {w w' : s.Idx → Elt F e} {q q₁ q₂ : PosShare TreeShare} (hq : q ∈ PCS.op q₁ q₂) :
    iprop(held c m q₁ w ∗ held c m q₂ w') ⊢ held c m q w := by
  unfold held
  iintro ⟨⟨%f, H, %hf⟩, %g, H', -⟩
  ihave %hfg := pointsTo_agree $$ [H H']
  · isplitl [H] <;> iassumption
  ihave H' := (Entails.of_eq (pointsTo_congr (f := g) (g := f) fun i hi => ((hfg i (Finset.mem_inter.mpr ⟨hi, hi⟩)).1).symm)) $$ H'
  iexists f
  isplitl [H H']
  · iapply (pointsTo_share hq).2
    isplitl [H]; · iexact H
    iexact H'
  · ipureintro; exact hf

/-- and the three shares make the whole. -/
theorem held_merge (m : Memref sig .tc cs s e) {w : s.Idx → Elt F e} :
    held c m qA w ⊢ iprop(held c m qB w -∗ held c m qC w -∗ held c m fullShare w) := by
  iintro HA HB HC
  iapply (held_join m (PosShare.mem_left_op_right fullShare))
  isplitl [HA]; · iexact HA
  iapply (held_join m (PosShare.mem_left_op_right fullShare.right))
  isplitl [HB]; · iexact HB
  iexact HC

end Mem

/-! ### The pieces -/

section Pieces
variable {a : Ins F} {c : Dev nD} {Q : Post F} {k : PU F}

/-- The rectangle at no offset, of all sizes, is everything. -/
theorem emb_zero2 (h : ∀ x, (![0, 0] : Fin 2 → ℕ) x + S256x1024.size x ≤ S256x1024.size x) (i : S256x1024.Idx) :
    (Rect.unit (s := S256x1024) ![0, 0] S256x1024.size h).emb i = i := by
  refine funext fun x => Fin.ext ?_
  rw [Rect.emb_apply]
  show (![0, 0] : Fin 2 → ℕ) x + 1 * (i x).val = (i x).val
  fin_cases x
  · exact (Nat.zero_add _).trans (Nat.one_mul _)
  · exact (Nat.zero_add _).trans (Nat.one_mul _)

theorem wp_ownRows {o : Fin 2 → ℕ} {i} {h} (ho : o = xo c) {q : PosShare TreeShare} :
    held c xStg q (a.x c) ⊢ iprop(anyv c (xK c) -∗ ((held c xStg q (a.x c) ∗ held c (xK c) fullShare (xv a c)) -∗ W c k Q) -∗ W c (ownRows o i h k) Q) := by
  subst ho
  iintro Hx Ho Hk
  unfold ownRows
  iapply (ldPart xStg _) $$ Hx
  iintro Hx
  rw [show (fun j => a.x c ((Rect.unit (s := S256x1024) ![0, 0] S256x1024.size inb_S256x1024_S256x1024_0_0).emb j)) = a.x c from
    funext fun j => congrArg (a.x c) (emb_zero2 _ j)]
  iapply (ldAny xM (Rect.unit (s := S2048x1024) (xo c) S256x1024.size (xi c)) (fun _ => rfl)) $$ Ho
  iintro Ho
  iapply (st xM (Rect.unit (s := S2048x1024) (xo c) S256x1024.size (xi c)) (fun _ => rfl)) $$ Ho
  iintro Ho
  iapply Hk
  isplitl [Hx]; · iexact Hx
  iexact Ho

/-- A part of a head's block, as a part of the buffer. -/
theorem emb_head (h : Fin 8) {r n : ℕ} (hr : r + n ≤ 4096)
    (h1 : ∀ x, (![h.val, r, 0] : Fin 3 → ℕ) x + (![1, n, 128] : Fin 3 → ℕ) x ≤ S8x4096x128.size x) (i) :
    (Rect.unit (s := S8x4096x128) ![h.val, r, 0] ![1, n, 128] h1).emb i
      = (Rect.unit (s := S8x4096x128) (so h.val) S1x4096x128.size (ki h)).emb ((Rect.unit (s := S1x4096x128) ![0, r, 0] ![1, n, 128] (bi hr)).emb i) := by
  refine funext fun x => Fin.ext ?_
  rw [Rect.emb_apply, Rect.emb_apply, Rect.emb_apply]
  show (![h.val, r, 0] : Fin 3 → ℕ) x + 1 * (i x).val = so h.val x + 1 * ((![0, r, 0] : Fin 3 → ℕ) x + 1 * (i x).val)
  fin_cases x
  · show h.val + 1 * _ = h.val + 1 * (0 + 1 * _); omega
  · show r + 1 * _ = 0 + 1 * (r + 1 * _); omega
  · show 0 + 1 * _ = 0 + 1 * (0 + 1 * _); omega

theorem wp_kvLoad {m : Memref sig .tc .vmem S8x4096x128 .f32} {h : Fin 8} {r : ℕ} (hr : r + 1024 ≤ 4096) {o : Fin 3 → ℕ} {i}
    (ho : o = ![h.val, r, 0]) {q : PosShare TreeShare} {w : Vec F S1x4096x128 .f32} {k : Vec F S1x1024x128 .f32 → PU F} :
    held c (kvB m h) q w ⊢ iprop((held c (kvB m h) q w -∗ W c (k (blk w r hr)) Q) -∗ W c (kvLoad m o i k) Q) := by
  subst ho
  exact ldSub m (Rect.unit (s := S8x4096x128) (so h.val) S1x4096x128.size (ki h)) _ (fun _ => rfl) _ (emb_head h hr i)

theorem wp_kvFirst {m : Memref sig .tc .vmem S8x4096x128 .f32} {h : Fin 8} {o : Fin 3 → ℕ} {i}
    (ho : o = ![h.val, 0, 0]) {q : PosShare TreeShare} {w : Vec F S1x4096x128 .f32} {k : Vec F S1x256x128 .f32 → PU F} :
    held c (kvB m h) q w ⊢ iprop((held c (kvB m h) q w -∗ W c (k (fst w)) Q) -∗ W c (kvFirst m o i k) Q) := by
  subst ho
  exact ldSub m (Rect.unit (s := S8x4096x128) (so h.val) S1x4096x128.size (ki h)) _ (fun _ => rfl) _ (emb_head h (by decide) i)

theorem wp_ctxPut {h : Fin 8} {o : Fin 3 → ℕ} {i} {hs} (ho : o = so h.val) {w : Vec F S1x256x128 .bf16} :
    anyv c (cK h) ⊢ iprop((held c (cK h) fullShare w -∗ W c k Q) -∗ W c (ctxPut o i hs w k) Q) := by
  subst ho
  iintro Hc Hk
  unfold ctxPut
  iapply (ldAny cM (Rect.unit (s := S8x256x128) (so h.val) S1x256x128.size (ci h)) (fun _ => rfl)) $$ Hc
  iintro Hc
  iapply (st cM (Rect.unit (s := S8x256x128) (so h.val) S1x256x128.size (ci h)) (fun _ => rfl)) $$ Hc
  iexact Hk

/-- A head's keys and values, in the device's memory. -/
def kvs (a : Ins F) (c : Dev nD) (h : Fin 8) : sProp 𝕄 :=
  iprop(held c (kvB kM h) fullShare (kvv (a.k c) c h) ∗ held c (kvB vM h) fullShare (kvv (a.v c) c h))

theorem wp_headFull {t : Fin k0_t2_loop.trips} {h : Fin 8} (ht : t.val = h.val) {q : FVec F S256x128 .bf16} {K V : Vec F S1x4096x128 .f32} :
    held c (kvB kM h) fullShare K ⊢ iprop(held c (kvB vM h) fullShare V -∗ anyv c (cK h) -∗
      ((held c (kvB kM h) fullShare K ∗ held c (kvB vM h) fullShare V
        ∗ held c (cK h) fullShare (fullOf q (blk K 0 (by decide)) (blk K 1024 (by decide)) (blk K 2048 (by decide)) (blk K 3072 (by decide))
            (blk V 0 (by decide)) (blk V 1024 (by decide)) (blk V 2048 (by decide)) (blk V 3072 (by decide)))) -∗ W c k Q)
      -∗ W c (headFull t q k) Q) := by
  iintro HK HV Hc Hk
  unfold headFull
  iapply (wp_kvLoad (h := h) (r := 0) (by decide) ((k0_off22_eq t).trans (by rw [ht]))) $$ HK
  iintro HK
  iapply (wp_kvLoad (h := h) (r := 0) (by decide) ((k0_off22_eq t).trans (by rw [ht]))) $$ HV
  iintro HV
  iapply (wp_kvLoad (h := h) (r := 1024) (by decide) ((k0_off23_eq t).trans (by rw [ht]))) $$ HK
  iintro HK
  iapply (wp_kvLoad (h := h) (r := 1024) (by decide) ((k0_off23_eq t).trans (by rw [ht]))) $$ HV
  iintro HV
  iapply (wp_kvLoad (h := h) (r := 2048) (by decide) ((k0_off24_eq t).trans (by rw [ht]))) $$ HK
  iintro HK
  iapply (wp_kvLoad (h := h) (r := 2048) (by decide) ((k0_off24_eq t).trans (by rw [ht]))) $$ HV
  iintro HV
  iapply (wp_kvLoad (h := h) (r := 3072) (by decide) ((k0_off25_eq t).trans (by rw [ht]))) $$ HK
  iintro HK
  iapply (wp_kvLoad (h := h) (r := 3072) (by decide) ((k0_off25_eq t).trans (by rw [ht]))) $$ HV
  iintro HV
  iapply (wp_ctxPut (h := h) ((k0_off26_eq t).trans (by rw [ht]))) $$ Hc
  iintro Hc
  iapply Hk
  isplitl [HK]; · iexact HK
  isplitl [HV]; · iexact HV
  iexact Hc

theorem wp_headWin {t : Fin k0_t2_loop.trips} {h : Fin 8} (ht : t.val = h.val) {q : FVec F S256x128 .bf16} {K V : Vec F S1x4096x128 .f32}
    {r : ℕ} (hr : r + 1024 ≤ 4096) {o : Fin 3 → ℕ} {i} (ho : o = ![h.val, r, 0]) :
    held c (kvB kM h) fullShare K ⊢ iprop(held c (kvB vM h) fullShare V -∗ anyv c (cK h) -∗
      ((held c (kvB kM h) fullShare K ∗ held c (kvB vM h) fullShare V
        ∗ held c (cK h) fullShare (winOf q (blk K r hr) (fst K) (blk V r hr) (fst V))) -∗ W c k Q)
      -∗ W c (headWin t o i q k) Q) := by
  iintro HK HV Hc Hk
  unfold headWin
  iapply (wp_kvLoad hr ho) $$ HK
  iintro HK
  iapply (wp_kvFirst (h := h) ((k0_off28_eq t).trans (by rw [ht]))) $$ HK
  iintro HK
  iapply (wp_kvLoad hr ho) $$ HV
  iintro HV
  iapply (wp_kvFirst (h := h) ((k0_off28_eq t).trans (by rw [ht]))) $$ HV
  iintro HV
  iapply (wp_ctxPut (h := h) ((k0_off26_eq t).trans (by rw [ht]))) $$ Hc
  iintro Hc
  iapply Hk
  isplitl [HK]; · iexact HK
  isplitl [HV]; · iexact HV
  iexact Hc

/-- One head: its keys, values and weights are read, its result is written. -/
theorem wp_headOne {o : Fin 2 → ℕ} {i} {cg cw : BitVec 1} {oW} {iW} {t : Fin k0_t2_loop.trips} {h j : Fin 8} (ht : t.val = h.val) (ho : o = xo j)
    (hg : cg = 1#1 ↔ j = 0) (hw : cw = 1#1 ↔ j ≠ 0) (hoW : j ≠ 0 → oW t = ![h.val, 256 * j.val - 128, 0]) {q q' : PosShare TreeShare} :
    held c (xK j) q (xv a j) ⊢ iprop(held c wqM q' (a.wq c) -∗ kvs a c h -∗ anyv c (cK h) -∗
      ((held c (xK j) q (xv a j) ∗ held c wqM q' (a.wq c) ∗ kvs a c h ∗ held c (cK h) fullShare (cx a c j h)) -∗ Q ⟨⟩)
      -∗ W c (headOne o i cg cw oW iW t) Q) := by
  subst ho
  unfold kvs
  iintro Hx Hw ⟨HK, HV⟩ Hc Hk
  unfold headOne
  iapply (ld xM (Rect.unit (s := S2048x1024) (xo j) S256x1024.size (xi j)) (fun _ => rfl)) $$ Hx
  iintro Hx
  iapply (ldPart wqM _) $$ Hw
  iintro Hw
  rw [show (fun x => a.wq c ((Rect.unit (s := S8x1024x128) (k0_off21 t) S1x1024x128.size (k0_off21_inb t)).emb x)) = wqv a c h from
    emb_congr ((k0_off21_eq t).trans (by rw [ht])) (a.wq c)]
  by_cases hj : j = 0
  · rw [dif_pos (hg.mpr hj), dif_neg (fun hc => hw.mp hc hj)]
    iapply (wp_headFull (h := h) ht) $$ HK HV Hc
    iintro ⟨HK, HV, Hc⟩
    iapply W_ret
    iapply Hk
    isplitl [Hx]; · iexact Hx
    isplitl [Hw]; · iexact Hw
    isplitl [HK HV]
    · isplitl [HK]; · iexact HK
      iexact HV
    rw [show cx a c j h = _ from if_pos hj]
    iexact Hc
  · rw [dif_neg (fun hc => hj (hg.mp hc)), dif_pos (hw.mpr hj)]
    iapply (wp_headWin (h := h) ht (win_le j) (hoW hj)) $$ HK HV Hc
    iintro ⟨HK, HV, Hc⟩
    iapply W_ret
    iapply Hk
    isplitl [Hx]; · iexact Hx
    isplitl [Hw]; · iexact Hw
    isplitl [HK HV]
    · isplitl [HK]; · iexact HK
      iexact HV
    rw [show cx a c j h = _ from if_neg hj]
    iexact Hc

/-- A loop over the heads, each turning its own part from one state to the next beside what all share. -/
theorem wp_heads_loop (B : Fin k0_t2_loop.trips → PU F) (S : sProp 𝕄) (P R : Fin 8 → sProp 𝕄)
    (hB : ∀ (t : Fin k0_t2_loop.trips) (h : Fin 8), t.val = h.val → iprop(S ∗ P h) ⊢ W c (B t) fun _ => iprop(S ∗ R h)) :
    S ⊢ iprop(bigSep Finset.univ P -∗ ((S ∗ bigSep Finset.univ R) -∗ W c k Q)
      -∗ W c ((Scf.Loop.for k0_t2_loop k0_t2_ok PUnit.unit fun t _ => B t).bind fun _ => k) Q) := by
  have hfor := Scf.wp_for_bind (Fr := frame) (wpE := wpE (defs₀ (F := F)) 𝒱₀ (c : Thread nD τ) none) (Es := Set.univ)
    k0_t2_loop.lb k0_t2_loop.ub k0_t2_loop.st k0_t2_ok PUnit.unit (fun t _ => B t)
    (fun n _ => iprop(S ∗ bigSep Finset.univ fun h : Fin 8 => if h.val < n then R h else P h))
    (fun t _ => by
      have hh : t.val < 8 := t.isLt
      have e1 : (bigSep Finset.univ fun h : Fin 8 => if h.val < t.val then R h else P h)
          = iprop(P ⟨t.val, hh⟩ ∗ bigSep (Finset.univ.erase ⟨t.val, hh⟩) fun h : Fin 8 => if h.val < t.val then R h else P h) := by
        refine (BI.bigSep_erase (Finset.mem_univ (⟨t.val, hh⟩ : Fin 8))).trans ?_
        rw [if_neg (lt_irrefl _)]
        rfl
      have e2 : (bigSep Finset.univ fun h : Fin 8 => if h.val < t.val + 1 then R h else P h)
          = iprop(R ⟨t.val, hh⟩ ∗ bigSep (Finset.univ.erase ⟨t.val, hh⟩) fun h : Fin 8 => if h.val < t.val then R h else P h) := by
        refine (BI.bigSep_erase (Finset.mem_univ (⟨t.val, hh⟩ : Fin 8))).trans ?_
        rw [if_pos (Nat.lt_succ_self _)]
        congr 1
        refine bigSep_congr fun h hm => ?_
        have : h.val ≠ t.val := fun hv => (Finset.mem_erase.mp hm).1 (Fin.ext hv)
        by_cases hl : h.val < t.val
        · rw [if_pos hl, if_pos (by omega)]
        · rw [if_neg hl, if_neg (by omega)]
      rw [e1, e2]
      iintro ⟨HS, HP, HR⟩
      iapply (wp_wand_r frame (wpE (defs₀ (F := F)) 𝒱₀ (c : Thread nD τ) none) Set.univ)
      isplitl [HS HP]
      · iapply (hB t ⟨t.val, hh⟩ rfl)
        isplitl [HS]; · iexact HS
        iexact HP
      · iintro %_ ⟨HS, HR'⟩
        isplitl [HS]; · iexact HS
        isplitl [HR']; · iexact HR'
        iexact HR)
    (kk := fun _ => k) (Q := Q)
  iintro HS HP Hk
  iapply hfor $$ [HS HP]
  · isplitl [HS]; · iexact HS
    rw [show (bigSep Finset.univ fun h : Fin 8 => if h.val < 0 then R h else P h) = bigSep Finset.univ P from
      bigSep_congr fun h _ => if_neg (Nat.not_lt_zero _)]
    iexact HP
  · iintro %_ ⟨HS, HR⟩
    iapply Hk
    isplitl [HS]; · iexact HS
    iapply (Entails.of_eq (show (bigSep Finset.univ fun h : Fin 8 => if h.val < Scf.trips k0_t2_loop.lb k0_t2_loop.ub k0_t2_loop.st then R h else P h)
      = bigSep Finset.univ R from bigSep_congr fun h _ => if_pos h.isLt)) $$ HR

/-- The eight heads on one chunk. -/
theorem wp_heads {o : Fin 2 → ℕ} {i} {cg cw : BitVec 1} {oW} {iW} {j : Fin 8} (ho : o = xo j)
    (hg : cg = 1#1 ↔ j = 0) (hw : cw = 1#1 ↔ j ≠ 0) (hoW : ∀ t : Fin k0_t2_loop.trips, j ≠ 0 → oW t = ![t.val, 256 * j.val - 128, 0])
    {q q' : PosShare TreeShare} :
    held c (xK j) q (xv a j) ⊢ iprop(held c wqM q' (a.wq c) -∗ (bigSep Finset.univ fun h => kvs a c h) -∗ (bigSep Finset.univ fun h : Fin 8 => anyv c (cK h)) -∗
      ((held c (xK j) q (xv a j) ∗ held c wqM q' (a.wq c) ∗ (bigSep Finset.univ fun h => kvs a c h)
        ∗ bigSep Finset.univ fun h : Fin 8 => held c (cK h) fullShare (cx a c j h)) -∗ W c k Q)
      -∗ W c (heads o i cg cw oW iW k) Q) := by
  iintro Hx Hw HK Hc Hk
  unfold heads
  iapply (wp_heads_loop (headOne o i cg cw oW iW) iprop(held c (xK j) q (xv a j) ∗ held c wqM q' (a.wq c))
    (fun h => iprop(kvs a c h ∗ anyv c (cK h))) (fun h => iprop(kvs a c h ∗ held c (cK h) fullShare (cx a c j h))) (fun t h ht => by
      iintro ⟨⟨Hx, Hw⟩, HK, Hc⟩
      iapply (wp_headOne (h := h) ht ho hg hw (fun hj => (hoW t hj).trans (by rw [ht]))) $$ Hx Hw HK Hc
      iintro ⟨Hx, Hw, HK, Hc⟩
      isplitl [Hx Hw]
      · isplitl [Hx]; · iexact Hx
        iexact Hw
      isplitl [HK]; · iexact HK
      iexact Hc)) $$ [Hx Hw] [HK Hc]
  · isplitl [Hx]; · iexact Hx
    iexact Hw
  · rw [bigSep_sep']
    isplitl [HK]; · iexact HK
    iexact Hc
  · rw [bigSep_sep']
    iintro ⟨⟨Hx, Hw⟩, HK, Hc⟩
    iapply Hk
    isplitl [Hx]; · iexact Hx
    isplitl [Hw]; · iexact Hw
    isplitl [HK]; · iexact HK
    iexact Hc

theorem wp_cwLoad (h : Fin 8) {o : Fin 3 → ℕ} {i} {i'} (ho : o = so h.val) {w : Vec F S1x256x128 .bf16} {q q' : PosShare TreeShare}
    {k : Vec F S1x256x128 .bf16 → Vec F S1x128x1024 .bf16 → PU F} :
    held c (cK h) q w ⊢ iprop(held c woM q' (a.wo c) -∗ ((held c (cK h) q w ∗ held c woM q' (a.wo c)) -∗ W c (k w (wov a c h)) Q) -∗ W c (cwLoad o i i' k) Q) := by
  subst ho
  iintro Hc Hw Hk
  unfold cwLoad
  iapply (ld cM (Rect.unit (s := S8x256x128) (so h.val) S1x256x128.size (ci h)) (fun _ => rfl)) $$ Hc
  iintro Hc
  iapply (ldPart woM _) $$ Hw
  iintro Hw
  iapply Hk
  isplitl [Hc]; · iexact Hc
  iexact Hw

theorem wp_pLoad {j : Fin 8} {o : Fin 2 → ℕ} {i} (ho : o = xo j) {w : Vec F S256x1024 .f32} {q : PosShare TreeShare} {k : Vec F S256x1024 .f32 → PU F} :
    held c (pK j) q w ⊢ iprop((held c (pK j) q w -∗ W c (k w) Q) -∗ W c (pLoad o i k) Q) := by
  subst ho
  exact ld pM (Rect.unit (s := S2048x1024) (xo j) S256x1024.size (xi j)) (fun _ => rfl)

theorem wp_pPut {j : Fin 8} {o : Fin 2 → ℕ} {i} (ho : o = xo j) {w : Vec F S256x1024 .f32} :
    anyv c (pK j) ⊢ iprop((held c (pK j) fullShare w -∗ W c k Q) -∗ W c (pPut o i w k) Q) := by
  subst ho
  iintro Hp Hk
  unfold pPut pLoad
  iapply (ldAny pM (Rect.unit (s := S2048x1024) (xo j) S256x1024.size (xi j)) (fun _ => rfl)) $$ Hp
  iintro Hp
  iapply (st pM (Rect.unit (s := S2048x1024) (xo j) S256x1024.size (xi j)) (fun _ => rfl)) $$ Hp
  iexact Hk

theorem wp_rLoad {s : Fin 7} {o : Fin 3 → ℕ} {i} (ho : o = so s.val) {w : Vec F S1x256x1024 .bf16} {q : PosShare TreeShare} {k : Vec F S1x256x1024 .bf16 → PU F} :
    held c (rK s) q w ⊢ iprop((held c (rK s) q w -∗ W c (k w) Q) -∗ W c (rLoad o i k) Q) := by
  subst ho
  exact ld rM (Rect.unit (s := S7x256x1024) (so s.val) S1x256x1024.size (ri s)) (fun _ => rfl)

theorem wp_sPut {j : Fin 8} {b : Fin 2} {o : Fin 2 → ℕ} {i} {o' : Fin 3 → ℕ} {i'} {h} (ho : o = xo j) (ho' : o' = so b.val) {w : Vec F S256x1024 .f32} {q : PosShare TreeShare} :
    held c (pK j) q w ⊢ iprop(anyv c (sK b) -∗ ((held c (pK j) q w ∗ held c (sK b) fullShare (k0_pay239 w)) -∗ W c k Q) -∗ W c (sPut o i o' i' h k) Q) := by
  subst ho'
  iintro Hp Hs Hk
  unfold sPut
  iapply (wp_pLoad ho) $$ Hp
  iintro Hp
  iapply (ldAny sM (Rect.unit (s := S2x256x1024) (so b.val) S1x256x1024.size (si b)) (fun _ => rfl)) $$ Hs
  iintro Hs
  iapply (st sM (Rect.unit (s := S2x256x1024) (so b.val) S1x256x1024.size (si b)) (fun _ => rfl)) $$ Hs
  iintro Hs
  iapply Hk
  isplitl [Hp]; · iexact Hp
  iexact Hs

theorem wp_addTo {j : Fin 8} {s : Fin 7} {o : Fin 2 → ℕ} {i} {o' : Fin 3 → ℕ} {i'} (ho : o = xo j) (ho' : o' = so s.val) {w : Vec F S256x1024 .f32} {m : Vec F S1x256x1024 .bf16} {q : PosShare TreeShare} :
    held c (pK j) fullShare w ⊢ iprop(held c (rK s) q m -∗
      ((held c (pK j) fullShare (k0_pay248 (k0_pay247 w m)) ∗ held c (rK s) q m) -∗ W c k Q) -∗ W c (addTo o i o' i' k) Q) := by
  iintro Hp Hr Hk
  unfold addTo
  iapply (wp_pLoad ho) $$ Hp
  iintro Hp
  iapply (wp_rLoad ho') $$ Hr
  iintro Hr
  ihave Hp := held_any _ _ $$ Hp
  iapply (wp_pPut ho) $$ Hp
  iintro Hp
  iapply Hk
  isplitl [Hp]; · iexact Hp
  iexact Hr

theorem wp_outPut {j : Fin 8} {s : Fin 7} {o : Fin 2 → ℕ} {i} {o' : Fin 3 → ℕ} {i'} (ho : o = xo j) (ho' : o' = so s.val) {w : Vec F S256x1024 .f32} {m : Vec F S1x256x1024 .bf16} {q q' : PosShare TreeShare} :
    held c (pK j) q w ⊢ iprop(held c (rK s) q' m -∗ anyv c outM -∗
      ((held c (pK j) q w ∗ held c (rK s) q' m ∗ held c outM fullShare (k0_pay297 w m)) -∗ W c k Q) -∗ W c (outPut o i o' i' k) Q) := by
  iintro Hp Hr Ho Hk
  unfold outPut
  iapply (wp_pLoad ho) $$ Hp
  iintro Hp
  iapply (wp_rLoad ho') $$ Hr
  iintro Hr
  unfold anyv
  icases Ho with ⟨%f, Ho⟩
  iapply (ldPart outM _ (w := outM.view.read (Elt F) f)) $$ [Ho]
  · unfold held; iexists f; isplitl [Ho]; · iexact Ho
    ipureintro; rfl
  iintro Ho
  ihave Ho := held_any _ _ $$ Ho
  iapply (stAll outM (Rect.unit (s := S256x1024) ![0, 0] S256x1024.size inb_S256x1024_S256x1024_0_0) (k0_pay297 w m) (fun i => i) (emb_zero2 _) (fun _ => rfl)) $$ Ho
  iintro Ho
  iapply Hk
  isplitl [Hp]; · iexact Hp
  isplitl [Hr]; · iexact Hr
  iexact Ho

/-- The heads' results are multiplied into a chunk's rows. -/
theorem wp_project {j : Fin 8} {o : Fin 2 → ℕ} {i} (ho : o = xo j) {q : PosShare TreeShare} :
    (bigSep Finset.univ fun h : Fin 8 => held c (cK h) fullShare (cx a c j h)) ⊢ iprop(held c woM q (a.wo c) -∗ anyv c (pK j) -∗
      (((bigSep Finset.univ fun h : Fin 8 => anyv c (cK h)) ∗ held c woM q (a.wo c) ∗ held c (pK j) fullShare (pr a c j)) -∗ W c k Q)
      -∗ W c (project o i k) Q) := by
  rw [sep8, sep8]
  iintro ⟨H0, H1, H2, H3, H4, H5, H6, H7⟩ Hw Hp Hk
  unfold project
  iapply (wp_cwLoad 0 rfl) $$ H0 Hw
  iintro ⟨H0, Hw⟩
  iapply (wp_cwLoad 1 rfl) $$ H1 Hw
  iintro ⟨H1, Hw⟩
  iapply (wp_cwLoad 2 rfl) $$ H2 Hw
  iintro ⟨H2, Hw⟩
  iapply (wp_cwLoad 3 rfl) $$ H3 Hw
  iintro ⟨H3, Hw⟩
  iapply (wp_cwLoad 4 rfl) $$ H4 Hw
  iintro ⟨H4, Hw⟩
  iapply (wp_cwLoad 5 rfl) $$ H5 Hw
  iintro ⟨H5, Hw⟩
  iapply (wp_cwLoad 6 rfl) $$ H6 Hw
  iintro ⟨H6, Hw⟩
  iapply (wp_cwLoad 7 rfl) $$ H7 Hw
  iintro ⟨H7, Hw⟩
  iapply (wp_pPut ho) $$ Hp
  iintro Hp
  iapply Hk
  isplitr [Hw Hp]
  · isplitl [H0]; · iapply held_any _ _ $$ H0
    isplitl [H1]; · iapply held_any _ _ $$ H1
    isplitl [H2]; · iapply held_any _ _ $$ H2
    isplitl [H3]; · iapply held_any _ _ $$ H3
    isplitl [H4]; · iapply held_any _ _ $$ H4
    isplitl [H5]; · iapply held_any _ _ $$ H5
    isplitl [H6]; · iapply held_any _ _ $$ H6
    iapply held_any _ _ $$ H7
  isplitl [Hw]; · iexact Hw
  iexact Hp

end Pieces

end Cert.KernelIdeal
-- ==== Proof.Comm.lean ====
module

public import proofs.«01_k».proof.Proof.Steps
public import Idealize.ShloMosaic.Lib.ViewIndex

@[expose] public section

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## The steps that involve semaphores -/

section Comm
variable {a : Ins F} {κ : GSem nD τ sig → ℕ} {c : Dev nD} {Q : Post F} {k : PU F}

theorem mayWait' (c : Dev nD) (sm : SemLoc sig) (n : ℕ) (h : ∀ i : Fin 18, n ≤ i.val → slv sm < slv (pp i.val).1) :
    env a κ c ⊢ MayWait (c : Thread nD τ) sm () (Oat c n) := by
  unfold env
  iintro ⟨-, -, H⟩
  iapply (mayWait c sm n fun i h1 h2 => h ⟨i, h2⟩ h1) $$ H

theorem dma_mem (c : Dev nD) (n : ℕ) (h : n < 48) (h4 : 4 ≤ n) : dc c n h ∈ (barCells ∪ scCells : Finset (GSem nD τ sig)) := by
  unfold dc; rw [osem_dma n h h4]; exact sc_mem c _
theorem rch_dma (c : Dev nD) (n : ℕ) (h : n < 48) (h4 : 4 ≤ n) : rch (F := F) c ⊢ reached ER (dc c n h) 0 := by
  unfold dc; rw [osem_dma n h h4]; exact rch_at c _
theorem env_rch : env a κ c ⊢ rch c := by unfold env; iintro ⟨-, H, -⟩; iexact H

/-- A transfer's completion is waited for. -/
theorem wp_wait {n : ℕ} {hn : n < 48} (h4 : 4 ≤ n) (i : ℕ) (hlv : ∀ j : Fin 18, i ≤ j.val → slv (.dma (dq n hn)) < slv (pp j.val).1)
    {sp sp' : Space} {s : Shape} {e : EltTy} {src : Memref sig .tc sp s e} {dst : Memref sig .tc sp' s e} {hs hd}
    (hN : dst.view.dmaCredit = amt (.dma (dq n hn))) :
    env a κ c ⊢ iprop(fly c n hn -∗ ow c i -∗ ((ow c i ∗ pay a c n ∗ fin c n hn) -∗ W c k Q)
      -∗ W c (.op (.waitDma2 (dq n hn) src dst hs hd) fun _ => k) Q) := by
  unfold fly ow fin
  iintro #He ⟨Hc, Ha⟩ ⟨%w, Ho⟩ Hk
  ihave #Hi := (inv_at a κ c (dma_mem c n hn h4)) $$ He
  ihave Hm := (mayWait' c (.dma (dq n hn)) i hlv) $$ He
  iapply (Rounds.wp_wait_rest_token 𝒱₀ ER (sched a) (c : Thread nD τ) none (κ := κ (dc c n hn)) (wpE_waitDma2_eq (src := src) (dst := dst) 𝒱₀ (c : Thread nD τ) none Set.univ)
    (Set.mem_univ _) () (O := Oat c i) (W := w) (R := 0) (m := 0) (T := ∅)
    ((Nat.zero_add _).trans (hN.trans (expect_dma a c (dq n hn)).symm))) $$ [Hc Ha Ho Hm]
  · isplitr; · iexact Hi
    isplitl [Hc]
    · rw [hN]; iexact Hc
    isplitl [Ho]; · iexact Ho
    isplitl [Hm]; · iexact Hm
    iexact Ha
  · iintro ⟨Ho, Ha, -, Hp⟩
    ihave Hp := (Entails.of_eq (rest_dma a c (dq n hn))) $$ Hp
    imod (Rounds.cell_close ER (sched a) (Set.mem_univ (κ (dc c n hn))) id (duties_later a (dc c n hn))) $$ [Ha] with Hz
    · isplitr; · iexact Hi
      iexact Ha
    iapply Hk
    isplitl [Ho]; · iexists _; iexact Ho
    isplitl [Hp]; · iexact Hp
    iexact Hz

/-- A transfer to a neighbour is started. -/
theorem wp_send {nS nR : ℕ} {hS : nS < 48} {hR : nR < 48} (hS4 : 4 ≤ nS) (hR4 : 4 ≤ nR) {d e : Dev nD} (hd : d = e) (i : ℕ) (hi : i < 18) (he : e = c + (pp i).2) (hp : (pp i).1 = .dma (dq nR hR))
    {sp sp' : Space} {s : Shape} {el : EltTy} {src : Memref sig .tc sp s el} {dst : Memref sig .tc sp' s el} {hsc} {hs hd' ht}
    (hN : dst.view.dmaCredit = amt (.dma (dq nR hR))) (hN' : amt (.dma (dq nS hS)) = amt (.dma (dq nR hR)))
    (q : PosShare TreeShare) (P : Buf (Elt F) (src.view.loc (c : Thread nD τ)) → Prop)
    (h1 : ∀ fs, P fs → (src.view.loc (c : Thread nD τ) ↦[src.view.set]{q} fs : sProp 𝕄) ⊢ pay a c nS)
    (h2 : ∀ fs fd, P fs → (dst.view.loc (e : Thread nD τ) ↦[dst.view.set]{fullShare} (dst.view.write (Elt F) fd (src.view.read (Elt F) fs) Finset.univ) : sProp 𝕄) ⊢ pay a e nR) :
    env a κ c ⊢ iprop(rch e -∗ snd c nS hS -∗ tok e nR hR -∗ (∃ fs, (src.view.loc (c : Thread nD τ) ↦[src.view.set]{q} fs) ∗ ⌜P fs⌝)
      -∗ (∃ fd, (dst.view.loc (e : Thread nD τ) ↦[dst.view.set]{fullShare} fd)) -∗ ow c i -∗ ((fly c nS hS ∗ ow c (i + 1)) -∗ W c k Q)
      -∗ W c (.op (.enqueueDma src (.remote (Dev.tc d) dst (.dma (dq nS hS)) hsc) (.dma (dq nR hR)) hs hd' ht) fun _ => k) Q) := by
  subst hd
  unfold snd tok fly ow
  iintro #He #Hr ⟨Hd, Ha⟩ Ht ⟨%fs, Hs, %hP⟩ ⟨%fd, Hf⟩ ⟨%w, Ho⟩ Hk
  ihave #Hi := (inv_at a κ c (dma_mem c nS hS hS4)) $$ He
  ihave #Hi' := (inv_at a κ c (dma_mem d nR hR hR4)) $$ He
  ihave #Hrc := (env_rch (a := a) (κ := κ) (c := c)) $$ He
  ihave #H0 := (rch_dma (F := F) c nS hS hS4) $$ Hrc
  ihave #H0' := (rch_dma (F := F) d nR hR hR4) $$ Hr
  have hO : Oat c i = Oat c (i + 1) + tallyAt (dc d nR hR) () (amt (.dma (dq nR hR))) := by rw [Oat_step c i hi, ← he, hp]
  iapply (Rounds.wp_send_pointsTo 𝒱₀ ER (sched a) (c : Thread nD τ) none (c' := (d : Thread nD τ)) (src := src) (dst := dst) (sS := .dma (dq nS hS)) (sem := .dma (dq nR hR))
    (q := q) (fs := fs) (fd := fd) (κ₁ := κ (dc c nS hS)) (κ₂ := κ (dc d nR hR)) (r₁ := 0) (r₂ := 0) (d₁ := false) (d₂ := false)
    (by rw [duties_dma]; exact Finset.mem_singleton_self _) (by rw [duties_dma]; exact Finset.mem_singleton_self _)
    () () (amt (.dma (dq nR hR))) hN hN' rfl (Oat c (i + 1)) hO (W := w) (h1 fs hP) (h2 fs fd hP)) $$ [Hd Ht Hs Hf Ho]
  · isplitr; · iexact Hi
    isplitr; · iexact Hi'
    isplitl [Hs]; · iexact Hs
    isplitl [Hf]; · iexact Hf
    isplitl [Ho]; · iexact Ho
    isplitl [Hd]; · iexact Hd
    isplitr; · iexact H0
    isplitl [Ht]; · iexact Ht
    iexact H0'
  · iintro ⟨Hc, Ho⟩
    iapply Hk
    isplitl [Hc Ha]
    · isplitl [Hc]
      · rw [hN']; iexact Hc
      iexact Ha
    iexists _; iexact Ho

/-- One head's keys, or values, are fetched. -/
theorem wp_kvCopy (mH : Memref sig .tc .hbm S4096x64x128 .f32) (mM : Memref sig .tc .vmem S8x4096x128 .f32) (h : Fin 8) {n : ℕ} {hn : n < 48} (hn32 : 32 ≤ n)
    (K : Buf (Elt F) ((kvG mH c h).view.loc (c : Thread nD τ)))
    (hpay : pay a c n = iprop(held c (kvB mM h) fullShare
      (fun i => (kvG mH c h).view.read (Elt F) K ((Shape.reshapeEquiv squeezes_S1x4096x128_S4096x128.numel_eq).symm i)) ∗ src mH c h K))
    {o : Fin 3 → ℕ} {i} {o' : Fin 3 → ℕ} {i'} (eo : o = so h.val) (eo' : o' = ho c h) :
    env a κ c ⊢ iprop(snd c n hn -∗ src mH c h K -∗ anyv c (kvB mM h) -∗ (fly c n hn -∗ W c k Q)
      -∗ W c (kvCopy mH mM (dq n hn) o i o' i' k) Q) := by
  subst eo eo'
  unfold snd anyv kvCopy fly
  iintro #He ⟨Hd, Ha⟩ Hs ⟨%fd, Hf⟩ Hk
  ihave #Hi := (inv_at a κ c (dma_mem c n hn (by omega))) $$ He
  ihave #Hrc := (env_rch (a := a) (κ := κ) (c := c)) $$ He
  ihave #H0 := (rch_dma (F := F) c n hn (by omega)) $$ Hrc
  iapply (Rounds.wp_copy_pointsTo 𝒱₀ ER (sched a) (c : Thread nD τ) none (src := kvH mH (ho c h) i') (dst := kvS mM (so h.val) i) (sem := .dma (dq n hn))
    (q := fullShare) (fs := K) (fd := fd) (r := 0) (d := false) (κ := κ (dc c n hn))
    (by rw [duties_dma]; exact Finset.mem_singleton_self _) () (amt (.dma (dq n hn)))
    (by show _ = if n < 18 then _ else if n < 32 then _ else _
        rw [if_neg (by omega), if_neg (by omega)]) rfl
    (by
      rw [payload_dma, hpay]
      refine sep_mono ?_ Entails.rfl
      unfold held
      iintro H
      iexists _
      isplitl [H]
      · iapply (Entails.of_eq (show _ = _ by rw [View.set_reshape])) $$ H
      · ipureintro
        funext x
        refine Eq.trans ?_ (View.read_write_reshape (kvB mM h).view squeezes_S1x4096x128_S4096x128.numel_eq fd _ _)
        rw [Equiv.apply_symm_apply])) $$ [Hd Hs Hf]
  · isplitr; · iexact Hi
    isplitl [Hs]; · unfold src; iexact Hs
    isplitl [Hf]; · iapply (Entails.of_eq (show _ = _ by rw [View.set_reshape])) $$ Hf
    isplitl [Hd]; · iexact Hd
    iexact H0
  · iintro Hc
    iapply Hk
    isplitl [Hc]; · iexact Hc
    iexact Ha

/-- A chunk of the input is sent to a neighbour. -/
theorem wp_xSend {nS nR : ℕ} {hS : nS < 48} {hR : nR < 48} (hS4 : 4 ≤ nS) (hS18 : nS < 18) (hR4 : 4 ≤ nR) (hR18 : nR < 18) {d : Dev nD} (e : Dev nD) (hd : d = e) (i : ℕ) (hi : i < 18) (he : e = c + (pp i).2)
    (hp : (pp i).1 = .dma (dq nR hR)) (j : Fin 8) {o : Fin 2 → ℕ} {i'} {h} (ho : o = xo j) (q : PosShare TreeShare)
    (h1 : pay a c nS = held c (xK j) q (xv a j)) (h2 : pay a e nR = held e (xK j) fullShare (xv a j)) :
    env a κ c ⊢ iprop(rch e -∗ snd c nS hS -∗ tok e nR hR -∗ held c (xK j) q (xv a j) -∗ anyv e (xK j) -∗ ow c i
      -∗ ((fly c nS hS ∗ ow c (i + 1)) -∗ W c k Q) -∗ W c (xSend d (dq nS hS) (dq nR hR) o i' h k) Q) := by
  subst ho
  have hx : ∀ n (hn : n < 48), n < 18 → amt (.dma (dq n hn)) = (xK 0).view.dmaCredit := fun n hn h => if_pos h
  unfold held anyv
  exact wp_send hS4 hR4 hd i hi he hp (src := xS (xo j) i') (dst := xS (xo j) i') ((hx nR hR hR18).symm ▸ rfl) ((hx nS hS hS18).trans (hx nR hR hR18).symm) q
    (fun f => (xK j).view.read (Elt F) f = xv a j)
    (fun fs hP => by
      rw [h1]; unfold held; iintro H; iexists fs; isplitl [H]; · iexact H
      ipureintro; exact hP)
    (fun fs fd hP => by
      rw [h2]; unfold held; iintro H; iexists _; isplitl [H]; · iexact H
      ipureintro; exact (View.read_write_univ (v := (xK j).view) fd _).trans hP)

/-- A message is sent to the right neighbour. -/
theorem wp_rsSend {nS nR : ℕ} {hS : nS < 48} {hR : nR < 48} (hS18 : 18 ≤ nS) (hS32 : nS < 32) (hR18 : 18 ≤ nR) (hR32 : nR < 32) {d : Dev nD} (e : Dev nD) (hd : d = e) (i : ℕ) (hi : i < 18) (he : e = c + (pp i).2)
    (hp : (pp i).1 = .dma (dq nR hR)) (b : Fin 2) (s : Fin 7) {o : Fin 3 → ℕ} {i1} {o' : Fin 3 → ℕ} {i2} {h h'} (ho : o = so b.val) (ho' : o' = so s.val)
    (w : Vec F S1x256x1024 .bf16) (h1 : pay a c nS = anyv c (sK b)) (h2 : pay a e nR = held e (rK s) fullShare w) :
    env a κ c ⊢ iprop(rch e -∗ snd c nS hS -∗ tok e nR hR -∗ held c (sK b) fullShare w -∗ anyv e (rK s) -∗ ow c i
      -∗ ((fly c nS hS ∗ ow c (i + 1)) -∗ W c k Q) -∗ W c (rsSend d (dq nS hS) (dq nR hR) o i1 o' i2 h h' k) Q) := by
  subst ho ho'
  have hx : ∀ n (hn : n < 48), 18 ≤ n → n < 32 → amt (.dma (dq n hn)) = (sQ (so 0) (si 0)).view.dmaCredit := fun n hn h h' =>
    (if_neg (by show ¬ n < 18; omega)).trans (if_pos h')
  have es : (sQ (so b.val) i1).view.set = (sK b).view.set := View.set_reshape ..
  have er : (rQ (so s.val) i2).view.set = (rK s).view.set := View.set_reshape ..
  have hw := wp_send (a := a) (κ := κ) (c := c) (Q := Q) (k := k) (hS := hS) (hR := hR) (hsc := rfl) (hs := h) (hd' := h') (ht := ⟨⟨rfl, Or.inl rfl⟩, trivial⟩) (by omega : 4 ≤ nS) (by omega : 4 ≤ nR) hd i hi he hp (src := sQ (so b.val) i1) (dst := rQ (so s.val) i2)
    ((hx nR hR hR18 hR32).symm ▸ rfl) ((hx nS hS hS18 hS32).trans (hx nR hR hR18 hR32).symm) fullShare
    (fun f => (sK b).view.read (Elt F) f = w)
    (fun fs hP => by
      rw [h1, es]; unfold anyv; iintro H; iexists fs; iexact H)
    (fun fs fd hP => by
      rw [h2, er]; unfold held; iintro H; iexists _; isplitl [H]; · iexact H
      ipureintro
      subst hP
      funext x
      obtain ⟨y, rfl⟩ := (Shape.reshapeEquiv squeezes_S1x256x1024_S256x1024.numel_eq).surjective x
      exact View.read_write_reshape (rK s).view squeezes_S1x256x1024_S256x1024.numel_eq fd _ y)
  rw [es, er] at hw
  unfold held anyv
  exact hw

/-- The meeting with both neighbours. -/
theorem wp_meet {s : Sem sig} (i : ℕ) (hi : i + 1 < 18) (h0 : pp i = (.reg s, 7)) (h1 : pp (i + 1) = (.reg s, 1))
    (hlv : ∀ j : Fin 18, i + 2 ≤ j.val → slv (.reg s) < slv (pp j.val).1) (hm : ∀ x, cell x (.reg s) ∈ (barCells ∪ scCells : Finset (GSem nD τ sig)))
    {d e : Dev nD} (hd : d = c + 7) (he : e = c + 1) :
    env a κ c ⊢ iprop(reached ER (cell (c + 7) (.reg s)) 0 -∗ reached ER (cell (c + 1) (.reg s)) 0
      -∗ dutyTok ER (cell (c + 7) (.reg s)) 0 true -∗ dutyTok ER (cell (c + 1) (.reg s)) 0 false
      -∗ (sched a).payload (cell (c + 7) (.reg s)) 0 true -∗ (sched a).payload (cell (c + 1) (.reg s)) 0 false
      -∗ cred (tallyAt (cell c (.reg s)) () 2) -∗ atPos ER (cell c (.reg s)) 0 ∅ 0 -∗ ow c i
      -∗ ((ow c (i + 2) ∗ (sched a).payload (cell c (.reg s)) 0 false ∗ (sched a).payload (cell c (.reg s)) 0 true ∗ semVal (cell c (.reg s)) 0) -∗ W c k Q)
      -∗ W c (meet s d e k) Q) := by
  subst hd he
  unfold ow meet
  iintro #He HrL HrR HtL HtR HpL HpR Hc Ha ⟨%w, Ho⟩ Hk
  ihave #Hi := (inv_at a κ c (hm c)) $$ He
  ihave #HiL := (inv_at a κ c (hm (c + 7))) $$ He
  ihave #HiR := (inv_at a κ c (hm (c + 1))) $$ He
  iapply (Rounds.wp_signal 𝒱₀ ER (sched a) (c : Thread nD τ) none (dst := ((c + 7 : Dev nD) : Thread nD τ)) (sem := s) (r := 0) (d := true) (κ := κ (cell (c + 7) (.reg s)))
    (by rw [duties_reg]; decide) rfl () (O₀ := Oat c i) (Oat c (i + 1)) (by rw [Oat_step c i (by omega), h0]; rfl)) $$ [Ho HtL HpL HrL]
  · isplitr; · iexact HiL
    isplitl [Ho]; · iexact Ho
    isplitl [HtL]; · iexact HtL
    isplitl [HpL]; · iexact HpL
    iexact HrL
  iintro Ho
  iapply (Rounds.wp_signal 𝒱₀ ER (sched a) (c : Thread nD τ) none (dst := ((c + 1 : Dev nD) : Thread nD τ)) (sem := s) (r := 0) (d := false) (κ := κ (cell (c + 1) (.reg s)))
    (by rw [duties_reg]; decide) rfl () (O₀ := Oat c (i + 1)) (Oat c (i + 2)) (by rw [Oat_step c (i + 1) (by omega), h1]; rfl)) $$ [Ho HtR HpR HrR]
  · isplitr; · iexact HiR
    isplitl [Ho]; · iexact Ho
    isplitl [HtR]; · iexact HtR
    isplitl [HpR]; · iexact HpR
    iexact HrR
  iintro Ho
  ihave Hm := (mayWait' c (.reg s) (i + 2) hlv) $$ He
  iapply (Rounds.wp_wait_rest_token 𝒱₀ ER (sched a) (c : Thread nD τ) none (κ := κ (cell c (.reg s))) (wpE_semWait_eq 𝒱₀ (c : Thread nD τ) none Set.univ)
    (Set.mem_univ _) () (O := Oat c (i + 2)) (W := w) (R := 0) (m := 0) (T := ∅)
    ((Nat.zero_add _).trans (expect_reg a c s).symm)) $$ [Hc Ha Ho Hm]
  · isplitr; · iexact Hi
    isplitl [Hc]; · iexact Hc
    isplitl [Ho]; · iexact Ho
    isplitl [Hm]; · iexact Hm
    iexact Ha
  iintro ⟨Ho, Ha, -, Hp⟩
  ihave Hp := (Entails.of_eq (rest_reg a c s)) $$ Hp
  icases Hp with ⟨HpF, HpT⟩
  imod (Rounds.cell_close ER (sched a) (Set.mem_univ (κ (cell c (.reg s)))) id (duties_later a (cell c (.reg s)))) $$ [Ha] with Hz
  · isplitr; · iexact Hi
    iexact Ha
  iapply Hk
  isplitl [Ho]; · iexists _; iexact Ho
  isplitl [HpF]; · iexact HpF
  isplitl [HpT]; · iexact HpT
  iexact Hz

end Comm

end Cert.KernelIdeal
-- ==== Proof.Body.lean ====
module

public import proofs.«01_k».proof.Proof.Comm

@[expose] public section

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## The program, stretch by stretch -/

/-! ### Which chunk, which window -/

theorem off9_xo : ∀ d : Dev nD, k0_off9 d = xo d := by decide +kernel
theorem off20_xo : ∀ d : Dev nD, k0_off20 d = xo (d + 7) := by decide +kernel
theorem off30_xo : ∀ d : Dev nD, k0_off30 d = xo (d + 6) := by decide +kernel
theorem off40_xo : ∀ d : Dev nD, k0_off40 d = xo (d + 5) := by decide +kernel
theorem off50_xo : ∀ d : Dev nD, k0_off50 d = xo (d + 4) := by decide +kernel
theorem off60_xo : ∀ d : Dev nD, k0_off60 d = xo (d + 3) := by decide +kernel
theorem off70_xo : ∀ d : Dev nD, k0_off70 d = xo (d + 2) := by decide +kernel
theorem off80_xo : ∀ d : Dev nD, k0_off80 d = xo (d + 1) := by decide +kernel
theorem off2_xo : ∀ d : Dev nD, k0_off2 d = xo d := by decide +kernel
theorem off3_xo (r : Fin 3) : ∀ d : Dev nD, k0_off3 d (BitVec.ofNat 32 r.val) = xo (d + Fin.ofNat 8 (8 - r.val)) := by revert r; decide +kernel
theorem off4_xo (r : Fin 4) : ∀ d : Dev nD, k0_off4 d (BitVec.ofNat 32 r.val) = xo (d + Fin.ofNat 8 r.val) := by revert r; decide +kernel
theorem off19_xo (r : Fin 8) : ∀ d : Dev nD, k0_off19 d (BitVec.ofNat 32 r.val) = xo (d + Fin.ofNat 8 (8 - r.val)) := by revert r; decide +kernel
theorem off30_0 (d : Dev nD) : k0_off3 d 0#32 = xo d := (off3_xo 0 d).trans (by rw [show d + Fin.ofNat 8 (8 - (0 : Fin 3).val) = d from add_zero d])
theorem off40_0 (d : Dev nD) : k0_off4 d 0#32 = xo d := (off4_xo 0 d).trans (by rw [show d + Fin.ofNat 8 (0 : Fin 4).val = d from add_zero d])
theorem off190_0 (d : Dev nD) : k0_off19 d 0#32 = xo d := (off19_xo 0 d).trans (by rw [show d + Fin.ofNat 8 (8 - (0 : Fin 8).val) = d from add_zero d])

theorem dev_eq {n : ℕ} {h : n < nD} {c e : Dev nD} (he : n = e.val) : (⟨n, h⟩ : Dev nD) = e := Fin.ext he
theorem right_val : ∀ c : Dev nD, (c.val + 1) % 8 = (c + 1 : Dev nD).val := by decide
theorem left_val : ∀ c : Dev nD, (c.val + 7) % 8 = (c + 7 : Dev nD).val := by decide
theorem add3 (c : Dev nD) (i j k : Fin 8) (h : i + j = k) : c + i + j = c + k := by rw [add_assoc, h]
theorem add0 (c : Dev nD) (i j : Fin 8) (h : i + j = 0) : c + i + j = c := by rw [add_assoc, h]; exact add_zero c

/-- What a chunk's conditions and window offsets are. -/
def Win (j : Fin 8) (cg cw : BitVec 1) (oW : Fin k0_t2_loop.trips → Fin 3 → ℕ) : Prop :=
  (cg = 1#1 ↔ j = 0) ∧ (cw = 1#1 ↔ j ≠ 0) ∧ ∀ t : Fin k0_t2_loop.trips, j ≠ 0 → oW t = ![t.val, 256 * j.val - 128, 0]
instance (j : Fin 8) (cg cw oW) : Decidable (Win j cg cw oW) := by unfold Win; infer_instance
theorem chunk0 : ∀ d : Dev nD, Win d (k0_cond1 d) (k0_cond2 d) (k0_off16 d) := by decide +kernel
theorem chunk1 : ∀ d : Dev nD, Win (d + 7) (k0_cond3 d) (k0_cond4 d) (k0_off27 d) := by decide +kernel
theorem chunk2 : ∀ d : Dev nD, Win (d + 6) (k0_cond5 d) (k0_cond6 d) (k0_off37 d) := by decide +kernel
theorem chunk3 : ∀ d : Dev nD, Win (d + 5) (k0_cond7 d) (k0_cond8 d) (k0_off47 d) := by decide +kernel
theorem chunk4 : ∀ d : Dev nD, Win (d + 4) (k0_cond9 d) (k0_cond10 d) (k0_off57 d) := by decide +kernel
theorem chunk5 : ∀ d : Dev nD, Win (d + 3) (k0_cond11 d) (k0_cond12 d) (k0_off67 d) := by decide +kernel
theorem chunk6 : ∀ d : Dev nD, Win (d + 2) (k0_cond13 d) (k0_cond14 d) (k0_off77 d) := by decide +kernel
theorem chunk7 : ∀ d : Dev nD, Win (d + 1) (k0_cond15 d) (k0_cond16 d) (k0_off87 d) := by decide +kernel

/-! ### What the transfers bring, by number -/

section Pay
variable (a : Ins F) (c : Dev nD)
theorem pay_agS (n : ℕ) (h : n < 7) (j : Fin 8) (e : c + Fin.ofNat 8 (12 - n) = j) : pay a c n = held c (xK j) qA (xv a j) := by subst e; exact if_pos h
theorem pay_agR (n : ℕ) (h7 : 7 ≤ n) (h : n < 10) (j : Fin 8) (e : c + Fin.ofNat 8 (14 - n) = j) : pay a c n = held c (xK j) fullShare (xv a j) := by
  subst e; unfold pay; rw [if_neg (by omega), if_pos h]
theorem pay_alS (n : ℕ) (h7 : 10 ≤ n) (h : n < 14) (j : Fin 8) (e : c + Fin.ofNat 8 (n - 10) = j) : pay a c n = held c (xK j) qB (xv a j) := by
  subst e; unfold pay; rw [if_neg (by omega), if_neg (by omega), if_pos h]
theorem pay_alR (n : ℕ) (h7 : 14 ≤ n) (h : n < 18) (j : Fin 8) (e : c + Fin.ofNat 8 (n - 13) = j) : pay a c n = held c (xK j) fullShare (xv a j) := by
  subst e; unfold pay; rw [if_neg (by omega), if_neg (by omega), if_neg (by omega), if_pos h]
theorem pay_rsS (n : ℕ) (h7 : 18 ≤ n) (h : n < 25) (b : Fin 2) (e : Fin.ofNat 2 (n - 18) = b) : pay a c n = anyv c (sK b) := by
  subst e; unfold pay; rw [if_neg (by omega), if_neg (by omega), if_neg (by omega), if_neg (by omega), if_pos h]
theorem pay_rsR (n : ℕ) (h7 : 25 ≤ n) (h : n < 32) (s : Fin 7) (e : Fin.ofNat 7 (n - 25) = s) (d : Dev nD) (ed : c + 7 = d) :
    pay a c n = held c (rK s) fullShare (msg a (n - 25) d) := by
  subst e ed; unfold pay; rw [if_neg (by omega), if_neg (by omega), if_neg (by omega), if_neg (by omega), if_neg (by omega), if_pos h]
theorem pay_k (h : Fin 8) : pay a c (32 + h.val) = iprop(held c (kvB kM h) fullShare (kvv (a.k c) c h) ∗ src kH c h (a.k c)) := by
  unfold pay
  rw [if_neg (by omega), if_neg (by omega), if_neg (by omega), if_neg (by omega), if_neg (by omega), if_neg (by omega), if_pos (by omega),
    show Fin.ofNat 8 (32 + h.val - 32) = h from by rw [Nat.add_sub_cancel_left]; exact Fin.ofNat_val_eq_self h]
theorem pay_v (h : Fin 8) : pay a c (40 + h.val) = iprop(held c (kvB vM h) fullShare (kvv (a.v c) c h) ∗ src vH c h (a.v c)) := by
  unfold pay
  rw [if_neg (by omega), if_neg (by omega), if_neg (by omega), if_neg (by omega), if_neg (by omega), if_neg (by omega), if_neg (by omega),
    show Fin.ofNat 8 (40 + h.val - 40) = h from by rw [Nat.add_sub_cancel_left]; exact Fin.ofNat_val_eq_self h]
end Pay

theorem amt_x {n : ℕ} {hn : n < 48} (h : n < 18) : amt (.dma (dq n hn)) = (xK 0).view.dmaCredit := if_pos h
theorem amt_r {n : ℕ} {hn : n < 48} (h18 : 18 ≤ n) (h : n < 32) : amt (.dma (dq n hn)) = (sQ (so 0) (si 0)).view.dmaCredit :=
  (if_neg (by show ¬ n < 18; omega)).trans (if_pos h)
theorem amt_kv {n : ℕ} {hn : n < 48} (h : 32 ≤ n) : amt (.dma (dq n hn)) = (kvS kM (so 0) (ki 0)).view.dmaCredit :=
  (if_neg (by show ¬ n < 18; omega)).trans (if_neg (by show ¬ n < 32; omega))

section Segs
variable {a : Ins F} {κ : GSem nD τ sig → ℕ} {c : Dev nD} {Q : Post F} {k : PU F}

/-- What every chunk's work uses: the weights, the keys and values, and room for the heads' results. -/
def ws (a : Ins F) (c : Dev nD) : sProp 𝕄 :=
  iprop(held c wqM fullShare (a.wq c) ∗ held c woM fullShare (a.wo c) ∗ (bigSep Finset.univ fun h => kvs a c h) ∗ bigSep Finset.univ fun h : Fin 8 => anyv c (cK h))

/-- One chunk's work. -/
theorem wp_stage {j : Fin 8} {o o' : Fin 2 → ℕ} {i} {i'} {cg cw oW iW} (ho : o = xo j) (ho' : o' = xo j) (hW : Win j cg cw oW) {q : PosShare TreeShare} :
    held c (xK j) q (xv a j) ⊢ iprop(ws a c -∗ anyv c (pK j) -∗
      ((held c (xK j) q (xv a j) ∗ ws a c ∗ held c (pK j) fullShare (pr a c j)) -∗ W c k Q)
      -∗ W c (heads o i cg cw oW iW <| project o' i' k) Q) := by
  unfold ws
  iintro Hx ⟨Hq, Ho, HK, Hc⟩ Hp Hk
  iapply (wp_heads ho hW.1 hW.2.1 hW.2.2) $$ Hx Hq HK Hc
  iintro ⟨Hx, Hq, HK, Hc⟩
  iapply (wp_project ho') $$ Hc Ho Hp
  iintro ⟨Hc, Ho, Hp⟩
  iapply Hk
  isplitl [Hx]; · iexact Hx
  isplitr [Hp]
  · isplitl [Hq]; · iexact Hq
    isplitl [Ho]; · iexact Ho
    isplitl [HK]; · iexact HK
    iexact Hc
  iexact Hp

/-- A received message is waited for. -/
theorem wp_rsRecv {n : ℕ} {hn : n < 48} (h25 : 25 ≤ n) (h32 : n < 32) (s : Fin 7) (es : Fin.ofNat 7 (n - 25) = s) (i : ℕ)
    (hlv : ∀ j : Fin 18, i ≤ j.val → slv (.dma (dq n hn)) < slv (pp j.val).1) {o1 : Fin 3 → ℕ} {i2} {o2 : Fin 3 → ℕ} {i3} {h h'} :
    env a κ c ⊢ iprop(fly c n hn -∗ ow c i -∗ ((ow c i ∗ held c (rK s) fullShare (msg a (n - 25) (c + 7)) ∗ fin c n hn) -∗ W c k Q)
      -∗ W c (rsRecv (dq n hn) o1 i2 o2 i3 h h' k) Q) := by
  rw [← pay_rsR a c n h25 h32 s es _ rfl]
  exact wp_wait (dst := rQ o2 i3) (by omega) i hlv (amt_r (by omega) h32).symm

/-- A received message is waited for and added. -/
theorem wp_recvAdd {n : ℕ} {hn : n < 48} (h25 : 25 ≤ n) (h32 : n < 32) (s : Fin 7) (es : Fin.ofNat 7 (n - 25) = s) (i : ℕ)
    (hlv : ∀ j : Fin 18, i ≤ j.val → slv (.dma (dq n hn)) < slv (pp j.val).1)
    {j : Fin 8} {o : Fin 2 → ℕ} {i1} {o1 : Fin 3 → ℕ} {i2} {o2 : Fin 3 → ℕ} {i3} {h h'} {i4} (ho : o = xo j) (ho2 : o2 = so s.val) {w : Vec F S256x1024 .f32} :
    env a κ c ⊢ iprop(fly c n hn -∗ ow c i -∗ held c (pK j) fullShare w -∗
      ((ow c i ∗ fin c n hn ∗ held c (pK j) fullShare (k0_pay248 (k0_pay247 w (msg a (n - 25) (c + 7)))) ∗ held c (rK s) fullShare (msg a (n - 25) (c + 7))) -∗ W c k Q)
      -∗ W c (rsRecv (dq n hn) o1 i2 o2 i3 h h' <| addTo o i1 o2 i4 k) Q) := by
  iintro #He Hf Ho Hp Hk
  iapply (wp_rsRecv h25 h32 s es i hlv) $$ He Hf Ho
  iintro ⟨Ho, Hr, Hz⟩
  iapply (wp_addTo ho ho2) $$ Hp Hr
  iintro ⟨Hp, Hr⟩
  iapply Hk
  isplitl [Ho]; · iexact Ho
  isplitl [Hz]; · iexact Hz
  isplitl [Hp]; · iexact Hp
  iexact Hr

/-- The send buffer's block is free again. -/
theorem wp_sentWait {n : ℕ} {hn : n < 48} (h18 : 18 ≤ n) (h25 : n < 25) (b : Fin 2) (eb : Fin.ofNat 2 (n - 18) = b) (i : ℕ)
    (hlv : ∀ j : Fin 18, i ≤ j.val → slv (.dma (dq n hn)) < slv (pp j.val).1)
    {o1 : Fin 3 → ℕ} {i2} {o2 : Fin 3 → ℕ} {i3} {h h'} :
    env a κ c ⊢ iprop(fly c n hn -∗ ow c i -∗ ((ow c i ∗ anyv c (sK b) ∗ fin c n hn) -∗ W c k Q)
      -∗ W c (rsSent (dq n hn) o1 i2 o2 i3 h h' k) Q) := by
  rw [← pay_rsS a c n h18 h25 b eb]
  exact wp_wait (dst := sQ o1 i2) (by omega) i hlv (amt_r h18 (by omega)).symm

/-- A chunk of the input is waited for. -/
theorem wp_xWait {n : ℕ} {hn : n < 48} (h4 : 4 ≤ n) (h18 : n < 18) (i : ℕ)
    (hlv : ∀ j : Fin 18, i ≤ j.val → slv (.dma (dq n hn)) < slv (pp j.val).1)
    {R : sProp 𝕄} (hpay : pay a c n = R) {o : Fin 2 → ℕ} {i1} {h} :
    env a κ c ⊢ iprop(fly c n hn -∗ ow c i -∗ ((ow c i ∗ R ∗ fin c n hn) -∗ W c k Q) -∗ W c (xWait (dq n hn) o i1 h k) Q) := by
  subst hpay
  exact wp_wait (dst := xS o i1) h4 i hlv (amt_x h18).symm

/-- A head's keys or values are waited for. -/
theorem wp_kvWait {n : ℕ} {hn : n < 48} (h32 : 32 ≤ n) (i : ℕ)
    (hlv : ∀ j : Fin 18, i ≤ j.val → slv (.dma (dq n hn)) < slv (pp j.val).1)
    {R : sProp 𝕄} (hpay : pay a c n = R) {mH : Memref sig .tc .hbm S4096x64x128 .f32} {mM : Memref sig .tc .vmem S8x4096x128 .f32} {o : Fin 3 → ℕ} {i1} {o' : Fin 3 → ℕ} {i2} {s : DmaSem sig} (es : s = dq n hn) :
    env a κ c ⊢ iprop(fly c n hn -∗ ow c i -∗ ((ow c i ∗ R ∗ fin c n hn) -∗ W c k Q) -∗ W c (kvWait mH mM s o i1 o' i2 k) Q) := by
  subst hpay es
  exact wp_wait (dst := kvS mM o i1) (by omega) i hlv (amt_kv h32).symm

theorem kSem_eq (t : Fin 8) : kSem t = dq (32 + t.val) (by omega) := by revert t; decide +kernel
theorem vSem_eq (t : Fin 8) : vSem t = dq (40 + t.val) (by omega) := by revert t; decide +kernel

/-- What a head's two copies bring back. -/
def kvBack (a : Ins F) (c : Dev nD) (h : Fin 8) : sProp 𝕄 :=
  iprop((fin c (32 + h.val) (by omega) ∗ fin c (40 + h.val) (by omega)) ∗ src kH c h (a.k c) ∗ src vH c h (a.v c))

/-- The eight heads on the device's own chunk, each after its keys and values have come. -/
theorem wp_heads0 {o : Fin 2 → ℕ} {i} {cg cw : BitVec 1} {oW} {iW} {j : Fin 8} (ho : o = xo j) (hW : Win j cg cw oW) {q q' : PosShare TreeShare} :
    env a κ c ⊢ iprop(held c (xK j) q (xv a j) -∗ held c wqM q' (a.wq c) -∗ ow c 4 -∗
      (bigSep Finset.univ fun h : Fin 8 => iprop(fly c (32 + h.val) (by omega) ∗ fly c (40 + h.val) (by omega))) -∗ (bigSep Finset.univ fun h : Fin 8 => anyv c (cK h)) -∗
      ((held c (xK j) q (xv a j) ∗ held c wqM q' (a.wq c) ∗ ow c 4 ∗ (bigSep Finset.univ fun h => kvs a c h)
        ∗ (bigSep Finset.univ fun h : Fin 8 => held c (cK h) fullShare (cx a c j h)) ∗ bigSep Finset.univ fun h => kvBack a c h) -∗ W c k Q)
      -∗ W c (heads0 c o i cg cw oW iW k) Q) := by
  iintro #He Hx Hw Ho HK Hc Hk
  unfold heads0
  iapply (wp_heads_loop (fun t => kvWait kH kM (kSem t) (k0_off6 t) (k0_off6_inb t) (k0_off7 c t) (k0_off7_inb c t) <|
      kvWait vH vM (vSem t) (k0_off6 t) (k0_off6_inb t) (k0_off7 c t) (k0_off7_inb c t) <| headOne o i cg cw oW iW t)
    iprop(env a κ c ∗ held c (xK j) q (xv a j) ∗ held c wqM q' (a.wq c) ∗ ow c 4)
    (fun h => iprop((fly c (32 + h.val) (by omega) ∗ fly c (40 + h.val) (by omega)) ∗ anyv c (cK h)))
    (fun h => iprop(kvs a c h ∗ held c (cK h) fullShare (cx a c j h) ∗ kvBack a c h)) (fun t h ht => by
      obtain rfl : t = h := Fin.ext ht
      iintro ⟨⟨#He, Hx, Hw, Ho⟩, ⟨Hk, Hv⟩, Hc⟩
      iapply (wp_kvWait (by omega) 4 (by revert t; decide +kernel) (pay_k a c t) (kSem_eq t)) $$ He Hk Ho
      iintro ⟨Ho, ⟨HK, HsK⟩, HzK⟩
      iapply (wp_kvWait (by omega) 4 (by revert t; decide +kernel) (pay_v a c t) (vSem_eq t)) $$ He Hv Ho
      iintro ⟨Ho, ⟨HV, HsV⟩, HzV⟩
      iapply (wp_headOne (h := t) rfl ho hW.1 hW.2.1 (fun hj => hW.2.2 t hj)) $$ Hx Hw [HK HV] Hc
      · unfold kvs
        isplitl [HK]; · iexact HK
        iexact HV
      iintro ⟨Hx, Hw, HK, Hc⟩
      isplitl [Hx Hw Ho]
      · isplitr; · iexact He
        isplitl [Hx]; · iexact Hx
        isplitl [Hw]; · iexact Hw
        iexact Ho
      isplitl [HK]; · iexact HK
      isplitl [Hc]; · iexact Hc
      unfold kvBack
      isplitl [HzK HzV]
      · isplitl [HzK]; · iexact HzK
        iexact HzV
      isplitl [HsK]; · iexact HsK
      iexact HsV)) $$ [Hx Hw Ho] [HK Hc]
  · isplitr; · iexact He
    isplitl [Hx]; · iexact Hx
    isplitl [Hw]; · iexact Hw
    iexact Ho
  · iapply (Entails.of_eq (bigSep_sep' (s := Finset.univ) (Φ := fun h : Fin 8 => iprop(fly c (32 + h.val) (by omega) ∗ fly c (40 + h.val) (by omega)))
      (Ψ := fun h : Fin 8 => anyv c (cK h))).symm) $$ [HK Hc]
    isplitl [HK]; · iexact HK
    iexact Hc
  · rw [bigSep_sep', bigSep_sep']
    iintro ⟨⟨-, Hx, Hw, Ho⟩, HK, Hc, HB⟩
    iapply Hk
    isplitl [Hx]; · iexact Hx
    isplitl [Hw]; · iexact Hw
    isplitl [Ho]; · iexact Ho
    isplitl [HK]; · iexact HK
    isplitl [Hc]; · iexact Hc
    iexact HB

/-- One round of the ring: a chunk's work, the message for it received and added, the sum sent on. -/
theorem wp_round {s : ℕ} (hs : 1 ≤ s) (hs6 : s < 6) {n n' nS nR : ℕ} {hn : n < 48} {hn' : n' < 48} {hS : nS < 48} {hR : nR < 48}
    (en : n = 25 + s) (en' : n' = 17 + s) (eS : nS = 19 + s) (eR : nR = 26 + s)
    {j : Fin 8} (ej : j = c + Fin.ofNat 8 (14 - s)) {b : Fin 2} (eb : Fin.ofNat 2 (s + 1) = b) {s1 s2 : Fin 7} (e1 : Fin.ofNat 7 s = s1) (e2 : Fin.ofNat 7 (s + 1) = s2)
    (i : ℕ) (hi : i < 18)
    (hlv : ∀ j : Fin 18, i ≤ j.val → slv (.dma (dq n hn)) < slv (pp j.val).1)
    (hlv' : ∀ j : Fin 18, i ≤ j.val → slv (.dma (dq n' hn')) < slv (pp j.val).1)
    (hpp : pp i = (.dma (dq nR hR), 1)) {d : Dev nD} (hd : d = c + 1)
    {o o' : Fin 2 → ℕ} {i1 i2 i3 i4} {cg cw oW iW} (ho : o = xo j) (ho' : o' = xo j) (hW : Win j cg cw oW) {q : PosShare TreeShare}
    {p1 p2 p3 p4 p5 p6 : Fin 3 → ℕ} {j1 j2 j3 j4 j5 j6 j7 j8 h1 h2 h3 h4 h5 h6 h7} (hp2 : p2 = so s1.val) (hp5 : p5 = so b.val) (hp6 : p6 = so s2.val) :
    env a κ c ⊢ iprop(rch (c + 1) -∗ held c (xK j) q (xv a j) -∗ ws a c -∗ anyv c (pK j) -∗ fly c n hn -∗ fly c n' hn' -∗ snd c nS hS -∗ tok (c + 1) nR hR
      -∗ anyv (c + 1) (rK s2) -∗ ow c i
      -∗ ((held c (xK j) q (xv a j) ∗ ws a c ∗ anyv c (pK j) ∗ anyv c (rK s1) ∗ fin c n hn ∗ fin c n' hn' ∗ fly c nS hS ∗ ow c (i + 1)) -∗ W c k Q)
      -∗ W c (heads o i1 cg cw oW iW <| project o' i2 <| rsRecv (dq n hn) p1 j1 p2 j2 h1 h2 <| addTo o' i3 p2 j3 <| rsSent (dq n' hn') p3 j4 p4 j5 h3 h4
        <| sPut o' i4 p5 j6 h5 <| rsSend d (dq nS hS) (dq nR hR) p5 j7 p6 j8 h6 h7 k) Q) := by
  subst en en' eS eR
  iintro #He #HR Hx Hw Hp Hf Hf' HS Ht Hr Ho Hk
  iapply (wp_stage ho ho' hW) $$ Hx Hw Hp
  iintro ⟨Hx, Hw, Hp⟩
  iapply (wp_recvAdd (by omega) (by omega) s1 (by rw [Nat.add_sub_cancel_left]; exact e1) i hlv ho' hp2) $$ He Hf Ho Hp
  iintro ⟨Ho, Hz, Hp, Hm⟩
  iapply (wp_sentWait (by omega) (by omega) b (by rw [← eb]; show Fin.mk ((17 + s - 18) % 2) _ = Fin.mk ((s + 1) % 2) _; congr 1; omega) i hlv') $$ He Hf' Ho
  iintro ⟨Ho, Hs, Hz'⟩
  iapply (wp_sPut ho' hp5) $$ Hp Hs
  iintro ⟨Hp, Hs⟩
  iapply (wp_rsSend (by omega) (by omega) (by omega) (by omega) (c + 1) hd i hi (by rw [hpp]) (by rw [hpp]) b s2 hp5 hp6 (msg a (s + 1) c)
    (pay_rsS a c (19 + s) (by omega) (by omega) b (by rw [← eb, show 19 + s - 18 = s + 1 by omega]))
    ((pay_rsR a (c + 1) (26 + s) (by omega) (by omega) s2 (by rw [← e2, show 26 + s - 25 = s + 1 by omega]) c (add0 c 1 7 rfl)).trans
      (by rw [show 26 + s - 25 = s + 1 by omega]))) $$ He HR HS Ht [Hs] Hr Ho
  · rw [show msg a (s + 1) c = k0_pay239 (k0_pay248 (k0_pay247 (pr a c j) (msg a (25 + s - 25) (c + 7)))) from by
      rw [Nat.add_sub_cancel_left, ej]; rfl]
    iexact Hs
  iintro ⟨Hf, Ho⟩
  ihave Hp := held_any _ _ $$ Hp
  ihave Hm := held_any _ _ $$ Hm
  iapply Hk
  isplitl [Hx]; · iexact Hx
  isplitl [Hw]; · iexact Hw
  isplitl [Hp]; · iexact Hp
  isplitl [Hm]; · iexact Hm
  isplitl [Hz]; · iexact Hz
  isplitl [Hz']; · iexact Hz'
  isplitl [Hf]; · iexact Hf
  iexact Ho

end Segs

end Cert.KernelIdeal
-- ==== Proof.Segs.lean ====
module

public import proofs.«01_k».proof.Proof.Body

@[expose] public section

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## The ten stretches of the program -/

variable {a : Ins F} {κ : GSem nD τ sig → ℕ} {c : Dev nD} {Q : Post F} {k : PU F}

/-- What a head's two copies start from. -/
def kvIn (a : Ins F) (c : Dev nD) (h : Fin 8) : sProp 𝕄 :=
  iprop((snd c (32 + h.val) (by omega) ∗ snd c (40 + h.val) (by omega)) ∗ (src kH c h (a.k c) ∗ src vH c h (a.v c)) ∗ anyv c (kvB kM h) ∗ anyv c (kvB vM h))

/-- A head's keys and values are sent for. -/
theorem wp_kvPair (h : Fin 8) {o : Fin 3 → ℕ} {i} {o' : Fin 3 → ℕ} {i'} (eo : o = so h.val) (eo' : o' = ho c h) {n m : ℕ} {hn : n < 48} {hm : m < 48} (en : n = 32 + h.val) (em : m = 40 + h.val) :
    env a κ c ⊢ iprop(kvIn a c h -∗ ((fly c (32 + h.val) (by omega) ∗ fly c (40 + h.val) (by omega)) -∗ W c k Q)
      -∗ W c (kvCopy kH kM (dq n hn) o i o' i' <| kvCopy vH vM (dq m hm) o i o' i' k) Q) := by
  subst en em
  unfold kvIn
  iintro #He ⟨⟨Hk, Hv⟩, ⟨Sk, Sv⟩, Bk, Bv⟩ Hw
  iapply (wp_kvCopy kH kM h (by omega) (a.k c) (pay_k a c h) eo eo') $$ He Hk Sk Bk
  iintro Hk
  iapply (wp_kvCopy vH vM h (by omega) (a.v c) (pay_v a c h) eo eo') $$ He Hv Sv Bv
  iintro Hv
  iapply Hw
  isplitl [Hk]; · iexact Hk
  iexact Hv

theorem off1_ho (h : Fin 8) : ∀ d : Dev nD, k0_off1 d (BitVec.ofNat 32 h.val) = ho d h := by revert h; decide +kernel
theorem dev1_l : ∀ d : Dev nD, (⟨k0_dev1 d, k0_dev1_lt d⟩ : Dev nD) = d + 7 := by decide +kernel
theorem dev2_r : ∀ d : Dev nD, (⟨k0_dev2 d, k0_dev2_lt d⟩ : Dev nD) = d + 1 := by decide +kernel
theorem dev17_l : ∀ d : Dev nD, (⟨k0_dev17 d, k0_dev17_lt d⟩ : Dev nD) = d + 7 := by decide +kernel
theorem dev18_r : ∀ d : Dev nD, (⟨k0_dev18 d, k0_dev18_lt d⟩ : Dev nD) = d + 1 := by decide +kernel
theorem dev3_r : ∀ d : Dev nD, (⟨k0_dev3 d, k0_dev3_lt d⟩ : Dev nD) = d + 1 := by decide +kernel
theorem dev4_l : ∀ d : Dev nD, (⟨k0_dev4 d, k0_dev4_lt d⟩ : Dev nD) = d + 7 := by decide +kernel
theorem dev5_r : ∀ d : Dev nD, (⟨k0_dev5 d, k0_dev5_lt d⟩ : Dev nD) = d + 1 := by decide +kernel
theorem dev6_l : ∀ d : Dev nD, (⟨k0_dev6 d, k0_dev6_lt d⟩ : Dev nD) = d + 7 := by decide +kernel
theorem dev7_r : ∀ d : Dev nD, (⟨k0_dev7 d, k0_dev7_lt d⟩ : Dev nD) = d + 1 := by decide +kernel
theorem dev8_r : ∀ d : Dev nD, (⟨k0_dev8 d, k0_dev8_lt d⟩ : Dev nD) = d + 1 := by decide +kernel
theorem dev9_l : ∀ d : Dev nD, (⟨k0_dev9 d, k0_dev9_lt d⟩ : Dev nD) = d + 7 := by decide +kernel
theorem dev10_r : ∀ d : Dev nD, (⟨k0_dev10 d, k0_dev10_lt d⟩ : Dev nD) = d + 1 := by decide +kernel
theorem dev11_l : ∀ d : Dev nD, (⟨k0_dev11 d, k0_dev11_lt d⟩ : Dev nD) = d + 7 := by decide +kernel
theorem dev12_r : ∀ d : Dev nD, (⟨k0_dev12 d, k0_dev12_lt d⟩ : Dev nD) = d + 1 := by decide +kernel
theorem dev13_r : ∀ d : Dev nD, (⟨k0_dev13 d, k0_dev13_lt d⟩ : Dev nD) = d + 1 := by decide +kernel
theorem dev14_r : ∀ d : Dev nD, (⟨k0_dev14 d, k0_dev14_lt d⟩ : Dev nD) = d + 1 := by decide +kernel
theorem dev15_r : ∀ d : Dev nD, (⟨k0_dev15 d, k0_dev15_lt d⟩ : Dev nD) = d + 1 := by decide +kernel
theorem dev16_r : ∀ d : Dev nD, (⟨k0_dev16 d, k0_dev16_lt d⟩ : Dev nD) = d + 1 := by decide +kernel

/-- A chunk given back in parts. -/
theorem split3 (j : Fin 8) : held c (xK j) fullShare (xv a j) ⊢ iprop(held c (xK j) qA (xv a j) ∗ held c (xK j) qB (xv a j) ∗ held c (xK j) qC (xv a j)) :=
  held_split (xK j)

/-- What the device tells its left neighbour it may write. -/
def giveL (c : Dev nD) : sProp 𝕄 :=
  iprop(anyv c (xK (c + 7)) ∗ anyv c (xK (c + 6)) ∗ anyv c (xK (c + 5)) ∗ (bigSep Finset.univ fun s : Fin 7 => anyv c (rK s)) ∗ rch c)
/-- What the device tells its right neighbour it may write. -/
def giveR (c : Dev nD) : sProp 𝕄 :=
  iprop(anyv c (xK (c + 1)) ∗ anyv c (xK (c + 2)) ∗ anyv c (xK (c + 3)) ∗ anyv c (xK (c + 4)) ∗ rch c)
theorem giveL_eq (c : Dev nD) : (sched a).payload (cell (c + 7) barS) 0 true = giveL c := by
  show barR (c + 7) = giveL c
  unfold barR giveL
  rw [add0 c 7 1 rfl, add3 c 7 7 6 rfl, add3 c 7 6 5 rfl]
theorem giveR_eq (c : Dev nD) : (sched a).payload (cell (c + 1) barS) 0 false = giveR c := by
  show barL (c + 1) = giveR c
  unfold barL giveR
  rw [add0 c 1 7 rfl, add3 c 1 1 2 rfl, add3 c 1 2 3 rfl, add3 c 1 3 4 rfl]

theorem msg0_eq (c : Dev nD) : msg a 0 c = k0_pay239 (pr a c (c + 7)) := rfl
theorem msg1_eq (c : Dev nD) : msg a 1 c = k0_pay239 (k0_pay248 (k0_pay247 (pr a c (c + 6)) (msg a (25 - 25) (c + 7)))) := rfl

/-- The copies, the meeting, and the device's own rows. -/
theorem wp_seg0 :
    env a κ c ⊢ iprop((bigSep Finset.univ fun h => kvIn a c h) -∗ reached ER (cell (c + 7) barS) 0 -∗ reached ER (cell (c + 1) barS) 0 -∗ dutyTok ER (cell (c + 7) barS) 0 true -∗ dutyTok ER (cell (c + 1) barS) 0 false -∗ giveL c -∗ giveR c -∗ cred (tallyAt (cell c barS) () 2) -∗ atPos ER (cell c barS) 0 ∅ 0 -∗ ow c 0 -∗ held c xStg fullShare (a.x c) -∗ anyv c (xK c)
      -∗ (((bigSep Finset.univ fun h : Fin 8 => iprop(fly c (32 + h.val) (by omega) ∗ fly c (40 + h.val) (by omega))) ∗ ow c 2 ∗ held c xStg fullShare (a.x c) ∗ held c (xK c) fullShare (xv a c) ∗ barL c ∗ barR c ∗ semVal (cell c barS) 0) -∗ W c k Q)
      -∗ W c (seg0 c k) Q) := by
  unfold seg0
  iintro #He HK HrL HrR HtL HtR HgL HgR Hc Ha Ho Hx Hd Hk
  rw [sep8 (fun h : Fin 8 => iprop(fly c (32 + h.val) (by omega) ∗ fly c (40 + h.val) (by omega)))]
  ihave HK := (Entails.of_eq (sep8 _)) $$ HK
  icases HK with ⟨K0, K1, K2, K3, K4, K5, K6, K7⟩
  iapply (wp_kvPair 0 rfl (off1_ho 0 c) rfl rfl) $$ He K0
  iintro K0
  iapply (wp_kvPair 1 rfl (off1_ho 1 c) rfl rfl) $$ He K1
  iintro K1
  iapply (wp_kvPair 2 rfl (off1_ho 2 c) rfl rfl) $$ He K2
  iintro K2
  iapply (wp_kvPair 3 rfl (off1_ho 3 c) rfl rfl) $$ He K3
  iintro K3
  iapply (wp_kvPair 4 rfl (off1_ho 4 c) rfl rfl) $$ He K4
  iintro K4
  iapply (wp_kvPair 5 rfl (off1_ho 5 c) rfl rfl) $$ He K5
  iintro K5
  iapply (wp_kvPair 6 rfl (off1_ho 6 c) rfl rfl) $$ He K6
  iintro K6
  iapply (wp_kvPair 7 rfl (off1_ho 7 c) rfl rfl) $$ He K7
  iintro K7
  iapply (wp_meet 0 (by decide) rfl rfl (by decide +kernel) bar_mem (dev1_l c) (dev2_r c)) $$ He HrL HrR HtL HtR [HgL] [HgR] Hc Ha Ho
  · iapply (Entails.of_eq (giveL_eq c).symm) $$ HgL
  · iapply (Entails.of_eq (giveR_eq c).symm) $$ HgR
  iintro ⟨Ho, HbL, HbR, Hz⟩
  ihave HbL := (Entails.of_eq (show (sched a).payload (cell c barS) 0 false = barL c from rfl)) $$ HbL
  ihave HbR := (Entails.of_eq (show (sched a).payload (cell c barS) 0 true = barR c from rfl)) $$ HbR
  iapply (wp_ownRows (off2_xo c)) $$ Hx Hd
  iintro ⟨Hx, Hd⟩
  iapply Hk
  isplitl [K0 K1 K2 K3 K4 K5 K6 K7]
  · isplitl [K0]; · iexact K0
    isplitl [K1]; · iexact K1
    isplitl [K2]; · iexact K2
    isplitl [K3]; · iexact K3
    isplitl [K4]; · iexact K4
    isplitl [K5]; · iexact K5
    isplitl [K6]; · iexact K6
    iexact K7
  isplitl [Ho]; · iexact Ho
  isplitl [Hx]; · iexact Hx
  isplitl [Hd]; · iexact Hd
  isplitl [HbL]; · iexact HbL
  isplitl [HbR]; · iexact HbR
  iexact Hz

/-- The device's own chunk. -/
theorem wp_seg1 :
    env a κ c ⊢ iprop(rch (c + 1) -∗ rch (c + 7) -∗ held c (xK c) fullShare (xv a c) -∗ anyv (c + 1) (xK c) -∗ anyv (c + 7) (xK c) -∗ snd c 4 -∗ tok (c + 1) 7 -∗ snd c 10 -∗ tok (c + 7) 14 -∗ ow c 2 -∗ held c wqM fullShare (a.wq c) -∗ held c woM fullShare (a.wo c) -∗ (bigSep Finset.univ fun h : Fin 8 => iprop(fly c (32 + h.val) (by omega) ∗ fly c (40 + h.val) (by omega))) -∗ (bigSep Finset.univ fun h : Fin 8 => anyv c (cK h)) -∗ anyv c (pK c) -∗ fly c 7
      -∗ ((held c (xK c) qC (xv a c) ∗ fly c 4 ∗ fly c 10 ∗ ow c 4 ∗ ws a c ∗ held c (pK c) fullShare (pr a c c) ∗ fin c 7 ∗ held c (xK (c + 7)) fullShare (xv a (c + 7)) ∗ bigSep Finset.univ fun h => kvBack a c h) -∗ W c k Q)
      -∗ W c (seg1 c k) Q) := by
  unfold seg1
  iintro #He #HR #HL Hx A1 A2 S4 T7 S10 T14 Ho Hq Hw HK Hc Hp F7 Hk
  icases (split3 (a := a) (c := c) c) $$ Hx with ⟨Xa, Xb, Xc⟩
  iapply (wp_xSend (by decide) (by decide) (by decide) (by decide) (c + 1) (dev3_r c) 2 (by decide) rfl rfl c (off30_0 c) qA
    (pay_agS a c 4 (by decide) c (add_zero c)) (pay_agR a (c + 1) 7 (by decide) (by decide) c (add0 c 1 7 rfl))) $$ He HR S4 T7 Xa A1 Ho
  iintro ⟨S4, Ho⟩
  iapply (wp_xSend (by decide) (by decide) (by decide) (by decide) (c + 7) (dev4_l c) 3 (by decide) rfl rfl c (off40_0 c) qB
    (pay_alS a c 10 (by decide) (by decide) c (add_zero c)) (pay_alR a (c + 7) 14 (by decide) (by decide) c (add0 c 7 1 rfl))) $$ He HL S10 T14 Xb A2 Ho
  iintro ⟨S10, Ho⟩
  iapply (wp_heads0 (off9_xo c) (chunk0 c)) $$ He Xc Hq Ho HK Hc
  iintro ⟨Xc, Hq, Ho, HK, Hc, HB⟩
  iapply (wp_project (off190_0 c)) $$ Hc Hw Hp
  iintro ⟨Hc, Hw, Hp⟩
  iapply (wp_xWait (by decide) (by decide) 4 (by decide +kernel) (pay_agR a c 7 (by decide) (by decide) (c + 7) rfl)) $$ He F7 Ho
  iintro ⟨Ho, X7, Z7⟩
  iapply Hk
  isplitl [Xc]; · iexact Xc
  isplitl [S4]; · iexact S4
  isplitl [S10]; · iexact S10
  isplitl [Ho]; · iexact Ho
  isplitl [Hq Hw HK Hc]
  · unfold ws
    isplitl [Hq]; · iexact Hq
    isplitl [Hw]; · iexact Hw
    isplitl [HK]; · iexact HK
    iexact Hc
  isplitl [Hp]; · iexact Hp
  isplitl [Z7]; · iexact Z7
  isplitl [X7]; · iexact X7
  iexact HB

/-- The second chunk. -/
theorem wp_seg2 :
    env a κ c ⊢ iprop(rch (c + 1) -∗ rch (c + 7) -∗ held c (xK (c + 7)) fullShare (xv a (c + 7)) -∗ anyv (c + 1) (xK (c + 7)) -∗ snd c 5 -∗ tok (c + 1) 8 -∗ ow c 4 -∗ fly c 14 -∗ anyv (c + 7) (xK (c + 1)) -∗ snd c 11 -∗ tok (c + 7) 15 -∗ ws a c -∗ anyv c (pK (c + 7)) -∗ anyv c (sK 0) -∗ snd c 18 -∗ tok (c + 1) 25 -∗ anyv (c + 1) (rK 0) -∗ fly c 8 -∗ anyv (c + 1) (xK (c + 6)) -∗ snd c 6 -∗ tok (c + 1) 9
      -∗ ((held c (xK (c + 7)) qB (xv a (c + 7)) ∗ held c (xK (c + 7)) qC (xv a (c + 7)) ∗ fly c 5 ∗ ow c 8 ∗ fin c 14 ∗ held c (xK (c + 1)) qA (xv a (c + 1)) ∗ held c (xK (c + 1)) qC (xv a (c + 1)) ∗ fly c 11 ∗ ws a c ∗ anyv c (pK (c + 7)) ∗ fly c 18 ∗ fin c 8 ∗ held c (xK (c + 6)) qB (xv a (c + 6)) ∗ held c (xK (c + 6)) qC (xv a (c + 6)) ∗ fly c 6) -∗ W c k Q)
      -∗ W c (seg2 c k) Q) := by
  unfold seg2
  iintro #He #HR #HL X7 A1 S5 T8 Ho F14 A2 S11 T15 Hw Hp Hs S18 T25 Ar F8 A3 S6 T9 Hk
  icases (split3 (a := a) (c := c) (c + 7)) $$ X7 with ⟨Xa, Xb, Xc⟩
  iapply (wp_xSend (by decide) (by decide) (by decide) (by decide) (c + 1) (dev5_r c) 4 (by decide) rfl rfl (c + 7) (off3_xo 1 c) qA
    (pay_agS a c 5 (by decide) (c + 7) rfl) (pay_agR a (c + 1) 8 (by decide) (by decide) (c + 7) (add3 c 1 6 7 rfl))) $$ He HR S5 T8 Xa A1 Ho
  iintro ⟨S5, Ho⟩
  iapply (wp_xWait (by decide) (by decide) 5 (by decide +kernel) (pay_alR a c 14 (by decide) (by decide) (c + 1) rfl)) $$ He F14 Ho
  iintro ⟨Ho, Y, Z14⟩
  icases (split3 (a := a) (c := c) (c + 1)) $$ Y with ⟨Ya, Yb, Yc⟩
  iapply (wp_xSend (by decide) (by decide) (by decide) (by decide) (c + 7) (dev6_l c) 5 (by decide) rfl rfl (c + 1) (off4_xo 1 c) qB
    (pay_alS a c 11 (by decide) (by decide) (c + 1) rfl) (pay_alR a (c + 7) 15 (by decide) (by decide) (c + 1) (add3 c 7 2 1 rfl))) $$ He HL S11 T15 Yb A2 Ho
  iintro ⟨S11, Ho⟩
  iapply (wp_stage (off20_xo c) (off19_xo 1 c) (chunk1 c)) $$ Xc Hw Hp
  iintro ⟨Xc, Hw, Hp⟩
  iapply (wp_sPut (j := c + 7) (b := 0) (off19_xo 1 c) rfl) $$ Hp Hs
  iintro ⟨Hp, Hs⟩
  ihave Hp := held_any _ _ $$ Hp
  iapply (wp_rsSend (by decide) (by decide) (by decide) (by decide) (c + 1) (dev7_r c) 6 (by decide) rfl rfl 0 0 rfl rfl (msg a 0 c)
    (pay_rsS a c 18 (by decide) (by decide) 0 rfl) (pay_rsR a (c + 1) 25 (by decide) (by decide) 0 rfl c (add0 c 1 7 rfl))) $$ He HR S18 T25 [Hs] Ar Ho
  · iapply (Entails.of_eq (congrArg (held c (sK 0) fullShare) (msg0_eq (a := a) c).symm)) $$ Hs
  iintro ⟨S18, Ho⟩
  iapply (wp_xWait (by decide) (by decide) 7 (by decide +kernel) (pay_agR a c 8 (by decide) (by decide) (c + 6) rfl)) $$ He F8 Ho
  iintro ⟨Ho, U, Z8⟩
  icases (split3 (a := a) (c := c) (c + 6)) $$ U with ⟨Ua, Ub, Uc⟩
  iapply (wp_xSend (by decide) (by decide) (by decide) (by decide) (c + 1) (dev8_r c) 7 (by decide) rfl rfl (c + 6) (off3_xo 2 c) qA
    (pay_agS a c 6 (by decide) (c + 6) rfl) (pay_agR a (c + 1) 9 (by decide) (by decide) (c + 6) (add3 c 1 5 6 rfl))) $$ He HR S6 T9 Ua A3 Ho
  iintro ⟨S6, Ho⟩
  iapply Hk
  isplitl [Xb]; · iexact Xb
  isplitl [Xc]; · iexact Xc
  isplitl [S5]; · iexact S5
  isplitl [Ho]; · iexact Ho
  isplitl [Z14]; · iexact Z14
  isplitl [Ya]; · iexact Ya
  isplitl [Yc]; · iexact Yc
  isplitl [S11]; · iexact S11
  isplitl [Hw]; · iexact Hw
  isplitl [Hp]; · iexact Hp
  isplitl [S18]; · iexact S18
  isplitl [Z8]; · iexact Z8
  isplitl [Ub]; · iexact Ub
  isplitl [Uc]; · iexact Uc
  iexact S6

/-- The third chunk. -/
theorem wp_seg3 :
    env a κ c ⊢ iprop(rch (c + 1) -∗ rch (c + 7) -∗ fly c 15 -∗ anyv (c + 7) (xK (c + 2)) -∗ snd c 12 -∗ tok (c + 7) 16 -∗ ow c 8 -∗ held c (xK (c + 6)) qC (xv a (c + 6)) -∗ ws a c -∗ anyv c (pK (c + 6)) -∗ fly c 25 -∗ anyv c (sK 1) -∗ snd c 19 -∗ tok (c + 1) 26 -∗ anyv (c + 1) (rK 1) -∗ fly c 9
      -∗ ((fin c 15 ∗ held c (xK (c + 2)) qA (xv a (c + 2)) ∗ held c (xK (c + 2)) qC (xv a (c + 2)) ∗ fly c 12 ∗ ow c 10 ∗ held c (xK (c + 6)) qC (xv a (c + 6)) ∗ ws a c ∗ anyv c (pK (c + 6)) ∗ fin c 25 ∗ anyv c (rK 0) ∗ fly c 19 ∗ fin c 9 ∗ held c (xK (c + 5)) fullShare (xv a (c + 5))) -∗ W c k Q)
      -∗ W c (seg3 c k) Q) := by
  unfold seg3
  iintro #He #HR #HL F15 A2 S12 T16 Ho Xc Hw Hp F25 Hs S19 T26 Ar F9 Hk
  iapply (wp_xWait (by decide) (by decide) 8 (by decide +kernel) (pay_alR a c 15 (by decide) (by decide) (c + 2) rfl)) $$ He F15 Ho
  iintro ⟨Ho, Y, Z15⟩
  icases (split3 (a := a) (c := c) (c + 2)) $$ Y with ⟨Ya, Yb, Yc⟩
  iapply (wp_xSend (by decide) (by decide) (by decide) (by decide) (c + 7) (dev9_l c) 8 (by decide) rfl rfl (c + 2) (off4_xo 2 c) qB
    (pay_alS a c 12 (by decide) (by decide) (c + 2) rfl) (pay_alR a (c + 7) 16 (by decide) (by decide) (c + 2) (add3 c 7 3 2 rfl))) $$ He HL S12 T16 Yb A2 Ho
  iintro ⟨S12, Ho⟩
  iapply (wp_stage (off30_xo c) (off19_xo 2 c) (chunk2 c)) $$ Xc Hw Hp
  iintro ⟨Xc, Hw, Hp⟩
  iapply (wp_recvAdd (j := c + 6) (by decide) (by decide) 0 rfl 9 (by decide +kernel) (off19_xo 2 c) rfl) $$ He F25 Ho Hp
  iintro ⟨Ho, Z25, Hp, Hm⟩
  iapply (wp_sPut (j := c + 6) (b := 1) (off19_xo 2 c) rfl) $$ Hp Hs
  iintro ⟨Hp, Hs⟩
  ihave Hp := held_any _ _ $$ Hp
  ihave Hm := held_any _ _ $$ Hm
  iapply (wp_rsSend (by decide) (by decide) (by decide) (by decide) (c + 1) (dev10_r c) 9 (by decide) rfl rfl 1 1 rfl rfl (msg a 1 c)
    (pay_rsS a c 19 (by decide) (by decide) 1 rfl) (pay_rsR a (c + 1) 26 (by decide) (by decide) 1 rfl c (add0 c 1 7 rfl))) $$ He HR S19 T26 [Hs] Ar Ho
  · iapply (Entails.of_eq (congrArg (held c (sK 1) fullShare) (msg1_eq (a := a) c).symm)) $$ Hs
  iintro ⟨S19, Ho⟩
  iapply (wp_xWait (by decide) (by decide) 10 (by decide +kernel) (pay_agR a c 9 (by decide) (by decide) (c + 5) rfl)) $$ He F9 Ho
  iintro ⟨Ho, X5, Z9⟩
  iapply Hk
  isplitl [Z15]; · iexact Z15
  isplitl [Ya]; · iexact Ya
  isplitl [Yc]; · iexact Yc
  isplitl [S12]; · iexact S12
  isplitl [Ho]; · iexact Ho
  isplitl [Xc]; · iexact Xc
  isplitl [Hw]; · iexact Hw
  isplitl [Hp]; · iexact Hp
  isplitl [Z25]; · iexact Z25
  isplitl [Hm]; · iexact Hm
  isplitl [S19]; · iexact S19
  isplitl [Z9]; · iexact Z9
  iexact X5

/-- The fourth chunk. -/
theorem wp_seg4 :
    env a κ c ⊢ iprop(rch (c + 1) -∗ rch (c + 7) -∗ fly c 16 -∗ anyv (c + 7) (xK (c + 3)) -∗ snd c 13 -∗ tok (c + 7) 17 -∗ held c (xK (c + 5)) fullShare (xv a (c + 5)) -∗ ws a c -∗ anyv c (pK (c + 5)) -∗ fly c 26 -∗ fly c 18 -∗ snd c 20 -∗ tok (c + 1) 27 -∗ anyv (c + 1) (rK 2) -∗ ow c 10
      -∗ ((fin c 16 ∗ held c (xK (c + 3)) qA (xv a (c + 3)) ∗ held c (xK (c + 3)) qC (xv a (c + 3)) ∗ fly c 13 ∗ held c (xK (c + 5)) fullShare (xv a (c + 5)) ∗ ws a c ∗ anyv c (pK (c + 5)) ∗ anyv c (rK 1) ∗ fin c 26 ∗ fin c 18 ∗ fly c 20 ∗ ow c 12) -∗ W c k Q)
      -∗ W c (seg4 c k) Q) := by
  unfold seg4
  iintro #He #HR #HL F16 A2 S13 T17 Xq Hw Hp F26 F18 S20 T27 Ar Ho Hk
  iapply (wp_xWait (by decide) (by decide) 10 (by decide +kernel) (pay_alR a c 16 (by decide) (by decide) (c + 3) rfl)) $$ He F16 Ho
  iintro ⟨Ho, Y, Z16⟩
  icases (split3 (a := a) (c := c) (c + 3)) $$ Y with ⟨Ya, Yb, Yc⟩
  iapply (wp_xSend (by decide) (by decide) (by decide) (by decide) (c + 7) (dev11_l c) 10 (by decide) rfl rfl (c + 3) (off4_xo 3 c) qB
    (pay_alS a c 13 (by decide) (by decide) (c + 3) rfl) (pay_alR a (c + 7) 17 (by decide) (by decide) (c + 3) (add3 c 7 4 3 rfl))) $$ He HL S13 T17 Yb A2 Ho
  iintro ⟨S13, Ho⟩
  iapply (wp_round (s := 1) (by decide) (by decide) rfl rfl rfl rfl (j := (c + 5)) rfl (b := 0) rfl (s1 := 1) (s2 := 2) rfl rfl 11 (by decide) (by decide +kernel) (by decide +kernel) rfl (dev12_r c)
    (off40_xo c) (off19_xo 3 c) (chunk3 c) rfl rfl rfl) $$ He HR Xq Hw Hp F26 F18 S20 T27 Ar Ho
  iintro ⟨Xq, Hw, Hp, Hm, Z26, Z18, S20, Ho⟩
  iapply Hk
  isplitl [Z16]; · iexact Z16
  isplitl [Ya]; · iexact Ya
  isplitl [Yc]; · iexact Yc
  isplitl [S13]; · iexact S13
  isplitl [Xq]; · iexact Xq
  isplitl [Hw]; · iexact Hw
  isplitl [Hp]; · iexact Hp
  isplitl [Hm]; · iexact Hm
  isplitl [Z26]; · iexact Z26
  isplitl [Z18]; · iexact Z18
  isplitl [S20]; · iexact S20
  iexact Ho

/-- The fifth chunk. -/
theorem wp_seg5 :
    env a κ c ⊢ iprop(rch (c + 1) -∗ fly c 17 -∗ ws a c -∗ anyv c (pK (c + 4)) -∗ fly c 27 -∗ fly c 19 -∗ snd c 21 -∗ tok (c + 1) 28 -∗ anyv (c + 1) (rK 3) -∗ ow c 12
      -∗ ((fin c 17 ∗ held c (xK (c + 4)) fullShare (xv a (c + 4)) ∗ ws a c ∗ anyv c (pK (c + 4)) ∗ anyv c (rK 2) ∗ fin c 27 ∗ fin c 19 ∗ fly c 21 ∗ ow c 13) -∗ W c k Q)
      -∗ W c (seg5 c k) Q) := by
  unfold seg5
  iintro #He #HR F17 Hw Hp F27 F19 S21 T28 Ar Ho Hk
  iapply (wp_xWait (by decide) (by decide) 12 (by decide +kernel) (pay_alR a c 17 (by decide) (by decide) (c + 4) rfl)) $$ He F17 Ho
  iintro ⟨Ho, Xq, Z17⟩
  iapply (wp_round (s := 2) (by decide) (by decide) rfl rfl rfl rfl (j := (c + 4)) rfl (b := 1) rfl (s1 := 2) (s2 := 3) rfl rfl 12 (by decide) (by decide +kernel) (by decide +kernel) rfl (dev13_r c)
    (off50_xo c) (off19_xo 4 c) (chunk4 c) rfl rfl rfl) $$ He HR Xq Hw Hp F27 F19 S21 T28 Ar Ho
  iintro ⟨Xq, Hw, Hp, Hm, Z27, Z19, S21, Ho⟩
  iapply Hk
  isplitl [Z17]; · iexact Z17
  isplitl [Xq]; · iexact Xq
  isplitl [Hw]; · iexact Hw
  isplitl [Hp]; · iexact Hp
  isplitl [Hm]; · iexact Hm
  isplitl [Z27]; · iexact Z27
  isplitl [Z19]; · iexact Z19
  isplitl [S21]; · iexact S21
  iexact Ho

/-- The sixth chunk. -/
theorem wp_seg6 :
    env a κ c ⊢ iprop(rch (c + 1) -∗ held c (xK (c + 3)) qC (xv a (c + 3)) -∗ ws a c -∗ anyv c (pK (c + 3)) -∗ fly c 28 -∗ fly c 20 -∗ snd c 22 -∗ tok (c + 1) 29 -∗ anyv (c + 1) (rK 4) -∗ ow c 13
      -∗ ((held c (xK (c + 3)) qC (xv a (c + 3)) ∗ ws a c ∗ anyv c (pK (c + 3)) ∗ anyv c (rK 3) ∗ fin c 28 ∗ fin c 20 ∗ fly c 22 ∗ ow c 14) -∗ W c k Q)
      -∗ W c (seg6 c k) Q) := by
  unfold seg6
  iintro #He #HR Xq Hw Hp F28 F20 S22 T29 Ar Ho Hk
  iapply (wp_round (s := 3) (by decide) (by decide) rfl rfl rfl rfl (j := (c + 3)) rfl (b := 0) rfl (s1 := 3) (s2 := 4) rfl rfl 13 (by decide) (by decide +kernel) (by decide +kernel) rfl (dev14_r c)
    (off60_xo c) (off19_xo 5 c) (chunk5 c) rfl rfl rfl) $$ He HR Xq Hw Hp F28 F20 S22 T29 Ar Ho
  iintro ⟨Xq, Hw, Hp, Hm, Z28, Z20, S22, Ho⟩
  iapply Hk
  isplitl [Xq]; · iexact Xq
  isplitl [Hw]; · iexact Hw
  isplitl [Hp]; · iexact Hp
  isplitl [Hm]; · iexact Hm
  isplitl [Z28]; · iexact Z28
  isplitl [Z20]; · iexact Z20
  isplitl [S22]; · iexact S22
  iexact Ho

/-- The seventh chunk. -/
theorem wp_seg7 :
    env a κ c ⊢ iprop(rch (c + 1) -∗ held c (xK (c + 2)) qC (xv a (c + 2)) -∗ ws a c -∗ anyv c (pK (c + 2)) -∗ fly c 29 -∗ fly c 21 -∗ snd c 23 -∗ tok (c + 1) 30 -∗ anyv (c + 1) (rK 5) -∗ ow c 14
      -∗ ((held c (xK (c + 2)) qC (xv a (c + 2)) ∗ ws a c ∗ anyv c (pK (c + 2)) ∗ anyv c (rK 4) ∗ fin c 29 ∗ fin c 21 ∗ fly c 23 ∗ ow c 15) -∗ W c k Q)
      -∗ W c (seg7 c k) Q) := by
  unfold seg7
  iintro #He #HR Xq Hw Hp F29 F21 S23 T30 Ar Ho Hk
  iapply (wp_round (s := 4) (by decide) (by decide) rfl rfl rfl rfl (j := (c + 2)) rfl (b := 1) rfl (s1 := 4) (s2 := 5) rfl rfl 14 (by decide) (by decide +kernel) (by decide +kernel) rfl (dev15_r c)
    (off70_xo c) (off19_xo 6 c) (chunk6 c) rfl rfl rfl) $$ He HR Xq Hw Hp F29 F21 S23 T30 Ar Ho
  iintro ⟨Xq, Hw, Hp, Hm, Z29, Z21, S23, Ho⟩
  iapply Hk
  isplitl [Xq]; · iexact Xq
  isplitl [Hw]; · iexact Hw
  isplitl [Hp]; · iexact Hp
  isplitl [Hm]; · iexact Hm
  isplitl [Z29]; · iexact Z29
  isplitl [Z21]; · iexact Z21
  isplitl [S23]; · iexact S23
  iexact Ho

/-- The last chunk. -/
theorem wp_seg8 :
    env a κ c ⊢ iprop(rch (c + 1) -∗ held c (xK (c + 1)) qC (xv a (c + 1)) -∗ ws a c -∗ anyv c (pK (c + 1)) -∗ fly c 30 -∗ fly c 22 -∗ snd c 24 -∗ tok (c + 1) 31 -∗ anyv (c + 1) (rK 6) -∗ ow c 15
      -∗ ((held c (xK (c + 1)) qC (xv a (c + 1)) ∗ ws a c ∗ anyv c (pK (c + 1)) ∗ anyv c (rK 5) ∗ fin c 30 ∗ fin c 22 ∗ fly c 24 ∗ ow c 16) -∗ W c k Q)
      -∗ W c (seg8 c k) Q) := by
  unfold seg8
  iintro #He #HR Xq Hw Hp F30 F22 S24 T31 Ar Ho Hk
  iapply (wp_round (s := 5) (by decide) (by decide) rfl rfl rfl rfl (j := (c + 1)) rfl (b := 0) rfl (s1 := 5) (s2 := 6) rfl rfl 15 (by decide) (by decide +kernel) (by decide +kernel) rfl (dev16_r c)
    (off80_xo c) (off19_xo 7 c) (chunk7 c) rfl rfl rfl) $$ He HR Xq Hw Hp F30 F22 S24 T31 Ar Ho
  iintro ⟨Xq, Hw, Hp, Hm, Z30, Z22, S24, Ho⟩
  iapply Hk
  isplitl [Xq]; · iexact Xq
  isplitl [Hw]; · iexact Hw
  isplitl [Hp]; · iexact Hp
  isplitl [Hm]; · iexact Hm
  isplitl [Z30]; · iexact Z30
  isplitl [Z22]; · iexact Z22
  isplitl [S24]; · iexact S24
  iexact Ho

theorem end_emp (e : Dev nD) (b : Bool) : ⊢ (sched a).payload (cell e endS) 0 b := by
  show ⊢ iprop(emp)
  exact BIBase.Entails.rfl

/-- The result, the transfers still under way, and the last meeting. -/
theorem wp_seg9 :
    env a κ c ⊢ iprop(fly c 31 -∗ held c (pK c) fullShare (pr a c c) -∗ anyv c outM -∗ ow c 16 -∗ fly c 4 -∗ fly c 5 -∗ fly c 6 -∗ fly c 10 -∗ fly c 11 -∗ fly c 12 -∗ fly c 13 -∗ fly c 23 -∗ fly c 24 -∗ reached ER (cell (c + 7) endS) 0 -∗ reached ER (cell (c + 1) endS) 0 -∗ dutyTok ER (cell (c + 7) endS) 0 true -∗ dutyTok ER (cell (c + 1) endS) 0 false -∗ cred (tallyAt (cell c endS) () 2) -∗ atPos ER (cell c endS) 0 ∅ 0
      -∗ ((fin c 31 ∗ anyv c (rK 6) ∗ anyv c (pK c) ∗ held c outM fullShare (outv a c) ∗ ow c 18 ∗ fin c 4 ∗ fin c 5 ∗ fin c 6 ∗ fin c 10 ∗ fin c 11 ∗ fin c 12 ∗ fin c 13 ∗ fin c 23 ∗ fin c 24 ∗ held c (xK c) qA (xv a c) ∗ held c (xK (c + 7)) qA (xv a (c + 7)) ∗ held c (xK (c + 6)) qA (xv a (c + 6)) ∗ held c (xK c) qB (xv a c) ∗ held c (xK (c + 1)) qB (xv a (c + 1)) ∗ held c (xK (c + 2)) qB (xv a (c + 2)) ∗ held c (xK (c + 3)) qB (xv a (c + 3)) ∗ anyv c (sK 1) ∗ anyv c (sK 0) ∗ semVal (cell c endS) 0) -∗ W c k Q)
      -∗ W c (seg9 c k) Q) := by
  unfold seg9
  iintro #He F31 Hp Hout Ho F4 F5 F6 F10 F11 F12 F13 F23 F24 HrL HrR HtL HtR Hc Ha Hk
  iapply (wp_rsRecv (by decide) (by decide) 6 rfl 16 (by decide +kernel)) $$ He F31 Ho
  iintro ⟨Ho, Hm, Z31⟩
  iapply (wp_outPut (off2_xo c) rfl) $$ Hp Hm Hout
  iintro ⟨Hp, Hm, Hout⟩
  iapply (wp_xWait (by decide) (by decide) 16 (by decide +kernel) (pay_agS a c 4 (by decide) c (add_zero c))) $$ He F4 Ho
  iintro ⟨Ho, X4, Z4⟩
  iapply (wp_xWait (by decide) (by decide) 16 (by decide +kernel) (pay_agS a c 5 (by decide) (c + 7) rfl)) $$ He F5 Ho
  iintro ⟨Ho, X5, Z5⟩
  iapply (wp_xWait (by decide) (by decide) 16 (by decide +kernel) (pay_agS a c 6 (by decide) (c + 6) rfl)) $$ He F6 Ho
  iintro ⟨Ho, X6, Z6⟩
  iapply (wp_xWait (by decide) (by decide) 16 (by decide +kernel) (pay_alS a c 10 (by decide) (by decide) c (add_zero c))) $$ He F10 Ho
  iintro ⟨Ho, X10, Z10⟩
  iapply (wp_xWait (by decide) (by decide) 16 (by decide +kernel) (pay_alS a c 11 (by decide) (by decide) (c + 1) rfl)) $$ He F11 Ho
  iintro ⟨Ho, X11, Z11⟩
  iapply (wp_xWait (by decide) (by decide) 16 (by decide +kernel) (pay_alS a c 12 (by decide) (by decide) (c + 2) rfl)) $$ He F12 Ho
  iintro ⟨Ho, X12, Z12⟩
  iapply (wp_xWait (by decide) (by decide) 16 (by decide +kernel) (pay_alS a c 13 (by decide) (by decide) (c + 3) rfl)) $$ He F13 Ho
  iintro ⟨Ho, X13, Z13⟩
  iapply (wp_sentWait (by decide) (by decide) 1 rfl 16 (by decide +kernel)) $$ He F23 Ho
  iintro ⟨Ho, Hs1, Z23⟩
  iapply (wp_sentWait (by decide) (by decide) 0 rfl 16 (by decide +kernel)) $$ He F24 Ho
  iintro ⟨Ho, Hs0, Z24⟩
  iapply (wp_meet 16 (by decide) rfl rfl (by decide +kernel) (fun x => sc_mem x 44) (dev17_l c) (dev18_r c)) $$ He HrL HrR HtL HtR [] [] Hc Ha Ho
  · iapply (end_emp (a := a) (c + 7) true)
  · iapply (end_emp (a := a) (c + 1) false)
  iintro ⟨Ho, -, -, Hz⟩
  ihave Hp := held_any _ _ $$ Hp
  ihave Hm := held_any _ _ $$ Hm
  iapply Hk
  isplitl [Z31]; · iexact Z31
  isplitl [Hm]; · iexact Hm
  isplitl [Hp]; · iexact Hp
  isplitl [Hout]; · iexact Hout
  isplitl [Ho]; · iexact Ho
  isplitl [Z4]; · iexact Z4
  isplitl [Z5]; · iexact Z5
  isplitl [Z6]; · iexact Z6
  isplitl [Z10]; · iexact Z10
  isplitl [Z11]; · iexact Z11
  isplitl [Z12]; · iexact Z12
  isplitl [Z13]; · iexact Z13
  isplitl [Z23]; · iexact Z23
  isplitl [Z24]; · iexact Z24
  isplitl [X4]; · iexact X4
  isplitl [X5]; · iexact X5
  isplitl [X6]; · iexact X6
  isplitl [X10]; · iexact X10
  isplitl [X11]; · iexact X11
  isplitl [X12]; · iexact X12
  isplitl [X13]; · iexact X13
  isplitl [Hs1]; · iexact Hs1
  isplitl [Hs0]; · iexact Hs0
  iexact Hz

end Cert.KernelIdeal
-- ==== Proof.Run.lean ====
module

public import proofs.«01_k».proof.Proof.Segs

@[expose] public section

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## The whole program -/

variable {a : Ins F} {κ : GSem nD τ sig → ℕ} {c : Dev nD} {Q : Post F}

/-- Which device a payment goes to, as steps to the right; -/
def tsh (k : Fin 48) : Fin 8 := ([0, 0, 0, 1, 1, 1, 0, 0, 0, 0, 7, 7, 7, 7, 0, 0, 0, 0, 0, 0, 0, 1, 1, 1, 1, 1, 1, 1, 0, 0, 0, 0, 0, 0, 0, 0, 0, 0, 0, 0, 0, 0, 0, 0, 7, 1, 7, 1] : List (Fin 8)).getD k.val 0
/-- its semaphore, -/
def tsm (k : Fin 48) : SemLoc sig := if h : k.val < 44 then .dma ⟨4 + k.val, by show 4 + k.val < 48; omega⟩ else if k.val < 46 then barS else endS
/-- and its name. -/
def tnm (k : Fin 48) : Bool := k.val = 44 ∨ k.val = 46

/-- The rights to pay that a device has at the start. -/
def toks (c : Dev nD) : sProp 𝕄 := bigSep Finset.univ fun k : Fin 48 => dutyTok ER (cell (if tsh k = 0 then c else c + tsh k) (tsm k)) 0 (tnm k)
theorem toks_eq (c : Dev nD) : toks (F := F) c = iprop(dutyTok ER (dc c 4) 0 false ∗ dutyTok ER (dc c 5) 0 false ∗ dutyTok ER (dc c 6) 0 false ∗ dutyTok ER (dc (c + 1) 7) 0 false ∗ dutyTok ER (dc (c + 1) 8) 0 false ∗ dutyTok ER (dc (c + 1) 9) 0 false ∗ dutyTok ER (dc c 10) 0 false ∗ dutyTok ER (dc c 11) 0 false ∗ dutyTok ER (dc c 12) 0 false ∗ dutyTok ER (dc c 13) 0 false ∗ dutyTok ER (dc (c + 7) 14) 0 false ∗ dutyTok ER (dc (c + 7) 15) 0 false ∗ dutyTok ER (dc (c + 7) 16) 0 false ∗ dutyTok ER (dc (c + 7) 17) 0 false ∗ dutyTok ER (dc c 18) 0 false ∗ dutyTok ER (dc c 19) 0 false ∗ dutyTok ER (dc c 20) 0 false ∗ dutyTok ER (dc c 21) 0 false ∗ dutyTok ER (dc c 22) 0 false ∗ dutyTok ER (dc c 23) 0 false ∗ dutyTok ER (dc c 24) 0 false ∗ dutyTok ER (dc (c + 1) 25) 0 false ∗ dutyTok ER (dc (c + 1) 26) 0 false ∗ dutyTok ER (dc (c + 1) 27) 0 false ∗ dutyTok ER (dc (c + 1) 28) 0 false ∗ dutyTok ER (dc (c + 1) 29) 0 false ∗ dutyTok ER (dc (c + 1) 30) 0 false ∗ dutyTok ER (dc (c + 1) 31) 0 false ∗ dutyTok ER (dc c 32) 0 false ∗ dutyTok ER (dc c 33) 0 false ∗ dutyTok ER (dc c 34) 0 false ∗ dutyTok ER (dc c 35) 0 false ∗ dutyTok ER (dc c 36) 0 false ∗ dutyTok ER (dc c 37) 0 false ∗ dutyTok ER (dc c 38) 0 false ∗ dutyTok ER (dc c 39) 0 false ∗ dutyTok ER (dc c 40) 0 false ∗ dutyTok ER (dc c 41) 0 false ∗ dutyTok ER (dc c 42) 0 false ∗ dutyTok ER (dc c 43) 0 false ∗ dutyTok ER (dc c 44) 0 false ∗ dutyTok ER (dc c 45) 0 false ∗ dutyTok ER (dc c 46) 0 false ∗ dutyTok ER (dc c 47) 0 false ∗ dutyTok ER (cell (c + 7) barS) 0 true ∗ dutyTok ER (cell (c + 1) barS) 0 false ∗ dutyTok ER (cell (c + 7) endS) 0 true ∗ dutyTok ER (cell (c + 1) endS) 0 false) := by
  unfold toks
  rw [bigSep_univ_eq_bigSepL [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47] (by decide) (by decide)]
  rfl

/-- Something for each of a device's own semaphores. -/
theorem sep45 (Ψ : GSem nD τ sig → sProp 𝕄) (c : Dev nD) :
    (bigSep Finset.univ fun k : Fin 45 => Ψ (cell c (osem k))) = iprop(Ψ (dc c 4) ∗ Ψ (dc c 5) ∗ Ψ (dc c 6) ∗ Ψ (dc c 7) ∗ Ψ (dc c 8) ∗ Ψ (dc c 9) ∗ Ψ (dc c 10) ∗ Ψ (dc c 11) ∗ Ψ (dc c 12) ∗ Ψ (dc c 13) ∗ Ψ (dc c 14) ∗ Ψ (dc c 15) ∗ Ψ (dc c 16) ∗ Ψ (dc c 17) ∗ Ψ (dc c 18) ∗ Ψ (dc c 19) ∗ Ψ (dc c 20) ∗ Ψ (dc c 21) ∗ Ψ (dc c 22) ∗ Ψ (dc c 23) ∗ Ψ (dc c 24) ∗ Ψ (dc c 25) ∗ Ψ (dc c 26) ∗ Ψ (dc c 27) ∗ Ψ (dc c 28) ∗ Ψ (dc c 29) ∗ Ψ (dc c 30) ∗ Ψ (dc c 31) ∗ Ψ (dc c 32) ∗ Ψ (dc c 33) ∗ Ψ (dc c 34) ∗ Ψ (dc c 35) ∗ Ψ (dc c 36) ∗ Ψ (dc c 37) ∗ Ψ (dc c 38) ∗ Ψ (dc c 39) ∗ Ψ (dc c 40) ∗ Ψ (dc c 41) ∗ Ψ (dc c 42) ∗ Ψ (dc c 43) ∗ Ψ (dc c 44) ∗ Ψ (dc c 45) ∗ Ψ (dc c 46) ∗ Ψ (dc c 47) ∗ Ψ (cell c endS)) := by
  rw [bigSep_univ_eq_bigSepL [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44] (by decide) (by decide)]
  rfl

/-- The semaphores others pay. -/
def rsm (i : Fin 16) : SemLoc sig := ([.dma (dq 7), .dma (dq 8), .dma (dq 9), .dma (dq 14), .dma (dq 15), .dma (dq 16), .dma (dq 17), .dma (dq 25), .dma (dq 26), .dma (dq 27), .dma (dq 28), .dma (dq 29), .dma (dq 30), .dma (dq 31), barS, endS] : List (SemLoc sig)).getD i.val barS
/-- How many times each is paid. -/
def rtm (i : Fin 16) : ℕ := if i.val < 14 then 1 else 2
/-- What a device may count on being paid. -/
def creds (c : Dev nD) : sProp 𝕄 := bigSep Finset.univ fun i : Fin 16 => cred (tallyAt (cell c (rsm i)) () (rtm i * amt (rsm i)))
theorem creds_eq (c : Dev nD) : creds (F := F) c
    = iprop(cred (tallyAt (dc c 7) () (1 * amt (.dma (dq 7)))) ∗ cred (tallyAt (dc c 8) () (1 * amt (.dma (dq 8)))) ∗ cred (tallyAt (dc c 9) () (1 * amt (.dma (dq 9)))) ∗ cred (tallyAt (dc c 14) () (1 * amt (.dma (dq 14)))) ∗ cred (tallyAt (dc c 15) () (1 * amt (.dma (dq 15)))) ∗ cred (tallyAt (dc c 16) () (1 * amt (.dma (dq 16)))) ∗ cred (tallyAt (dc c 17) () (1 * amt (.dma (dq 17)))) ∗ cred (tallyAt (dc c 25) () (1 * amt (.dma (dq 25)))) ∗ cred (tallyAt (dc c 26) () (1 * amt (.dma (dq 26)))) ∗ cred (tallyAt (dc c 27) () (1 * amt (.dma (dq 27)))) ∗ cred (tallyAt (dc c 28) () (1 * amt (.dma (dq 28)))) ∗ cred (tallyAt (dc c 29) () (1 * amt (.dma (dq 29)))) ∗ cred (tallyAt (dc c 30) () (1 * amt (.dma (dq 30)))) ∗ cred (tallyAt (dc c 31) () (1 * amt (.dma (dq 31)))) ∗ cred (tallyAt (cell c barS) () 2) ∗ cred (tallyAt (cell c endS) () 2)) := by
  unfold creds
  rw [bigSep_univ_eq_bigSepL [0, 1, 2, 3, 4, 5, 6, 7, 8, 9, 10, 11, 12, 13, 14, 15] (by decide) (by decide)]
  rfl

/-- Something for each chunk, from the device's own on. -/
theorem around (Φ : Fin 8 → sProp 𝕄) (c : Fin 8) : bigSep Finset.univ Φ = iprop(Φ (c) ∗ Φ (c + 1) ∗ Φ (c + 2) ∗ Φ (c + 3) ∗ Φ (c + 4) ∗ Φ (c + 5) ∗ Φ (c + 6) ∗ Φ (c + 7)) := by
  rw [bigSep_univ_equiv (Equiv.addLeft c) Φ, sep8 (fun i => Φ ((Equiv.addLeft c) i))]
  show iprop(Φ (c + 0) ∗ _) = _
  rw [add_zero]
  rfl

/-- The memory a device's program works in. -/
def mem (a : Ins F) (c : Dev nD) : sProp 𝕄 :=
  iprop((bigSep Finset.univ fun h : Fin 8 => iprop(src kH c h (a.k c) ∗ src vH c h (a.v c)))
    ∗ (bigSep Finset.univ fun h : Fin 8 => anyv c (kvB kM h)) ∗ (bigSep Finset.univ fun h : Fin 8 => anyv c (kvB vM h))
    ∗ (bigSep Finset.univ fun h : Fin 8 => anyv c (cK h)) ∗ (bigSep Finset.univ fun j : Fin 8 => anyv c (xK j))
    ∗ (bigSep Finset.univ fun j : Fin 8 => anyv c (pK j)) ∗ (bigSep Finset.univ fun s : Fin 7 => anyv c (rK s)) ∗ bigSep Finset.univ fun b : Fin 2 => anyv c (sK b))
theorem mem_open : mem a c ⊢
  iprop((bigSep Finset.univ fun h : Fin 8 => iprop(src kH c h (a.k c) ∗ src vH c h (a.v c)))
    ∗ (bigSep Finset.univ fun h : Fin 8 => anyv c (kvB kM h)) ∗ (bigSep Finset.univ fun h : Fin 8 => anyv c (kvB vM h))
    ∗ (bigSep Finset.univ fun h : Fin 8 => anyv c (cK h)) ∗ (bigSep Finset.univ fun j : Fin 8 => anyv c (xK j))
    ∗ (bigSep Finset.univ fun j : Fin 8 => anyv c (pK j)) ∗ (bigSep Finset.univ fun s : Fin 7 => anyv c (rK s)) ∗ bigSep Finset.univ fun b : Fin 2 => anyv c (sK b)) := by
  unfold mem; exact BIBase.Entails.rfl

/-- The meeting semaphores have begun. -/
theorem bar_at (e : Dev nD) : env a κ c ⊢ reached ER (cell e barS) 0 := by
  unfold env records
  iintro ⟨⟨-, H⟩, -⟩
  iapply (show (bigSep barCells fun g => (reached ER g 0 : sProp 𝕄)) ⊢ reached ER (cell e barS) 0 from
    bigSep_elim (Finset.mem_map_of_mem barEmb (Finset.mem_univ e))) $$ H
/-- Both heads' buffers are free again. -/
theorem kvs_any : (bigSep Finset.univ fun h => kvs a c h) ⊢ iprop((bigSep Finset.univ fun h : Fin 8 => anyv c (kvB kM h)) ∗ bigSep Finset.univ fun h : Fin 8 => anyv c (kvB vM h)) := by
  refine (bigSep_mono (Ψ := fun h : Fin 8 => iprop(anyv c (kvB kM h) ∗ anyv c (kvB vM h))) fun h _ => ?_).trans (Entails.of_eq (bigSep_sep' _ _ _))
  show kvs a c h ⊢ iprop(anyv c (kvB kM h) ∗ anyv c (kvB vM h))
  unfold kvs
  iintro ⟨H1, H2⟩
  isplitl [H1]; · iapply (held_any _ _) $$ H1
  iapply (held_any _ _) $$ H2

theorem kvBack_split : (bigSep Finset.univ fun h => kvBack a c h) ⊢ iprop(((fin c 32 ∗ fin c 40) ∗ (fin c 33 ∗ fin c 41) ∗ (fin c 34 ∗ fin c 42) ∗ (fin c 35 ∗ fin c 43) ∗ (fin c 36 ∗ fin c 44) ∗ (fin c 37 ∗ fin c 45) ∗ (fin c 38 ∗ fin c 46) ∗ (fin c 39 ∗ fin c 47))
    ∗ bigSep Finset.univ fun h : Fin 8 => iprop(src kH c h (a.k c) ∗ src vH c h (a.v c))) := by
  unfold kvBack
  have h := Entails.of_eq (bigSep_sep' Finset.univ (fun h : Fin 8 => iprop(fin c (32 + h.val) (by omega) ∗ fin c (40 + h.val) (by omega))) (fun h : Fin 8 => iprop(src kH c h (a.k c) ∗ src vH c h (a.v c))))
  rw [sep8 (fun h : Fin 8 => iprop(fin c (32 + h.val) (by omega) ∗ fin c (40 + h.val) (by omega)))] at h
  exact h

set_option maxHeartbeats 4000000 in
/-- A device's program, from its memory and its share of the rights, ends with the result, the memory, and all semaphores at zero. -/
theorem wp_prog :
    env a κ c ⊢ iprop(ow c 0 -∗ held c xStg fullShare (a.x c) -∗ held c wqM fullShare (a.wq c) -∗ held c woM fullShare (a.wo c) -∗ anyv c outM -∗ mem a c
      -∗ toks c -∗ (bigSep Finset.univ fun k : Fin 45 => atPos ER (cell c (osem k)) 0 ∅ 0) -∗ creds c -∗ atPos ER (cell c barS) 0 ∅ 0
      -∗ ((ow c 18 ∗ held c xStg fullShare (a.x c) ∗ held c wqM fullShare (a.wq c) ∗ held c woM fullShare (a.wo c) ∗ held c outM fullShare (outv a c) ∗ mem a c
        ∗ (bigSep Finset.univ fun k : Fin 45 => semVal (cell c (osem k)) 0) ∗ semVal (cell c barS) 0) -∗ Q ⟨⟩)
      -∗ W c (prog c) Q) := by
  unfold prog
  iintro #He Ho Hx Hq Hw Hout Hm Ht Hpo Hcr Hbp Hk
  ihave Ht := (Entails.of_eq (toks_eq c)) $$ Ht
  icases Ht with ⟨t4, t5, t6, t7, t8, t9, t10, t11, t12, t13, t14, t15, t16, t17, t18, t19, t20, t21, t22, t23, t24, t25, t26, t27, t28, t29, t30, t31, t32, t33, t34, t35, t36, t37, t38, t39, t40, t41, t42, t43, t44, t45, t46, t47, tbL, tbR, teL, teR⟩
  ihave Hpo := (Entails.of_eq (sep45 (fun g => atPos ER g 0 ∅ 0) c)) $$ Hpo
  icases Hpo with ⟨a4, a5, a6, a7, a8, a9, a10, a11, a12, a13, a14, a15, a16, a17, a18, a19, a20, a21, a22, a23, a24, a25, a26, a27, a28, a29, a30, a31, a32, a33, a34, a35, a36, a37, a38, a39, a40, a41, a42, a43, a44, a45, a46, a47, ae⟩
  ihave Hcr := (Entails.of_eq (creds_eq c)) $$ Hcr
  icases Hcr with ⟨d7, d8, d9, d14, d15, d16, d17, d25, d26, d27, d28, d29, d30, d31, db, de⟩
  ihave Hm := (mem_open (a := a) (c := c)) $$ Hm
  icases Hm with ⟨Hsrc, HbK, HbV, HcK, Hxk, Hpk, Hrk, Hsk⟩
  ihave Hxk := (Entails.of_eq (around (fun j : Fin 8 => anyv c (xK j)) c)) $$ Hxk
  icases Hxk with ⟨x0, x1, x2, x3, x4, x5, x6, x7⟩
  ihave Hpk := (Entails.of_eq (around (fun j : Fin 8 => anyv c (pK j)) c)) $$ Hpk
  icases Hpk with ⟨p0, p1, p2, p3, p4, p5, p6, p7⟩
  ihave Hsk := (Entails.of_eq (sep2 (fun b : Fin 2 => anyv c (sK b)))) $$ Hsk
  icases Hsk with ⟨s0, s1⟩
  ihave #Hrc := env_rch $$ He
  ihave #HrL := (bar_at (c + 7)) $$ He
  ihave #HrR := (bar_at (c + 1)) $$ He
  ihave S4 : (snd c 4) $$ [t4 a4]
  · unfold snd; isplitl [t4]; · iexact t4
    iexact a4
  ihave S5 : (snd c 5) $$ [t5 a5]
  · unfold snd; isplitl [t5]; · iexact t5
    iexact a5
  ihave S6 : (snd c 6) $$ [t6 a6]
  · unfold snd; isplitl [t6]; · iexact t6
    iexact a6
  ihave S10 : (snd c 10) $$ [t10 a10]
  · unfold snd; isplitl [t10]; · iexact t10
    iexact a10
  ihave S11 : (snd c 11) $$ [t11 a11]
  · unfold snd; isplitl [t11]; · iexact t11
    iexact a11
  ihave S12 : (snd c 12) $$ [t12 a12]
  · unfold snd; isplitl [t12]; · iexact t12
    iexact a12
  ihave S13 : (snd c 13) $$ [t13 a13]
  · unfold snd; isplitl [t13]; · iexact t13
    iexact a13
  ihave S18 : (snd c 18) $$ [t18 a18]
  · unfold snd; isplitl [t18]; · iexact t18
    iexact a18
  ihave S19 : (snd c 19) $$ [t19 a19]
  · unfold snd; isplitl [t19]; · iexact t19
    iexact a19
  ihave S20 : (snd c 20) $$ [t20 a20]
  · unfold snd; isplitl [t20]; · iexact t20
    iexact a20
  ihave S21 : (snd c 21) $$ [t21 a21]
  · unfold snd; isplitl [t21]; · iexact t21
    iexact a21
  ihave S22 : (snd c 22) $$ [t22 a22]
  · unfold snd; isplitl [t22]; · iexact t22
    iexact a22
  ihave S23 : (snd c 23) $$ [t23 a23]
  · unfold snd; isplitl [t23]; · iexact t23
    iexact a23
  ihave S24 : (snd c 24) $$ [t24 a24]
  · unfold snd; isplitl [t24]; · iexact t24
    iexact a24
  ihave F7 : (fly c 7) $$ [d7 a7]
  · unfold fly; rw [one_mul]; isplitl [d7]; · iexact d7
    iexact a7
  ihave F8 : (fly c 8) $$ [d8 a8]
  · unfold fly; rw [one_mul]; isplitl [d8]; · iexact d8
    iexact a8
  ihave F9 : (fly c 9) $$ [d9 a9]
  · unfold fly; rw [one_mul]; isplitl [d9]; · iexact d9
    iexact a9
  ihave F14 : (fly c 14) $$ [d14 a14]
  · unfold fly; rw [one_mul]; isplitl [d14]; · iexact d14
    iexact a14
  ihave F15 : (fly c 15) $$ [d15 a15]
  · unfold fly; rw [one_mul]; isplitl [d15]; · iexact d15
    iexact a15
  ihave F16 : (fly c 16) $$ [d16 a16]
  · unfold fly; rw [one_mul]; isplitl [d16]; · iexact d16
    iexact a16
  ihave F17 : (fly c 17) $$ [d17 a17]
  · unfold fly; rw [one_mul]; isplitl [d17]; · iexact d17
    iexact a17
  ihave F25 : (fly c 25) $$ [d25 a25]
  · unfold fly; rw [one_mul]; isplitl [d25]; · iexact d25
    iexact a25
  ihave F26 : (fly c 26) $$ [d26 a26]
  · unfold fly; rw [one_mul]; isplitl [d26]; · iexact d26
    iexact a26
  ihave F27 : (fly c 27) $$ [d27 a27]
  · unfold fly; rw [one_mul]; isplitl [d27]; · iexact d27
    iexact a27
  ihave F28 : (fly c 28) $$ [d28 a28]
  · unfold fly; rw [one_mul]; isplitl [d28]; · iexact d28
    iexact a28
  ihave F29 : (fly c 29) $$ [d29 a29]
  · unfold fly; rw [one_mul]; isplitl [d29]; · iexact d29
    iexact a29
  ihave F30 : (fly c 30) $$ [d30 a30]
  · unfold fly; rw [one_mul]; isplitl [d30]; · iexact d30
    iexact a30
  ihave F31 : (fly c 31) $$ [d31 a31]
  · unfold fly; rw [one_mul]; isplitl [d31]; · iexact d31
    iexact a31
  ihave t7 : (tok (c + 1) 7) $$ [t7]
  · unfold tok; iexact t7
  ihave t8 : (tok (c + 1) 8) $$ [t8]
  · unfold tok; iexact t8
  ihave t9 : (tok (c + 1) 9) $$ [t9]
  · unfold tok; iexact t9
  ihave t14 : (tok (c + 7) 14) $$ [t14]
  · unfold tok; iexact t14
  ihave t15 : (tok (c + 7) 15) $$ [t15]
  · unfold tok; iexact t15
  ihave t16 : (tok (c + 7) 16) $$ [t16]
  · unfold tok; iexact t16
  ihave t17 : (tok (c + 7) 17) $$ [t17]
  · unfold tok; iexact t17
  ihave t25 : (tok (c + 1) 25) $$ [t25]
  · unfold tok; iexact t25
  ihave t26 : (tok (c + 1) 26) $$ [t26]
  · unfold tok; iexact t26
  ihave t27 : (tok (c + 1) 27) $$ [t27]
  · unfold tok; iexact t27
  ihave t28 : (tok (c + 1) 28) $$ [t28]
  · unfold tok; iexact t28
  ihave t29 : (tok (c + 1) 29) $$ [t29]
  · unfold tok; iexact t29
  ihave t30 : (tok (c + 1) 30) $$ [t30]
  · unfold tok; iexact t30
  ihave t31 : (tok (c + 1) 31) $$ [t31]
  · unfold tok; iexact t31
  ihave HK : (bigSep Finset.univ fun h => kvIn a c h) $$ [t32 a32 t40 a40 t33 a33 t41 a41 t34 a34 t42 a42 t35 a35 t43 a43 t36 a36 t44 a44 t37 a37 t45 a45 t38 a38 t46 a46 t39 a39 t47 a47 Hsrc HbK HbV]
  · unfold kvIn
    iapply (Entails.of_eq (bigSep_sep' Finset.univ (fun h : Fin 8 => iprop(snd c (32 + h.val) (by omega) ∗ snd c (40 + h.val) (by omega)))
      (fun h : Fin 8 => iprop((src kH c h (a.k c) ∗ src vH c h (a.v c)) ∗ anyv c (kvB kM h) ∗ anyv c (kvB vM h)))).symm)
    isplitl [t32 a32 t40 a40 t33 a33 t41 a41 t34 a34 t42 a42 t35 a35 t43 a43 t36 a36 t44 a44 t37 a37 t45 a45 t38 a38 t46 a46 t39 a39 t47 a47]
    · iapply (Entails.of_eq (sep8 (fun h : Fin 8 => iprop(snd c (32 + h.val) (by omega) ∗ snd c (40 + h.val) (by omega)))).symm)
      unfold snd
      isplitl [t32 a32 t40 a40]
      · isplitl [t32 a32]
        · isplitl [t32]; · iexact t32
          iexact a32
        isplitl [t40]; · iexact t40
        iexact a40
      isplitl [t33 a33 t41 a41]
      · isplitl [t33 a33]
        · isplitl [t33]; · iexact t33
          iexact a33
        isplitl [t41]; · iexact t41
        iexact a41
      isplitl [t34 a34 t42 a42]
      · isplitl [t34 a34]
        · isplitl [t34]; · iexact t34
          iexact a34
        isplitl [t42]; · iexact t42
        iexact a42
      isplitl [t35 a35 t43 a43]
      · isplitl [t35 a35]
        · isplitl [t35]; · iexact t35
          iexact a35
        isplitl [t43]; · iexact t43
        iexact a43
      isplitl [t36 a36 t44 a44]
      · isplitl [t36 a36]
        · isplitl [t36]; · iexact t36
          iexact a36
        isplitl [t44]; · iexact t44
        iexact a44
      isplitl [t37 a37 t45 a45]
      · isplitl [t37 a37]
        · isplitl [t37]; · iexact t37
          iexact a37
        isplitl [t45]; · iexact t45
        iexact a45
      isplitl [t38 a38 t46 a46]
      · isplitl [t38 a38]
        · isplitl [t38]; · iexact t38
          iexact a38
        isplitl [t46]; · iexact t46
        iexact a46
      isplitl [t39 a39]
      · isplitl [t39]; · iexact t39
        iexact a39
      isplitl [t47]; · iexact t47
      iexact a47
    iapply (Entails.of_eq (bigSep_sep' Finset.univ (fun h : Fin 8 => iprop(src kH c h (a.k c) ∗ src vH c h (a.v c)))
      (fun h : Fin 8 => iprop(anyv c (kvB kM h) ∗ anyv c (kvB vM h)))).symm)
    isplitl [Hsrc]; · iexact Hsrc
    iapply (Entails.of_eq (bigSep_sep' Finset.univ (fun h : Fin 8 => anyv c (kvB kM h)) (fun h : Fin 8 => anyv c (kvB vM h))).symm)
    isplitl [HbK]; · iexact HbK
    iexact HbV
  ihave HgL : (giveL c) $$ [x7 x6 x5 Hrk]
  · unfold giveL
    isplitl [x7]; · iexact x7
    isplitl [x6]; · iexact x6
    isplitl [x5]; · iexact x5
    isplitl [Hrk]; · iexact Hrk
    iexact Hrc
  ihave HgR : (giveR c) $$ [x1 x2 x3 x4]
  · unfold giveR
    isplitl [x1]; · iexact x1
    isplitl [x2]; · iexact x2
    isplitl [x3]; · iexact x3
    isplitl [x4]; · iexact x4
    iexact Hrc
  iapply (wp_seg0) $$ He HK HrL HrR tbL tbR HgL HgR db Hbp Ho Hx x0
  iintro ⟨h1, h2, h3, h4, h5, h6, h7⟩
  unfold barL barR
  icases h5 with ⟨L0, L1, L2, L3, #HL⟩
  icases h6 with ⟨R0, R7, R6, Rr, #HR⟩
  ihave Rr := (Entails.of_eq (sep7 (fun s : Fin 7 => anyv (c + 1) (rK s)))) $$ Rr
  icases Rr with ⟨q0, q1, q2, q3, q4, q5, q6⟩
  ihave #HeL := (show rch (F := F) (c + 7) ⊢ reached ER (cell (c + 7) endS) 0 from rch_at (c + 7) 44) $$ HL
  ihave #HeR := (show rch (F := F) (c + 1) ⊢ reached ER (cell (c + 1) endS) 0 from rch_at (c + 1) 44) $$ HR
  iapply (wp_seg1) $$ He HR HL h4 R0 L0 S4 t7 S10 t14 h2 Hq Hw h1 HcK p0 F7
  iintro ⟨h8, h9, h10, h11, h12, h13, h14, h15, h16⟩
  iapply (wp_seg2) $$ He HR HL h15 R7 S5 t8 h11 F14 L1 S11 t15 h12 p7 s0 S18 t25 q0 F8 R6 S6 t9
  iintro ⟨h17, h18, h19, h20, h21, h22, h23, h24, h25, h26, h27, h28, h29, h30, h31⟩
  iapply (wp_seg3) $$ He HR HL F15 L2 S12 t16 h20 h30 h25 p6 F25 s1 S19 t26 q1 F9
  iintro ⟨h32, h33, h34, h35, h36, h37, h38, h39, h40, h41, h42, h43, h44⟩
  iapply (wp_seg4) $$ He HR HL F16 L3 S13 t17 h44 h38 p5 F26 h27 S20 t27 q2 h36
  iintro ⟨h45, h46, h47, h48, h49, h50, h51, h52, h53, h54, h55, h56⟩
  iapply (wp_seg5) $$ He HR F17 h50 p4 F27 h42 S21 t28 q3 h56
  iintro ⟨h57, h58, h59, h60, h61, h62, h63, h64, h65⟩
  iapply (wp_seg6) $$ He HR h47 h59 p3 F28 h55 S22 t29 q4 h65
  iintro ⟨h66, h67, h68, h69, h70, h71, h72, h73⟩
  iapply (wp_seg7) $$ He HR h34 h67 p2 F29 h64 S23 t30 q5 h73
  iintro ⟨h74, h75, h76, h77, h78, h79, h80, h81⟩
  iapply (wp_seg8) $$ He HR h23 h75 p1 F30 h72 S24 t31 q6 h81
  iintro ⟨h82, h83, h84, h85, h86, h87, h88, h89⟩
  iapply (wp_seg9) $$ He F31 h13 Hout h89 h9 h19 h31 h10 h24 h35 h48 h80 h88 HeL HeR teL teR de ae
  iintro ⟨h90, h91, h92, h93, h94, h95, h96, h97, h98, h99, h100, h101, h102, h103, h104, h105, h106, h107, h108, h109, h110, h111, h112, h113⟩
  iapply W_ret
  iapply Hk
  ihave y0 := (held_merge (xK (c))) $$ h104 h107 h8
  ihave y0 := held_any _ _ $$ y0
  ihave y1 := (held_merge (xK ((c + 1)))) $$ h22 h108 h82
  ihave y1 := held_any _ _ $$ y1
  ihave y2 := (held_merge (xK ((c + 2)))) $$ h33 h109 h74
  ihave y2 := held_any _ _ $$ y2
  ihave y3 := (held_merge (xK ((c + 3)))) $$ h46 h110 h66
  ihave y3 := held_any _ _ $$ y3
  ihave y4 := held_any _ _ $$ h58
  ihave y5 := held_any _ _ $$ h49
  ihave y6 := (held_merge (xK ((c + 6)))) $$ h106 h29 h37
  ihave y6 := held_any _ _ $$ y6
  ihave y7 := (held_merge (xK ((c + 7)))) $$ h105 h17 h18
  ihave y7 := held_any _ _ $$ y7
  unfold ws
  icases h83 with ⟨Hq, Hw, Hkv, HcK⟩
  icases kvs_any $$ Hkv with ⟨HbK, HbV⟩
  icases kvBack_split $$ h16 with ⟨Hz, Hsrc⟩
  icases Hz with ⟨⟨z32, z40⟩, ⟨z33, z41⟩, ⟨z34, z42⟩, ⟨z35, z43⟩, ⟨z36, z44⟩, ⟨z37, z45⟩, ⟨z38, z46⟩, ⟨z39, z47⟩⟩
  isplitl [h94]; · iexact h94
  isplitl [h3]; · iexact h3
  isplitl [Hq]; · iexact Hq
  isplitl [Hw]; · iexact Hw
  isplitl [h93]; · iexact h93
  isplitl [Hsrc HbK HbV HcK y0 y1 y2 y3 y4 y5 y6 y7 h92 h84 h76 h68 h60 h51 h39 h26 h41 h52 h61 h69 h77 h85 h91 h112 h111]
  · unfold mem
    isplitl [Hsrc]; · iexact Hsrc
    isplitl [HbK]; · iexact HbK
    isplitl [HbV]; · iexact HbV
    isplitl [HcK]; · iexact HcK
    isplitl [y0 y1 y2 y3 y4 y5 y6 y7]
    · iapply (Entails.of_eq (around (fun j : Fin 8 => anyv c (xK j)) c).symm)
      isplitl [y0]; · iexact y0
      isplitl [y1]; · iexact y1
      isplitl [y2]; · iexact y2
      isplitl [y3]; · iexact y3
      isplitl [y4]; · iexact y4
      isplitl [y5]; · iexact y5
      isplitl [y6]; · iexact y6
      iexact y7
    isplitl [h92 h84 h76 h68 h60 h51 h39 h26]
    · iapply (Entails.of_eq (around (fun j : Fin 8 => anyv c (pK j)) c).symm)
      isplitl [h92]; · iexact h92
      isplitl [h84]; · iexact h84
      isplitl [h76]; · iexact h76
      isplitl [h68]; · iexact h68
      isplitl [h60]; · iexact h60
      isplitl [h51]; · iexact h51
      isplitl [h39]; · iexact h39
      iexact h26
    isplitl [h41 h52 h61 h69 h77 h85 h91]
    · iapply (Entails.of_eq (sep7 (fun s : Fin 7 => anyv c (rK s))).symm)
      isplitl [h41]; · iexact h41
      isplitl [h52]; · iexact h52
      isplitl [h61]; · iexact h61
      isplitl [h69]; · iexact h69
      isplitl [h77]; · iexact h77
      isplitl [h85]; · iexact h85
      iexact h91
    iapply (Entails.of_eq (sep2 (fun b : Fin 2 => anyv c (sK b))).symm)
    isplitl [h112]; · iexact h112
    iexact h111
  isplitr [h7]
  · iapply (Entails.of_eq (sep45 (fun g => semVal g 0) c).symm)
    unfold fin
    isplitl [h95]; · iexact h95
    isplitl [h96]; · iexact h96
    isplitl [h97]; · iexact h97
    isplitl [h14]; · iexact h14
    isplitl [h28]; · iexact h28
    isplitl [h43]; · iexact h43
    isplitl [h98]; · iexact h98
    isplitl [h99]; · iexact h99
    isplitl [h100]; · iexact h100
    isplitl [h101]; · iexact h101
    isplitl [h21]; · iexact h21
    isplitl [h32]; · iexact h32
    isplitl [h45]; · iexact h45
    isplitl [h57]; · iexact h57
    isplitl [h54]; · iexact h54
    isplitl [h63]; · iexact h63
    isplitl [h71]; · iexact h71
    isplitl [h79]; · iexact h79
    isplitl [h87]; · iexact h87
    isplitl [h102]; · iexact h102
    isplitl [h103]; · iexact h103
    isplitl [h40]; · iexact h40
    isplitl [h53]; · iexact h53
    isplitl [h62]; · iexact h62
    isplitl [h70]; · iexact h70
    isplitl [h78]; · iexact h78
    isplitl [h86]; · iexact h86
    isplitl [h90]; · iexact h90
    isplitl [z32]; · iexact z32
    isplitl [z33]; · iexact z33
    isplitl [z34]; · iexact z34
    isplitl [z35]; · iexact z35
    isplitl [z36]; · iexact z36
    isplitl [z37]; · iexact z37
    isplitl [z38]; · iexact z38
    isplitl [z39]; · iexact z39
    isplitl [z40]; · iexact z40
    isplitl [z41]; · iexact z41
    isplitl [z42]; · iexact z42
    isplitl [z43]; · iexact z43
    isplitl [z44]; · iexact z44
    isplitl [z45]; · iexact z45
    isplitl [z46]; · iexact z46
    isplitl [z47]; · iexact z47
    iexact h113
  iexact h7

end Cert.KernelIdeal
-- ==== Proof.Mem.lean ====
module

public import proofs.«01_k».proof.Proof.Run
public import proofs.«01_k».proof.Proof.Gen.KernelIdeal.Frame

@[expose] public section

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring

variable {F : FTy → Type} [FloatOps F] [Named F]

local notation "𝕄" => MT nD τ sig Unit (Elt F) ℕ UU ℕ

/-! ## The memory, cut and put together -/

variable {c : Dev nD}

/-- A whole buffer at some contents is its slices along one axis, each at some contents. -/
theorem cut {ref : Ref sig .tc} {NB : ℕ} (a₀ : Fin ref.ty.shape.rank) (R : ℕ) (off : Fin NB → Fin ref.ty.shape.rank → ℕ) (size : Fin ref.ty.shape.rank → ℕ)
    (inb : ∀ b a, off b a + size a ≤ ref.ty.shape.size a) (h1 : ∀ b, off b a₀ = R * b.val) (h2 : ∀ b a, a ≠ a₀ → off b a = 0)
    (h3 : size a₀ = R) (h4 : ∀ a, a ≠ a₀ → size a = ref.ty.shape.size a) (hN : NB * R = ref.ty.shape.size a₀) (f₀ : Buf (Elt F) ((c : Thread nD τ).loc ref)) :
    ((iprop(∃ f : Buf (Elt F) ((c : Thread nD τ).loc ref), ((c : Thread nD τ).loc ref) ↦{fullShare} f) : sProp 𝕄)
        ⊢ (bigSep Finset.univ fun b => anyv c ((Memref.whole ref).slice (Rect.unit (off b) size (inb b)) (fun _ => rfl))))
      ∧ ((bigSep Finset.univ fun b => anyv (F := F) c ((Memref.whole ref).slice (Rect.unit (off b) size (inb b)) (fun _ => rfl)))
        ⊢ iprop(∃ f : Buf (Elt F) ((c : Thread nD τ).loc ref), ((c : Thread nD τ).loc ref) ↦{fullShare} f)) := by
  have e : ∀ b, ((Memref.whole ref).slice (Rect.unit (off b) size (inb b)) (fun _ => rfl)).view.set = (Rect.unit (off b) size (inb b)).set := fun b => View.set_slice_whole _ _
  have hd : ∀ b b' : Fin NB, b ≠ b' → Disjoint (((Memref.whole ref).slice (Rect.unit (off b) size (inb b)) (fun _ => rfl)).view.set)
      (((Memref.whole ref).slice (Rect.unit (off b') size (inb b')) (fun _ => rfl)).view.set) := fun b b' h => by
    rw [e, e]; exact lead_disjoint a₀ R off size inb h1 h3 b b' h
  have hc : Finset.univ.biUnion (β := Idx ((c : Thread nD τ).loc ref)) (fun b => ((Memref.whole ref).slice (Rect.unit (off b) size (inb b)) (fun _ => rfl)).view.set) = Finset.univ := by
    refine Eq.trans (congrArg (Finset.biUnion (β := Idx ((c : Thread nD τ).loc ref)) Finset.univ) (funext e)) ?_
    exact lead_cover a₀ R off size inb h1 h2 h3 h4 hN
  constructor
  · iintro ⟨%f, H⟩
    ihave H := (Entails.of_eq (pointsTo_blocks _ hd hc f)) $$ H
    iapply (show (bigSep Finset.univ fun b => (((c : Thread nD τ).loc ref) ↦[((Memref.whole ref).slice (Rect.unit (off b) size (inb b)) (fun _ => rfl)).view.set]{fullShare} f : sProp 𝕄))
      ⊢ bigSep Finset.univ fun b => anyv c ((Memref.whole ref).slice (Rect.unit (off b) size (inb b)) (fun _ => rfl)) from bigSep_mono fun b _ => by
        show (((c : Thread nD τ).loc ref) ↦[((Memref.whole ref).slice (Rect.unit (off b) size (inb b)) (fun _ => rfl)).view.set]{fullShare} f : sProp 𝕄) ⊢ anyv c ((Memref.whole ref).slice (Rect.unit (off b) size (inb b)) (fun _ => rfl))
        unfold anyv; iintro H; iexists f; iexact H) $$ H
  · exact pointsTo_blocks_join_exists _ hd hc f₀

/-- The scratch buffers' slices. -/
theorem cutX (f₀ : Buf (Elt F) ((c : Thread nD τ).loc cc0_scratch0)) :
    ((iprop(∃ f : Buf (Elt F) ((c : Thread nD τ).loc cc0_scratch0), ((c : Thread nD τ).loc cc0_scratch0) ↦{fullShare} f) : sProp 𝕄) ⊢ (bigSep Finset.univ fun b : Fin 8 => anyv c (xK b)))
      ∧ ((bigSep Finset.univ fun b : Fin 8 => anyv (F := F) c (xK b)) ⊢ iprop(∃ f : Buf (Elt F) ((c : Thread nD τ).loc cc0_scratch0), ((c : Thread nD τ).loc cc0_scratch0) ↦{fullShare} f)) :=
  cut (ref := cc0_scratch0) (NB := 8) (0 : Fin 2) 256 (fun b => xo b) S256x1024.size xi (by decide) (by decide) rfl (by decide) rfl f₀
theorem cutP (f₀ : Buf (Elt F) ((c : Thread nD τ).loc cc0_scratch1)) :
    ((iprop(∃ f : Buf (Elt F) ((c : Thread nD τ).loc cc0_scratch1), ((c : Thread nD τ).loc cc0_scratch1) ↦{fullShare} f) : sProp 𝕄) ⊢ (bigSep Finset.univ fun b : Fin 8 => anyv c (pK b)))
      ∧ ((bigSep Finset.univ fun b : Fin 8 => anyv (F := F) c (pK b)) ⊢ iprop(∃ f : Buf (Elt F) ((c : Thread nD τ).loc cc0_scratch1), ((c : Thread nD τ).loc cc0_scratch1) ↦{fullShare} f)) :=
  cut (ref := cc0_scratch1) (NB := 8) (0 : Fin 2) 256 (fun b => xo b) S256x1024.size xi (by decide) (by decide) rfl (by decide) rfl f₀
theorem cutS (f₀ : Buf (Elt F) ((c : Thread nD τ).loc cc0_scratch2)) :
    ((iprop(∃ f : Buf (Elt F) ((c : Thread nD τ).loc cc0_scratch2), ((c : Thread nD τ).loc cc0_scratch2) ↦{fullShare} f) : sProp 𝕄) ⊢ (bigSep Finset.univ fun b : Fin 2 => anyv c (sK b)))
      ∧ ((bigSep Finset.univ fun b : Fin 2 => anyv (F := F) c (sK b)) ⊢ iprop(∃ f : Buf (Elt F) ((c : Thread nD τ).loc cc0_scratch2), ((c : Thread nD τ).loc cc0_scratch2) ↦{fullShare} f)) :=
  cut (ref := cc0_scratch2) (NB := 2) (0 : Fin 3) 1 (fun b => so b.val) S1x256x1024.size si (by decide) (by decide) rfl (by decide) rfl f₀
theorem cutR (f₀ : Buf (Elt F) ((c : Thread nD τ).loc cc0_scratch3)) :
    ((iprop(∃ f : Buf (Elt F) ((c : Thread nD τ).loc cc0_scratch3), ((c : Thread nD τ).loc cc0_scratch3) ↦{fullShare} f) : sProp 𝕄) ⊢ (bigSep Finset.univ fun b : Fin 7 => anyv c (rK b)))
      ∧ ((bigSep Finset.univ fun b : Fin 7 => anyv (F := F) c (rK b)) ⊢ iprop(∃ f : Buf (Elt F) ((c : Thread nD τ).loc cc0_scratch3), ((c : Thread nD τ).loc cc0_scratch3) ↦{fullShare} f)) :=
  cut (ref := cc0_scratch3) (NB := 7) (0 : Fin 3) 1 (fun b => so b.val) S1x256x1024.size ri (by decide) (by decide) rfl (by decide) rfl f₀
theorem cutK (f₀ : Buf (Elt F) ((c : Thread nD τ).loc cc0_scratch4)) :
    ((iprop(∃ f : Buf (Elt F) ((c : Thread nD τ).loc cc0_scratch4), ((c : Thread nD τ).loc cc0_scratch4) ↦{fullShare} f) : sProp 𝕄) ⊢ (bigSep Finset.univ fun b : Fin 8 => anyv c (kvB kM b)))
      ∧ ((bigSep Finset.univ fun b : Fin 8 => anyv (F := F) c (kvB kM b)) ⊢ iprop(∃ f : Buf (Elt F) ((c : Thread nD τ).loc cc0_scratch4), ((c : Thread nD τ).loc cc0_scratch4) ↦{fullShare} f)) :=
  cut (ref := cc0_scratch4) (NB := 8) (0 : Fin 3) 1 (fun b => so b.val) S1x4096x128.size ki (by decide) (by decide) rfl (by decide) rfl f₀
theorem cutV (f₀ : Buf (Elt F) ((c : Thread nD τ).loc cc0_scratch5)) :
    ((iprop(∃ f : Buf (Elt F) ((c : Thread nD τ).loc cc0_scratch5), ((c : Thread nD τ).loc cc0_scratch5) ↦{fullShare} f) : sProp 𝕄) ⊢ (bigSep Finset.univ fun b : Fin 8 => anyv c (kvB vM b)))
      ∧ ((bigSep Finset.univ fun b : Fin 8 => anyv (F := F) c (kvB vM b)) ⊢ iprop(∃ f : Buf (Elt F) ((c : Thread nD τ).loc cc0_scratch5), ((c : Thread nD τ).loc cc0_scratch5) ↦{fullShare} f)) :=
  cut (ref := cc0_scratch5) (NB := 8) (0 : Fin 3) 1 (fun b => so b.val) S1x4096x128.size ki (by decide) (by decide) rfl (by decide) rfl f₀
theorem cutC (f₀ : Buf (Elt F) ((c : Thread nD τ).loc cc0_scratch6)) :
    ((iprop(∃ f : Buf (Elt F) ((c : Thread nD τ).loc cc0_scratch6), ((c : Thread nD τ).loc cc0_scratch6) ↦{fullShare} f) : sProp 𝕄) ⊢ (bigSep Finset.univ fun b : Fin 8 => anyv c (cK b)))
      ∧ ((bigSep Finset.univ fun b : Fin 8 => anyv (F := F) c (cK b)) ⊢ iprop(∃ f : Buf (Elt F) ((c : Thread nD τ).loc cc0_scratch6), ((c : Thread nD τ).loc cc0_scratch6) ↦{fullShare} f)) :=
  cut (ref := cc0_scratch6) (NB := 8) (0 : Fin 3) 1 (fun b => so b.val) S1x256x128.size ci (by decide) (by decide) rfl (by decide) rfl f₀

/-- The heads of one device in the slow memory, apart from each other. -/
theorem kv_disjoint (m : Memref sig .tc .hbm S4096x64x128 .f32) (h h' : Fin 8) (hn : h ≠ h') : Disjoint (kvG m c h).view.set (kvG m c h').view.set := by
  have e : ∀ h : Fin 8, (kvG m c h).view.set = (Rect.unit (s := S4096x64x128) (ho c h) S4096x1x128.size (hi c h)).set.map m.view.emb := fun h => by
    unfold kvG kvH
    exact (View.set_reshape _ _).trans (View.set_slice _ _)
  rw [e, e, Finset.disjoint_map]
  rw [Finset.disjoint_left]
  intro i hi hi'
  have h1 := (Rect.mem_set_unit.mp hi) 1
  have h2 := (Rect.mem_set_unit.mp hi') 1
  have h3 : ho c h 1 = 8 * c.val + h.val := rfl
  have h4 : ho c h' 1 = 8 * c.val + h'.val := rfl
  have h5 : S4096x1x128.size 1 = 1 := rfl
  rw [h3, h5] at h1; rw [h4, h5] at h2
  exact hn (Fin.ext (by omega))

/-- What a device's program leaves alone of the keys, or of the values. -/
def kvRest (m : Memref sig .tc .hbm S4096x64x128 .f32) (c : Dev nD) (K : Buf (Elt F) (m.view.loc (c : Thread nD τ))) : sProp 𝕄 :=
  m.view.loc (c : Thread nD τ) ↦[Finset.univ \ Finset.univ.biUnion fun h : Fin 8 => (kvG m c h).view.set]{fullShare} K
theorem kv_cut (m : Memref sig .tc .hbm S4096x64x128 .f32) (K : Buf (Elt F) (m.view.loc (c : Thread nD τ))) :
    (iprop(m.view.loc (c : Thread nD τ) ↦{fullShare} K) : sProp 𝕄) = iprop((bigSep Finset.univ fun h : Fin 8 => src m c h K) ∗ kvRest m c K) := by
  unfold src kvRest
  rw [← pointsTo_sub_blocks (fun h : Fin 8 => (kvG m c h).view.set) (fun h h' hn => kv_disjoint m h h' hn) _ rfl K]
  exact BI.Entails.antisymm (pointsTo_split_subset (Finset.subset_univ _)).1 (pointsTo_split_subset (Finset.subset_univ _)).2

/-- The scratch buffers, whole, at some contents. -/
def scr (c : Dev nD) : sProp 𝕄 := Pipeline.scopedRest (Ix := Unit) (Name := ℕ) (U := UU) (Lvl := ℕ) (Val := Elt F) spec0 c

/-- The memory a device's program works in, from the whole buffers, and back. -/
theorem mem_in (a : Ins F) (m : (ℓ : Loc nD τ sig) → Buf (Elt F) ℓ) :
    iprop(scr c ∗ ((c : Thread nD τ).loc main_v8 ↦{fullShare} a.k c) ∗ ((c : Thread nD τ).loc main_v9 ↦{fullShare} a.v c))
      ⊢ iprop(mem a c ∗ kvRest kH c (a.k c) ∗ kvRest vH c (a.v c)) := by
  unfold scr mem
  rw [scopedRest0_eq]
  iintro ⟨⟨Hx, Hp, Hs, Hr, Hk, Hv, Hc⟩, K, V⟩
  ihave K := (Entails.of_eq (kv_cut kH (a.k c))) $$ K
  ihave V := (Entails.of_eq (kv_cut vH (a.v c))) $$ V
  icases K with ⟨K, K'⟩
  icases V with ⟨V, V'⟩
  isplitr [K' V']
  · isplitl [K V]
    · iapply (Entails.of_eq (bigSep_sep' Finset.univ (fun h : Fin 8 => src kH c h (a.k c)) (fun h : Fin 8 => src vH c h (a.v c))).symm)
      isplitl [K]; · iexact K
      iexact V
    isplitl [Hk]; · iapply (cutK (m _)).1 $$ Hk
    isplitl [Hv]; · iapply (cutV (m _)).1 $$ Hv
    isplitl [Hc]; · iapply (cutC (m _)).1 $$ Hc
    isplitl [Hx]; · iapply (cutX (m _)).1 $$ Hx
    isplitl [Hp]; · iapply (cutP (m _)).1 $$ Hp
    isplitl [Hr]; · iapply (cutR (m _)).1 $$ Hr
    iapply (cutS (m _)).1 $$ Hs
  isplitl [K']; · iexact K'
  iexact V'
theorem mem_out (a : Ins F) (m : (ℓ : Loc nD τ sig) → Buf (Elt F) ℓ) :
    iprop(mem a c ∗ kvRest kH c (a.k c) ∗ kvRest vH c (a.v c))
      ⊢ iprop(scr c ∗ ((c : Thread nD τ).loc main_v8 ↦{fullShare} a.k c) ∗ ((c : Thread nD τ).loc main_v9 ↦{fullShare} a.v c)) := by
  unfold scr mem
  rw [scopedRest0_eq]
  iintro ⟨⟨KV, Hk, Hv, Hc, Hx, Hp, Hr, Hs⟩, K', V'⟩
  ihave KV := (Entails.of_eq (bigSep_sep' Finset.univ (fun h : Fin 8 => src kH c h (a.k c)) (fun h : Fin 8 => src vH c h (a.v c)))) $$ KV
  icases KV with ⟨K, V⟩
  isplitl [Hk Hv Hc Hx Hp Hr Hs]
  · isplitl [Hx]; · iapply (cutX (m _)).2 $$ Hx
    isplitl [Hp]; · iapply (cutP (m _)).2 $$ Hp
    isplitl [Hs]; · iapply (cutS (m _)).2 $$ Hs
    isplitl [Hr]; · iapply (cutR (m _)).2 $$ Hr
    isplitl [Hk]; · iapply (cutK (m _)).2 $$ Hk
    isplitl [Hv]; · iapply (cutV (m _)).2 $$ Hv
    iapply (cutC (m _)).2 $$ Hc
  isplitl [K K']
  · iapply (Entails.of_eq (kv_cut kH (a.k c)).symm)
    isplitl [K]; · iexact K
    iexact K'
  iapply (Entails.of_eq (kv_cut vH (a.v c)).symm)
  isplitl [V]; · iexact V
  iexact V'

end Cert.KernelIdeal
-- ==== Proof.Loops0.lean ====
module

public import proofs.«01_k».proof.Proof.Pieces

@[expose] public section

noncomputable section

namespace Cert.KernelIdeal

open Cert.KernelIdeal.Gen
open Idealize.ShloMosaic Idealize.ShloMosaic.TcCoe Idealize.ShloMosaic.Tactic
open Idealize.SL Idealize.SL.Sem

variable {F : FTy → Type} [FloatOps F] [Named F]

theorem op_congr {E : Type → Type _} {α β : Type} {e e' : E α} {k k' : α → Prog E β} (h : e = e') (hk : ∀ x, k x = k' x) :
    Prog.op e k = Prog.op e' k' := by subst h; congr 1; exact funext hk

theorem bind_congr {E : Type → Type _} {α β : Type} {p p' : Prog E α} {k k' : α → Prog E β} (h : p = p') (hk : ∀ x, k x = k' x) :
    p.bind k = p'.bind k' := by subst h; congr 1; exact funext hk

set_option maxRecDepth 65536 in
set_option maxHeartbeats 4000000 in
/-- Every loop's body is a head on the loop's chunk. -/
theorem loops_eq (d : Dev nD) :
    (∀ a b e t, @k0_t1_body F _ _ (stage0_0 0) (hstage0_0 0) (stage0_1 0) (hstage0_1 0) kH (Memref.isWhole_whole _) vH (Memref.isWhole_whole _)
      (stage0_2 0) (hstage0_2 0) (stage0_3 0) (hstage0_3 0) xM (Memref.isWhole_whole _) pM (Memref.isWhole_whole _) sM (Memref.isWhole_whole _)
      rM (Memref.isWhole_whole _) kM (Memref.isWhole_whole _) vM (Memref.isWhole_whole _) cM (Memref.isWhole_whole _)
      cc0_scratch7 cc0_scratch8 cc0_scratch9 cc0_scratch10 cc0_scratch11 cc0_scratch12 cc0_scratch13 cc0_scoped0
      d a b e t () = kvWait kH kM (kSem t) (k0_off6 t) (k0_off6_inb t) (k0_off7 d t) (k0_off7_inb d t)
        (kvWait vH vM (vSem t) (k0_off6 t) (k0_off6_inb t) (k0_off7 d t) (k0_off7_inb d t)
          (headOne (k0_off9 d) (k0_off9_inb d) (k0_cond1 d) (k0_cond2 d) (k0_off16 d) (k0_off16_inb d) t))) ∧
    (∀ a b e t, @k0_t2_body F _ _ (stage0_0 0) (hstage0_0 0) (stage0_1 0) (hstage0_1 0) kH (Memref.isWhole_whole _) vH (Memref.isWhole_whole _)
      (stage0_2 0) (hstage0_2 0) (stage0_3 0) (hstage0_3 0) xM (Memref.isWhole_whole _) pM (Memref.isWhole_whole _) sM (Memref.isWhole_whole _)
      rM (Memref.isWhole_whole _) kM (Memref.isWhole_whole _) vM (Memref.isWhole_whole _) cM (Memref.isWhole_whole _)
      cc0_scratch7 cc0_scratch8 cc0_scratch9 cc0_scratch10 cc0_scratch11 cc0_scratch12 cc0_scratch13 cc0_scoped0
      d a b e t () = headOne (k0_off20 d) (k0_off20_inb d) (k0_cond3 d) (k0_cond4 d) (k0_off27 d) (k0_off27_inb d) t) ∧
    (∀ a b e t, @k0_t3_body F _ _ (stage0_0 0) (hstage0_0 0) (stage0_1 0) (hstage0_1 0) kH (Memref.isWhole_whole _) vH (Memref.isWhole_whole _)
      (stage0_2 0) (hstage0_2 0) (stage0_3 0) (hstage0_3 0) xM (Memref.isWhole_whole _) pM (Memref.isWhole_whole _) sM (Memref.isWhole_whole _)
      rM (Memref.isWhole_whole _) kM (Memref.isWhole_whole _) vM (Memref.isWhole_whole _) cM (Memref.isWhole_whole _)
      cc0_scratch7 cc0_scratch8 cc0_scratch9 cc0_scratch10 cc0_scratch11 cc0_scratch12 cc0_scratch13 cc0_scoped0
      d a b e t () = headOne (k0_off30 d) (k0_off30_inb d) (k0_cond5 d) (k0_cond6 d) (k0_off37 d) (k0_off37_inb d) t) ∧
    (∀ a b e t, @k0_t4_body F _ _ (stage0_0 0) (hstage0_0 0) (stage0_1 0) (hstage0_1 0) kH (Memref.isWhole_whole _) vH (Memref.isWhole_whole _)
      (stage0_2 0) (hstage0_2 0) (stage0_3 0) (hstage0_3 0) xM (Memref.isWhole_whole _) pM (Memref.isWhole_whole _) sM (Memref.isWhole_whole _)
      rM (Memref.isWhole_whole _) kM (Memref.isWhole_whole _) vM (Memref.isWhole_whole _) cM (Memref.isWhole_whole _)
      cc0_scratch7 cc0_scratch8 cc0_scratch9 cc0_scratch10 cc0_scratch11 cc0_scratch12 cc0_scratch13 cc0_scoped0
      d a b e t () = headOne (k0_off40 d) (k0_off40_inb d) (k0_cond7 d) (k0_cond8 d) (k0_off47 d) (k0_off47_inb d) t) ∧
    (∀ a e t, @k0_t5_body F _ _ (stage0_0 0) (hstage0_0 0) (stage0_1 0) (hstage0_1 0) kH (Memref.isWhole_whole _) vH (Memref.isWhole_whole _)
      (stage0_2 0) (hstage0_2 0) (stage0_3 0) (hstage0_3 0) xM (Memref.isWhole_whole _) pM (Memref.isWhole_whole _) sM (Memref.isWhole_whole _)
      rM (Memref.isWhole_whole _) kM (Memref.isWhole_whole _) vM (Memref.isWhole_whole _) cM (Memref.isWhole_whole _)
      cc0_scratch7 cc0_scratch8 cc0_scratch9 cc0_scratch10 cc0_scratch11 cc0_scratch12 cc0_scratch13 cc0_scoped0
      d a e t () = headOne (k0_off50 d) (k0_off50_inb d) (k0_cond9 d) (k0_cond10 d) (k0_off57 d) (k0_off57_inb d) t) ∧
    (∀ a b z e t, @k0_t6_body F _ _ (stage0_0 0) (hstage0_0 0) (stage0_1 0) (hstage0_1 0) kH (Memref.isWhole_whole _) vH (Memref.isWhole_whole _)
      (stage0_2 0) (hstage0_2 0) (stage0_3 0) (hstage0_3 0) xM (Memref.isWhole_whole _) pM (Memref.isWhole_whole _) sM (Memref.isWhole_whole _)
      rM (Memref.isWhole_whole _) kM (Memref.isWhole_whole _) vM (Memref.isWhole_whole _) cM (Memref.isWhole_whole _)
      cc0_scratch7 cc0_scratch8 cc0_scratch9 cc0_scratch10 cc0_scratch11 cc0_scratch12 cc0_scratch13 cc0_scoped0
      d a b z e t () = headOne (k0_off60 d) (k0_off60_inb d) (k0_cond11 d) (k0_cond12 d) (k0_off67 d) (k0_off67_inb d) t) ∧
    (∀ a e t, @k0_t7_body F _ _ (stage0_0 0) (hstage0_0 0) (stage0_1 0) (hstage0_1 0) kH (Memref.isWhole_whole _) vH (Memref.isWhole_whole _)
      (stage0_2 0) (hstage0_2 0) (stage0_3 0) (hstage0_3 0) xM (Memref.isWhole_whole _) pM (Memref.isWhole_whole _) sM (Memref.isWhole_whole _)
      rM (Memref.isWhole_whole _) kM (Memref.isWhole_whole _) vM (Memref.isWhole_whole _) cM (Memref.isWhole_whole _)
      cc0_scratch7 cc0_scratch8 cc0_scratch9 cc0_scratch10 cc0_scratch11 cc0_scratch12 cc0_scratch13 cc0_scoped0
      d a e t () = headOne (k0_off70 d) (k0_off70_inb d) (k0_cond13 d) (k0_cond14 d) (k0_off77 d) (k0_off77_inb d) t) ∧
    (∀ a b e t, @k0_t8_body F _ _ (stage0_0 0) (hstage0_0 0) (stage0_1 0) (hstage0_1 0) kH (Memref.isWhole_whole _) vH (Memref.isWhole_whole _)
      (stage0_2 0) (hstage0_2 0) (stage0_3 0) (hstage0_3 0) xM (Memref.isWhole_whole _) pM (Memref.isWhole_whole _) sM (Memref.isWhole_whole _)
      rM (Memref.isWhole_whole _) kM (Memref.isWhole_whole _) vM (Memref.isWhole_whole _) cM (Memref.isWhole_whole _)
      cc0_scratch7 cc0_scratch8 cc0_scratch9 cc0_scratch10 cc0_scratch11 cc0_scratch12 cc0_scratch13 cc0_scoped0
      d a b e t () = headOne (k0_off80 d) (k0_off80_inb d) (k0_cond15 d) (k0_cond16 d) (k0_off87 d) (k0_off87_inb d) t) := by
  refine ⟨?_, ?_, ?_, ?_, ?_, ?_, ?_, ?_⟩ <;> intros
  · unfold k0_t1_body
    simp only [k0_part1_eq_skeleton, k0_part2_eq_skeleton, k0_part3_eq_skeleton, k0_part4_eq_skeleton, k0_part5_eq_skeleton,
      k0_part1_skel, k0_part2_skel, k0_part3_skel, k0_part4_skel, k0_part5_skel, headOne, headFull, headWin,
      kvWait, kvLoad, kvFirst, ctxPut, Prog.lift, Prog.bind_op, Prog.bind_ret, Prog.pure_eq_ret, Prog.bind_assoc, fullOf, winOf]
    rfl
  all_goals
    simp only [k0_t2_body, k0_t3_body, k0_t4_body, k0_t5_body, k0_t6_body, k0_t7_body, k0_t8_body,
      k0_part6_eq_skeleton, k0_part6_skel, k0_part7_eq_skeleton, k0_part7_skel, k0_part8_eq_skeleton, k0_part8_skel,
      k0_part9_eq_skeleton, k0_part9_skel, k0_part10_eq_skeleton, k0_part10_skel, k0_part11_eq_skeleton, k0_part11_skel,
      k0_part12_eq_skeleton, k0_part12_skel, k0_part13_eq_skeleton, k0_part13_skel, k0_part14_eq_skeleton, k0_part14_skel,
      k0_part15_eq_skeleton, k0_part15_skel, k0_part16_eq_skeleton, k0_part16_skel, k0_part17_eq_skeleton, k0_part17_skel,
      k0_part18_eq_skeleton, k0_part18_skel, k0_part19_eq_skeleton, k0_part19_skel, k0_part20_eq_skeleton, k0_part20_skel,
      k0_part21_eq_skeleton, k0_part21_skel, k0_part22_eq_skeleton, k0_part22_skel, k0_part23_eq_skeleton, k0_part23_skel,
      k0_part24_eq_skeleton, k0_part24_skel, k0_part25_eq_skeleton, k0_part25_skel, k0_part26_eq_skeleton, k0_part26_skel,
      k0_part27_eq_skeleton, k0_part27_skel, k0_part28_eq_skeleton, k0_part28_skel, k0_part29_eq_skeleton, k0_part29_skel,
      k0_part30_eq_skeleton, k0_part30_skel, k0_part31_eq_skeleton, k0_part31_skel, k0_part32_eq_skeleton, k0_part32_skel,
      k0_part33_eq_skeleton, k0_part33_skel, k0_part34_eq_skeleton, k0_part34_skel, k0_part35_eq_skeleton, k0_part35_skel,
      k0_part36_eq_skeleton, k0_part36_skel, k0_part37_eq_skeleton, k0_part37_skel, k0_part38_eq_skeleton, k0_part38_skel,
      k0_part39_eq_skeleton, k0_part39_skel, k0_part40_eq_skeleton, k0_part40_skel,
      headOne, headFull, headWin,
      kvLoad, kvFirst, ctxPut, Prog.lift, Prog.bind_op, Prog.bind_ret, Prog.pure_eq_ret, Prog.bind_assoc, fullOf, winOf]
    rfl

end Cert.KernelIdeal
-- ==== Proof.Whole.lean ====
module

public import proofs.«01_k».proof.Proof.Loops0

@[expose] public section

noncomputable section

namespace Cert.KernelIdeal

open Cert.KernelIdeal.Gen
open Idealize.ShloMosaic Idealize.ShloMosaic.TcCoe Idealize.ShloMosaic.Tactic
open Idealize.SL Idealize.SL.Sem

variable {F : FTy → Type} [FloatOps F] [Named F]

set_option maxRecDepth 65536 in
set_option pp.maxSteps 150 in
set_option maxHeartbeats 1000000 in
/-- The body is the sequence of the pieces. -/
theorem body_eq (t : Fin cfg0.N) : bodyAt0 (F := F) t = Prog.op .deviceId fun d => prog d := by
  unfold bodyAt0
  rw [cc0_body_eq_skeleton]
  unfold cc0_body_skel
  simp only [k0_part41_eq_skeleton, k0_part42_eq_skeleton, k0_part43_eq_skeleton, k0_part44_eq_skeleton, k0_part45_eq_skeleton,
    k0_part46_eq_skeleton, k0_part47_eq_skeleton, k0_part48_eq_skeleton, k0_part49_eq_skeleton, k0_part50_eq_skeleton,
    k0_part51_eq_skeleton, k0_part52_eq_skeleton, k0_part53_eq_skeleton, k0_part54_eq_skeleton, k0_part55_eq_skeleton,
    k0_part56_eq_skeleton, k0_part57_eq_skeleton, k0_part58_eq_skeleton, k0_part59_eq_skeleton, k0_part60_eq_skeleton,
    k0_part61_eq_skeleton, k0_part62_eq_skeleton, k0_part63_eq_skeleton, k0_part64_eq_skeleton, k0_part65_eq_skeleton,
    k0_part66_eq_skeleton, k0_part67_eq_skeleton, k0_part68_eq_skeleton, k0_part69_eq_skeleton, k0_part70_eq_skeleton,
    k0_part71_eq_skeleton, k0_part72_eq_skeleton, k0_part73_eq_skeleton, k0_part74_eq_skeleton, k0_part75_eq_skeleton,
    k0_part76_eq_skeleton]
  unfold k0_part41_skel k0_part42_skel k0_part43_skel k0_part44_skel k0_part45_skel k0_part46_skel k0_part47_skel k0_part48_skel
    k0_part49_skel k0_part50_skel k0_part51_skel k0_part52_skel k0_part53_skel k0_part54_skel k0_part55_skel k0_part56_skel
    k0_part57_skel k0_part58_skel k0_part59_skel k0_part60_skel k0_part61_skel k0_part62_skel k0_part63_skel k0_part64_skel
    k0_part65_skel k0_part66_skel k0_part67_skel k0_part68_skel k0_part69_skel k0_part70_skel k0_part71_skel k0_part72_skel
    k0_part73_skel k0_part74_skel k0_part75_skel k0_part76_skel
  simp only [semSignalWord, semWaitWord, Prog.lift, Prog.bind_op, Prog.bind_ret, Prog.pure_eq_ret, Prog.bind_assoc,
    prog, seg0, seg1, seg2, seg3, seg4, seg5, seg6, seg7, seg8, seg9, project, cwLoad, pPut, pLoad, rLoad, sPut, rsSend, rsRecv, rsSent,
    addTo, outPut, heads, heads0, meet, ownRows, xSend, xWait, kvCopy, kvWait]
  refine op_congr rfl fun d => ?_
  repeat refine op_congr rfl fun _ => ?_
  refine bind_congr (congrArg (Scf.Loop.for k0_t2_loop k0_t2_ok ⟨⟩) (funext fun t => funext fun _ => (loops_eq d).1 _ _ _ t)) fun _ => ?_
  repeat refine op_congr rfl fun _ => ?_
  refine bind_congr (congrArg (Scf.Loop.for k0_t2_loop k0_t2_ok ⟨⟩) (funext fun t => funext fun _ => (loops_eq d).2.1 _ _ _ t)) fun _ => ?_
  repeat refine op_congr rfl fun _ => ?_
  refine bind_congr (congrArg (Scf.Loop.for k0_t2_loop k0_t2_ok ⟨⟩) (funext fun t => funext fun _ => (loops_eq d).2.2.1 _ _ _ t)) fun _ => ?_
  repeat refine op_congr rfl fun _ => ?_
  refine bind_congr (congrArg (Scf.Loop.for k0_t2_loop k0_t2_ok ⟨⟩) (funext fun t => funext fun _ => (loops_eq d).2.2.2.1 _ _ _ t)) fun _ => ?_
  repeat refine op_congr rfl fun _ => ?_
  refine bind_congr (congrArg (Scf.Loop.for k0_t2_loop k0_t2_ok ⟨⟩) (funext fun t => funext fun _ => (loops_eq d).2.2.2.2.1 _ _ t)) fun _ => ?_
  repeat refine op_congr rfl fun _ => ?_
  refine bind_congr (congrArg (Scf.Loop.for k0_t2_loop k0_t2_ok ⟨⟩) (funext fun t => funext fun _ => (loops_eq d).2.2.2.2.2.1 _ _ _ _ t)) fun _ => ?_
  repeat refine op_congr rfl fun _ => ?_
  refine bind_congr (congrArg (Scf.Loop.for k0_t2_loop k0_t2_ok ⟨⟩) (funext fun t => funext fun _ => (loops_eq d).2.2.2.2.2.2.1 _ _ t)) fun _ => ?_
  repeat refine op_congr rfl fun _ => ?_
  refine bind_congr (congrArg (Scf.Loop.for k0_t2_loop k0_t2_ok ⟨⟩) (funext fun t => funext fun _ => (loops_eq d).2.2.2.2.2.2.2 _ _ _ t)) fun _ => ?_
  repeat refine op_congr rfl fun _ => ?_
  rfl

end Cert.KernelIdeal
-- ==== Proof.Region.lean ====
module

public import proofs.«01_k».proof.Proof.Mem
public import proofs.«01_k».proof.Proof.Whole
public import Idealize.ShloMosaic.Lib.Pipeline.RegionTalk
public import Idealize.ShloMosaic.Lib.Pipeline.ValueKit.Geometry

@[expose] public section

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ UU ℕ

variable (m : (ℓ : Loc nD τ sig) → Buf (Elt F) ℓ)

/-! ## The program inside the launch -/

/-- What the devices compute with: the launch contents as the kernel finds them. -/
def ins : Ins F where
  x c := iblk m c 0 t0_0
  wq c := iblk m c 1 t0_0
  wo c := iblk m c 2 t0_0
  k c := V m c main_v8
  v c := V m c main_v9

abbrev vb : DevRef τ sig := Proc.devRef .tc main_v10
/-- The buffers' contents after the kernel: the result in its place. -/
def V' (c : Dev nD) : Valuation τ sig (Elt F) := Function.update (V0 m c) vb (outv (ins m) c)
theorem V'_ne (c : Dev nD) {b : DevRef τ sig} (h : b ≠ vb) : V' m c b = V0 m c b := Function.update_of_ne h _ _
theorem V'_out (c : Dev nD) : V' m c vb = outv (ins m) c := Function.update_self _ _ _

abbrev bufs : Finset (DevRef τ sig) := Pipeline.ucRefs τ sig
def Hs : Finset (DevRef τ sig) := {Proc.devRef .tc main_v8, Proc.devRef .tc main_v9}
theorem Hs_eq (c : Dev nD) (X : Valuation τ sig (Elt F)) : (StableHlo.held (c : Thread nD τ) Hs X : sProp 𝕄)
    = iprop(((c : Thread nD τ).loc main_v8 ↦{fullShare} X (Proc.devRef .tc main_v8)) ∗ ((c : Thread nD τ).loc main_v9 ↦{fullShare} X (Proc.devRef .tc main_v9))) := by
  unfold StableHlo.held Hs
  rw [bigSep_eq_bigSepL_of_eq [Proc.devRef .tc main_v8, Proc.devRef .tc main_v9] (by decide) (by decide)]
  rfl
def Sr : Finset (DevRef τ sig) := bufs \ Pipeline.arrRefs (τ := τ) spec0

/-- A device's rights and records when the kernel begins. -/
def Xk (c : Dev nD) : sProp 𝕄 :=
  iprop((∃ κ, env (ins m) κ c) ∗ toks c ∗ (bigSep Finset.univ fun k : Fin 45 => atPos ER (cell c (osem k)) 0 ∅ 0) ∗ creds c ∗ atPos ER (cell c barS) 0 ∅ 0)
def Yk (c : Dev nD) : sProp 𝕄 := semVal (cell c barS) 0
def kv (c : Dev nD) : sProp 𝕄 :=
  iprop(((c : Thread nD τ).loc main_v8 ↦{fullShare} V m c main_v8) ∗ ((c : Thread nD τ).loc main_v9 ↦{fullShare} V m c main_v9))

/-- What holds before and after the kernel's one step. -/
def dat0 (c : Dev nD) : Dat τ (Elt F) Unit ℕ UU ℕ cfg0 c where
  A w := V m c (Pipeline.arrRef spec0 w)
  after := fun
    | 0 => fun t => iblk m c 0 t
    | 1 => fun t => iblk m c 1 t
    | 2 => fun t => iblk m c 2 t
    | 3 => fun _ => outv (ins m) c
  Φ t := if t.val = 0 then iprop(scr c ∗ (∃ r, prngReg c r) ∗ kv m c ∗ Xk m c)
    else iprop(scr c ∗ (∃ r, prngReg c r) ∗ kv m c ∗ Pipeline.ownSems0 osem c ∗ Yk c)
  q _ := fullShare
  owed t := if t.val = 0 then Oat c 0 else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat0 m

theorem owed_first (c : Dev nD) : (dat0 m c).owed t0_0.castSucc = Oat c 0 := by
  show (if (t0_0.castSucc : Fin (cfg0.N + 1)).val = 0 then Oat c 0 else 0) = Oat c 0; exact if_pos rfl
theorem owed_last (c : Dev nD) : (dat0 m c).owed t0_0.succ = 0 := by
  show (if (t0_0.succ : Fin (cfg0.N + 1)).val = 0 then Oat c 0 else 0) = 0; exact if_neg (by decide)
theorem N0 : cfg0.N = 1 := N_0

theorem owesIn {c : Dev nD} (t : Fin (cfg0.N + 1)) (O : CellTallies nD τ sig Unit) (h : (dat0 m c).owed t = O) :
    ((dat0 m c).owesAt () t : sProp 𝕄) ⊢ iprop(∃ X, owes (c : Thread nD τ) O X) := by
  unfold Dat.owesAt Pipeline.owesWithin; rw [h]
  iintro ⟨%X, -, HO⟩; iexists X; iexact HO
theorem owesOut {c : Dev nD} (t : Fin (cfg0.N + 1)) (O : CellTallies nD τ sig Unit) (h : (dat0 m c).owed t = O) :
    (iprop(∃ X, owes (c : Thread nD τ) O X) : sProp 𝕄) ⊢ (dat0 m c).owesAt () t := by
  unfold Dat.owesAt Pipeline.owesWithin Dat.bound; rw [h]
  iintro ⟨%X, HO⟩; iexists X; isplitr; · ipureintro; exact fun _ _ => Or.inl trivial
  iexact HO

theorem before_0 (c : Dev nD) (d) : (dat0 m c).before 0 t0_0 d = iblk m c 0 t0_0 :=
  ((dat0 m c).before_in_eq_fetched 0 rfl (fun _ => rfl) (fun _ _ _ => rfl) (fun t => by dsimp only [dat0]; unfold Dat.blockOf iblk; try rfl) t0_0 d).trans
    (by unfold Dat.fetched Dat.blockOf iblk; try rfl)
theorem before_1 (c : Dev nD) (d) : (dat0 m c).before 1 t0_0 d = iblk m c 1 t0_0 :=
  ((dat0 m c).before_in_eq_fetched 1 rfl (fun _ => rfl) (fun _ _ _ => rfl) (fun t => by dsimp only [dat0]; unfold Dat.blockOf iblk; try rfl) t0_0 d).trans
    (by unfold Dat.fetched Dat.blockOf iblk; try rfl)
theorem before_2 (c : Dev nD) (d) : (dat0 m c).before 2 t0_0 d = iblk m c 2 t0_0 :=
  ((dat0 m c).before_in_eq_fetched 2 rfl (fun _ => rfl) (fun _ _ _ => rfl) (fun t => by dsimp only [dat0]; unfold Dat.blockOf iblk; try rfl) t0_0 d).trans
    (by unfold Dat.fetched Dat.blockOf iblk; try rfl)

theorem owns_held {c : Dev nD} {sp : Space} {s : Shape} {e : EltTy} (v : Memref sig .tc sp s e) (X : s.Idx → Elt F e) :
    (owns (c : Thread nD τ) v fullShare X : sProp 𝕄) ⊢ held c v fullShare X := by
  unfold owns held; iintro ⟨%f, %h, H⟩; iexists f; isplitl [H]; · iexact H
  ipureintro; exact h
theorem held_owns {c : Dev nD} {sp : Space} {s : Shape} {e : EltTy} (v : Memref sig .tc sp s e) (X : s.Idx → Elt F e) :
    held c v fullShare X ⊢ (owns (c : Thread nD τ) v fullShare X : sProp 𝕄) := by
  unfold owns held; iintro ⟨%f, H, %h⟩; iexists f; isplitr; · ipureintro; exact h
  iexact H

/-- The kernel's step, from what holds before it to what holds after. -/
theorem body0 (c : Dev nD) : BodyObligation (dat0 m c) defs₀ 𝒱₀ () Set.univ := fun t => by
  obtain rfl := fin_N0 t
  rw [bigSep_W0, bigSep_W0]
  rw [show (dat0 m c).Φ t0_0.castSucc = iprop(scr c ∗ (∃ r, prngReg c r) ∗ kv m c ∗ Xk m c) from rfl,
    show (dat0 m c).Φ t0_0.succ = iprop(scr c ∗ (∃ r, prngReg c r) ∗ kv m c ∗ Pipeline.ownSems0 osem c ∗ Yk c) from rfl]
  unfold Xk Yk kv
  iintro ⟨⟨Hs, Hreg, ⟨HK, HV⟩, ⟨%κ, #He⟩, Ht, Hpo, Hcr, Hb⟩, HO, ⟨%d0, H0⟩, ⟨%d1, H1⟩, ⟨%d2, H2⟩, ⟨%d3, H3⟩⟩
  ihave HO := (owesIn m _ (Oat c 0) (owed_first m c)) $$ HO
  ihave H0 := (owns_held _ _) $$ H0
  ihave H1 := (owns_held _ _) $$ H1
  ihave H2 := (owns_held _ _) $$ H2
  ihave H3 := (owns_held _ _) $$ H3
  rw [before_0, before_1, before_2]
  ihave HM := (mem_in (c := c) (ins m) m) $$ [Hs HK HV]
  · isplitl [Hs]; · iexact Hs
    isplitl [HK]; · iexact HK
    iexact HV
  icases HM with ⟨HM, HR⟩
  iapply (show ∀ Q : Post F, W c (Prog.op .deviceId fun d => prog d) Q ⊢ W c (bodyAt0 t0_0) Q from fun Q => by rw [body_eq t0_0])
  iapply (show ∀ Q : Post F, W c (prog c) Q ⊢ W c (Prog.op .deviceId fun d => prog d) Q from fun Q => by rw [W, W, wp_deviceId])
  iapply (wp_prog (a := ins m) (κ := κ)) $$ He [HO] [H0] [H1] [H2] [H3] HM Ht Hpo Hcr Hb
  · unfold ow; iexact HO
  · iexact H0
  · iexact H1
  · iexact H2
  · iapply (held_any _ _) $$ H3
  iintro ⟨HO, H0, H1, H2, H3, HM, Hz, Hb⟩
  ihave HM := (mem_out (c := c) (ins m) m) $$ [HM HR]
  · isplitl [HM]; · iexact HM
    iexact HR
  icases HM with ⟨Hs, HK, HV⟩
  isplitl [Hs Hreg HK HV Hz Hb]
  · isplitl [Hs]; · iexact Hs
    isplitl [Hreg]; · iexact Hreg
    isplitl [HK HV]
    · isplitl [HK]; · iexact HK
      iexact HV
    isplitl [Hz]; · unfold Pipeline.ownSems0; iexact Hz
    iexact Hb
  isplitl [HO]
  · iapply (owesOut m t0_0.succ 0 (owed_last m c))
    unfold ow
    rw [Oat_end]
    iexact HO
  isplitl [H0]; · iapply (held_owns _ _) $$ H0
  isplitl [H1]; · iapply (held_owns _ _) $$ H1
  isplitl [H2]; · iapply (held_owns _ _) $$ H2
  iapply (held_owns _ _) $$ H3

/-! ## The kernel within the program -/

/-- What the launch leaves a device for the kernel. -/
def Tk (c : Dev nD) : sProp 𝕄 :=
  iprop((∃ κ, records (ins m) κ) ∗ (bigSep Finset.univ fun k : Fin 45 => openTok ER (cell c (osem k))) ∗ toks c ∗ creds c ∗ atPos ER (cell c barS) 0 ∅ 0)

theorem open_one (κ : GSem nD τ sig → ℕ) (c : Dev nD) (k : Fin 45) :
    iprop(records (ins m) κ ∗ (openTok ER (cell c (osem k)) ∗ semVal (cell c (osem k)) 0))
      ⊢ (|={Set.univ}=> iprop(atPos ER (cell c (osem k)) 0 ∅ 0 ∗ reached ER (cell c (osem k)) 0) : sProp 𝕄) := by
  unfold records
  iintro ⟨⟨#HI, -⟩, Ho, Hz⟩
  iapply (Rounds.cell_open ER (sched (ins m)) (g := cell c (osem k)) (Set.mem_univ (κ (cell c (osem k)))))
  isplitr
  · iapply (show (bigSep (barCells ∪ scCells) fun g => (cellInv ER (sched (ins m)) (κ g) g : sProp 𝕄)) ⊢ _ from bigSep_elim (sc_mem c k)) $$ HI
  isplitl [Ho]; · iexact Ho
  iexact Hz

theorem open_all (κ : GSem nD τ sig → ℕ) (c : Dev nD) :
    iprop(records (ins m) κ ∗ (bigSep Finset.univ fun k : Fin 45 => openTok ER (cell c (osem k))) ∗ Pipeline.ownSems0 osem c)
      ⊢ (|={Set.univ}=> iprop((bigSep Finset.univ fun k : Fin 45 => atPos ER (cell c (osem k)) 0 ∅ 0) ∗ rch c) : sProp 𝕄) := by
  unfold Pipeline.ownSems0 rch
  rw [← bigSep_sep', ← bigSep_sep']
  refine BI.Entails.trans ?_ (BI.bigSep_fupd _ _)
  exact bigSep_with_persistent fun k _ => open_one m κ c k

theorem hopen0 (c : Dev nD) : iprop(Tk m c ∗ Pipeline.ownSems0 osem c ∗ levAts L lv) ⊢ (|={Set.univ}=> Xk m c : sProp 𝕄) := by
  unfold Tk Xk
  iintro ⟨⟨⟨%κ, #HR⟩, Ho, Ht, Hc, Hb⟩, Hz, #Hl⟩
  imod (open_all m κ c) $$ [Ho Hz] with ⟨Ha, #Hr⟩
  · isplitr; · iexact HR
    isplitl [Ho]; · iexact Ho
    iexact Hz
  imodintro
  isplitr
  · iexists κ; unfold env
    isplitr; · iexact HR
    isplitr; · iexact Hr
    iexact Hl
  isplitl [Ht]; · iexact Ht
  isplitl [Ha]; · iexact Ha
  isplitl [Hc]; · iexact Hc
  iexact Hb

theorem hin0 (c : Dev nD) : iprop(Pipeline.scopedRest (Pipeline.pin (pcfgs (F := F)) adm 0).spec c ∗ (∃ r, prngReg c r) ∗ StableHlo.held (c.tc : Thread nD τ) Hs (V0 m c) ∗ Xk m c)
    ⊢ (pdats m 0 c).Φ 0 := by
  rw [show (pdats m 0 c).Φ 0 = iprop(scr c ∗ (∃ r, prngReg c r) ∗ kv m c ∗ Xk m c) from rfl, Hs_eq]
  exact BI.Entails.refl _

theorem hout0 (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) Hs (V' m c) ∗ Pipeline.ownSems0 osem c ∗ Yk c) := by
  rw [show (pdats m 0 c).Φ (Fin.last _) = iprop(scr c ∗ (∃ r, prngReg c r) ∗ kv m c ∗ Pipeline.ownSems0 osem c ∗ Yk c) from rfl, Hs_eq,
    V'_ne m c (by decide), V'_ne m c (by decide)]
  exact BI.Entails.refl _

theorem cutD (c : Dev nD) (t : Fin ((Pipeline.pin (pcfgs (F := F)) adm 0).N + 1)) (g : GSem nD τ sig) (i : Unit) (h : 0 < (pdats (F := F) m 0 c).owed t g i) :
    i ∈ L g ∧ (0 : ℕ) < lv g i := by
  rw [show (pdats (F := F) m 0 c).owed t = if t.val = 0 then Oat c 0 else 0 from rfl] at h
  split at h
  · obtain ⟨j, -, hj, rfl⟩ := Oat_pos h
    exact ⟨by rw [L_tc]; exact Finset.mem_singleton_self _, (by decide : ∀ j : Fin 18, 0 < slv (pp j.val).1) ⟨j, hj⟩⟩
  · exact absurd h (Nat.lt_irrefl 0)

theorem cut0 : Pipeline.LevelCutOwed (pcfgs (F := F)) adm (pdats m) () L lv 0 (fun _ => 0) where
  hι c w s := by rw [L_tc]; exact Finset.mem_singleton_self _
  hιb c w s := le_of_eq ((by decide : ∀ (w : Fin 4) (s : Fin (spec0 w).nbuf), slv (.dma ((spec0 w).sem s)) = 0) w s)
  hD c t g i h := cutD m c t g i h

theorem Hs_sub : Hs ⊆ Sr := by unfold Sr; decide
theorem vb_notin : vb ∉ Sr := by unfold Sr; decide
theorem arr_in (c : Dev nD) (w : Fin 4) : (dat0 m c).arrAt w 0 = V0 m c (Proc.devRef .tc (Pipeline.arrRef spec0 w)) := rfl
theorem arr_out (c : Dev nD) (w : Fin 4) : (dat0 m c).arrAt w cfg0.N = V' m c (Proc.devRef .tc (Pipeline.arrRef spec0 w)) := by
  match w with
  | 0 => exact ((dat0 m c).arrAt_in 0 rfl _).trans (V'_ne m c (b := Proc.devRef .tc (Pipeline.arrRef spec0 0)) (by decide)).symm
  | 1 => exact ((dat0 m c).arrAt_in 1 rfl _).trans (V'_ne m c (b := Proc.devRef .tc (Pipeline.arrRef spec0 1)) (by decide)).symm
  | 2 => exact ((dat0 m c).arrAt_in 2 rfl _).trans (V'_ne m c (b := Proc.devRef .tc (Pipeline.arrRef spec0 2)) (by decide)).symm
  | 3 => exact ((dat0 m c).arrAt_eq_of_after_last 3 t0_0 (by decide +kernel) (outv (ins m) c) (fun _ => rfl)).trans (V'_out m c).symm

theorem share0 (c : Dev nD) (w : Fin 4) : (dat0 m c).share w = fullShare := by
  unfold Dat.share; split <;> rfl

set_option backward.isDefEq.respectTransparency.types false in
def reg0 : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    Hs Sr Hs_sub launch0.toP rfl (fun c => (body0 m c).loose)
    (fun _ => 0) (fun c => Oat c 0) (fun c => (owed_first m c).trans (zero_add _).symm) (fun c => owed_last m c) (fun _ => rfl) (share0 m)
    (V0 m) (V' m) (fun c b hb => V'_ne m c fun e => vb_notin (e ▸ (Finset.mem_sdiff.mp hb).1))
    (Tk m) Yk (Xk m) Yk (hopen0 m) (hin0 m) (hout0 m)
    (fun c => by iintro H; imodintro; iexact H)
    (fun _ => 0) (cut0 m)
    (fun _ => iprop(emp))
    (arr_in m) (arr_out m)

theorem held_all (c : Dev nD) (X : Valuation τ sig (Elt F)) : (StableHlo.held (c : Thread nD τ) bufs X : sProp 𝕄)
    = iprop(StableHlo.held (c : Thread nD τ) (Pipeline.arrRefs (τ := τ) spec0) X ∗ StableHlo.held (c : Thread nD τ) (Sr) X) :=
  StableHlo.held_sub_split _ (by decide) X

/-- What rides along with the buffers before the kernel. -/
def R0 (c : Dev nD) : sProp 𝕄 := iprop(Tk m c ∗ (∃ r, prngReg c r) ∗ ∃ X, owes (c : Thread nD τ) (Oat c 0) X)
def R1 (c : Dev nD) : sProp 𝕄 := iprop(semVal (cell c barS) 0 ∗ ∃ X, owes (c : Thread nD τ) (0 : CellTallies nD τ sig Unit) X)

theorem reg0_pre (c : Dev nD) : iprop(StableHlo.held (c : Thread nD τ) bufs (V0 m c) ∗ R0 m c) ⊢ (reg0 m).pre c := by
  show _ ⊢ iprop(StableHlo.held (c.tc : Thread nD τ) (Pipeline.arrRefs (τ := τ) (pcfgs (F := F) 0).spec) (V0 m c) ∗ (∃ r, prngReg c r)
    ∗ (StableHlo.held (c.tc : Thread nD τ) (Sr) (V0 m c) ∗ emp) ∗ Tk m c ∗ ∃ Wd, owes (c : Thread nD τ) (0 + Oat c 0) Wd)
  rw [held_all, zero_add]
  change iprop((StableHlo.held (c.tc : Thread nD τ) (Pipeline.arrRefs (τ := τ) (pcfgs (F := F) 0).spec) (V0 m c) ∗ _) ∗ _) ⊢ _
  unfold R0
  iintro ⟨⟨Ha, Hh⟩, HT, Hp, HO⟩
  isplitl [Ha]; · iexact Ha
  isplitl [Hp]; · iexact Hp
  isplitl [Hh]
  · isplitl [Hh]; · iexact Hh
    iempintro
  isplitl [HT]; · iexact HT
  iexact HO

theorem reg0_post (c : Dev nD) : (reg0 m).post c ⊢ iprop(StableHlo.held (c : Thread nD τ) bufs (V' m c) ∗ R1 c) := by
  show iprop(StableHlo.held (c.tc : Thread nD τ) (Pipeline.arrRefs (τ := τ) (pcfgs (F := F) 0).spec) (V' m c) ∗ (∃ r, prngReg c r)
    ∗ (StableHlo.held (c.tc : Thread nD τ) (Sr) (V' m c) ∗ emp) ∗ Yk c ∗ ∃ Wd, owes (c : Thread nD τ) (0 : CellTallies nD τ sig Unit) Wd) ⊢ _
  rw [held_all]
  unfold R1 Yk
  iintro ⟨Ha, -, ⟨Hh, -⟩, Hb, HO⟩
  isplitl [Ha Hh]
  · isplitl [Ha]; · iexact Ha
    iexact Hh
  isplitl [Hb]; · iexact Hb
  iexact HO

end Cert.KernelIdeal
-- ==== Proof.Launch.lean ====
module

public import proofs.«01_k».proof.Proof.Region
public import Idealize.ShloMosaic.Adequacy
public import Idealize.ShloMosaic.Init

@[expose] public section

noncomputable section

namespace Cert.KernelIdeal

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The program in three parts -/

theorem ops0_sub : ∀ op ∈ (hostOps0 : List (HloOp τ sig (Elt F))), op.bufs ⊆ bufs := fun op h =>
  Pipeline.sub_ucRefs op (List.forall_iff_forall_mem.mp hostOps0_sub op h)
theorem ops1_sub : ∀ op ∈ (hostOps1 : List (HloOp τ sig (Elt F))), op.bufs ⊆ bufs := fun op h =>
  Pipeline.sub_ucRefs op (List.forall_iff_forall_mem.mp hostOps1_sub op h)

def h0 : Pipeline.HostSeg (Ix := Unit) (Name := ℕ) (U := UU) (Lvl := ℕ) (pcfgs (F := F)) defs₀ 𝒱₀ L lv :=
  Pipeline.HostSeg.ofOps _ _ _ _ _ bufs hostOps0 ops0_sub (List.forall_iff_forall_mem.mp hostOps0_fresh) (fun c b => m (c, b)) (R0 m)
def h1 : Pipeline.HostSeg (Ix := Unit) (Name := ℕ) (U := UU) (Lvl := ℕ) (pcfgs (F := F)) defs₀ 𝒱₀ L lv :=
  Pipeline.HostSeg.ofOps _ _ _ _ _ bufs hostOps1 ops1_sub (List.forall_iff_forall_mem.mp hostOps1_fresh) (V' m) R1
def segs : List (Pipeline.Seg (pcfgs (F := F)) adm (pdats m) () defs₀ 𝒱₀ L lv) := [.host (h0 m), .region (reg0 m), .host (h1 m)]

/-- The buffers' contents at the end. -/
def Vn (c : Dev nD) : Valuation τ sig (Elt F) := StableHlo.after hostOps1 (V' m c)
theorem Vn_ne (c : Dev nD) {b : Ref sig .tc} (h : b ≠ main_v11) (h' : (Proc.devRef .tc b : DevRef τ sig) ≠ vb) : Vn m c (Proc.devRef .tc b) = V m c b := by
  unfold Vn
  rw [StableHlo.after_cons, StableHlo.after_nil, StableHlo.reshape_result_ne _ _ _ _ _ _ _ h, V'_ne m c h']
theorem Vn_out (c : Dev nD) : Vn m c (Proc.devRef .tc main_v11) = shapeCast S1x256x1024 (outv (ins m) c) shapeCasts_S256x1024_S1x256x1024 := by
  unfold Vn
  rw [StableHlo.after_cons, StableHlo.after_nil, StableHlo.reshape_result]
  show (fun i => shapeCast S1x256x1024 (V' m c vb) _ i) = _
  rw [V'_out]

/-! ## The launch -/

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

theorem tok_inj : Function.Injective fun k : Fin 48 => (tsm k, tnm k) := by decide
def tokEmb : Dev nD × Fin 48 ↪ GSem nD τ sig × ℕ × Bool :=
  ⟨fun ck => (cell ck.1 (tsm ck.2), 0, tnm ck.2), fun _ _ h =>
    Prod.ext (congrArg (fun t : GSem nD τ sig × ℕ × Bool => t.1.1.1) h)
      (tok_inj (Prod.ext (congrArg (fun t : GSem nD τ sig × ℕ × Bool => t.1.2) h) (congrArg (fun t : GSem nD τ sig × ℕ × Bool => t.2.2) h)))⟩
/-- Every payment's right. -/
abbrev allToks : Finset (GSem nD τ sig × ℕ × Bool) := Finset.univ.map tokEmb

theorem swap {α β : Type} [Fintype α] [Fintype β] [DecidableEq α] [DecidableEq β] (Φ : α → β → sProp 𝕄) :
    (bigSep Finset.univ fun a => bigSep Finset.univ fun b => Φ a b) = bigSep Finset.univ fun b => bigSep Finset.univ fun a => Φ a b := by
  rw [← bigSep_univ_prod (fun p : α × β => Φ p.1 p.2), bigSep_univ_equiv (Equiv.prodComm β α), bigSep_univ_prod]
  rfl

/-- The rights, sorted by the cell paid, are the rights sorted by the device that pays. -/
theorem toks_deal : (bigSep allToks fun x => (dutyTok ER x.1 x.2.1 x.2.2 : sProp 𝕄)) = bigSep Finset.univ fun c : Dev nD => toks c := by
  unfold allToks toks
  rw [bigSep_map, bigSep_univ_prod, swap (F := F), swap (F := F) (α := Dev nD)]
  refine bigSep_congr fun k _ => ?_
  rw [bigSep_univ_equiv (Equiv.addRight (tsh k))]
  refine bigSep_congr fun c _ => ?_
  show dutyTok ER (cell (c + tsh k) (tsm k)) 0 (tnm k) = _
  by_cases h : tsh k = 0
  · rw [if_pos h, h, add_zero]
  · rw [if_neg h]

def u₀ : UU :=
  (initOf (Pipeline.cells (Pipeline.pin (pcfgs (F := F)) adm) cellOf_inj) (Pipeline.launchToks (Pipeline.pin (pcfgs (F := F)) adm) cellOf_inj),
    launchOf barCells scCells allToks)

/-- Something that is not any one device's, kept with one of them. -/
def at0 (X : sProp 𝕄) (c : Dev nD) : sProp 𝕄 := if c = 0 then X else iprop(emp)
theorem at0_all (X : sProp 𝕄) : bigSep Finset.univ (at0 X) = X := by
  rw [bigSep_univ_at _ (0 : Dev nD), bigSep_congr (s := Finset.univ.erase (0 : Dev nD)) (Ψ := fun _ => (BI.emp : sProp 𝕄))
      fun c hc => by unfold at0; rw [if_neg (Finset.ne_of_mem_erase hc)]; rfl, BI.bigSep_emp_const]
  unfold at0; rw [if_pos rfl]
  exact BI.equiv_iff.mp sep_emp
def G : Dev nD → sProp 𝕄 := at0 (BI.own (ER (launchOf barCells scCells allToks)))

/-! ### What a device may count on -/

theorem paid (d c : Dev nD) (s : SemLoc sig) (i : ℕ) : (tallyAt (cell (d + (pp i).2) (pp i).1) () (amt (pp i).1) : CellTallies nD τ sig Unit) (cell c s) ()
    = if d = c - (pp i).2 then (if s = (pp i).1 then amt s else 0) else 0 := by
  rw [tallyAt_apply]
  by_cases h : d = c - (pp i).2
  · rw [if_pos h, h, sub_add_cancel]
    by_cases h' : s = (pp i).1
    · rw [if_pos h', if_pos ⟨by rw [h'], rfl⟩, h']
    · rw [if_neg h', if_neg fun e => h' (congrArg Prod.snd e.1)]
  · rw [if_neg h, if_neg fun e => h (eq_sub_of_add_eq (congrArg (fun g : GSem nD τ sig => g.1.1) e.1).symm)]

theorem times (j : Fin 16) : ((Finset.Ico 0 18).filter fun i => rsm j = (pp i).1).card = rtm j := by
  revert j; decide

theorem paid_all (c : Dev nD) (j : Fin 16) : (∑ d : Dev nD, (Oat d 0 : CellTallies nD τ sig Unit) (cell c (rsm j)) ()) = rtm j * amt (rsm j) := by
  have h (d : Dev nD) : (Oat d 0 : CellTallies nD τ sig Unit) (cell c (rsm j)) ()
      = ∑ i ∈ Finset.Ico 0 18, if d = c - (pp i).2 then (if rsm j = (pp i).1 then amt (rsm j) else 0) else 0 := by
    unfold Oat
    rw [Finset.sum_apply, Finsupp.finset_sum_apply]
    exact Finset.sum_congr rfl fun i _ => paid d c (rsm j) i
  simp only [h]
  rw [Finset.sum_comm]
  simp only [Finset.sum_ite_eq', Finset.mem_univ, if_true]
  rw [← Finset.sum_filter, Finset.sum_const, times, smul_eq_mul]

theorem rsm_inj : Function.Injective rsm := by decide
theorem creds_deal (c : Dev nD) : (Pipeline.launchCred (fun d => Oat d 0) c : sProp 𝕄) ⊢ creds c := by
  have h (j : Fin 16) : tallyOn (cell c (rsm j)) (launchCredit (Pipeline.owing fun d => Oat d 0) 0 (cell c (rsm j)))
      = (tallyAt (cell c (rsm j)) () (rtm j * amt (rsm j)) : CellTallies nD τ sig Unit) := by
    unfold tallyAt; refine congrArg _ (Finsupp.ext fun u => ?_); cases u
    rw [Pipeline.launchCredit_owing, Finsupp.single_eq_same, paid_all]
  unfold Pipeline.launchCred creds
  refine (bigSep_subset (t := Finset.univ.map ⟨rsm, rsm_inj⟩) (Finset.subset_univ _)).trans ?_
  rw [bigSep_map]
  refine bigSep_mono fun j _ => ?_
  rw [← h]
  exact BI.Entails.refl _

/-! ### Dealing everything out -/

abbrev T₀ (c : Dev nD) : sProp 𝕄 := iprop(StableHlo.held (c : Thread nD τ) bufs (fun b => m (c, b)) ∗ R0 m c)
abbrev Tₙ (c : Dev nD) : sProp 𝕄 := iprop(StableHlo.held (c : Thread nD τ) bufs (Vn m c) ∗ semVal (cell c barS) 0)

def own (c : Dev nD) : sProp 𝕄 :=
  iprop(StableHlo.held (c : Thread nD τ) bufs (fun b => m (c, b)) ∗ creds c ∗ owes (c : Thread nD τ) (Oat c 0) ∅ ∗ ∃ r, prngReg c r)
def dealt (c : Dev nD) : sProp 𝕄 :=
  iprop(atPos ER (cell c barS) 0 ∅ 0 ∗ (bigSep Finset.univ fun k : Fin 45 => openTok ER (cell c (osem k))) ∗ toks c)

theorem T₀_intro (κ : GSem nD τ sig → ℕ) (c : Dev nD) : iprop(records (ins m) κ ∗ (dealt c ∗ own m c)) ⊢ T₀ m c := by
  unfold dealt own T₀ R0 Tk
  iintro ⟨#HR, ⟨Ha, Ho, Ht⟩, Hh, Hc, HO, Hp⟩
  isplitl [Hh]; · iexact Hh
  isplitl [Ha Ho Ht Hc]
  · isplitr; · iexists κ; iexact HR
    isplitl [Ho]; · iexact Ho
    isplitl [Ht]; · iexact Ht
    isplitl [Hc]; · iexact Hc
    iexact Ha
  isplitl [Hp]; · iexact Hp
  iexists ∅; iexact HO

theorem unscoped_eq : ∀ sm : SemLoc sig, sm.isScoped .tc = false → sm = barS := by decide
theorem unscoped_sems (c : Dev nD) : (unscopedSems0 c : sProp 𝕄) = semVal (cell c barS) 0 := by
  unfold unscopedSems0
  rw [show (Finset.univ.filter fun sm : SemLoc sig => ¬ sm.isScoped .tc = true) = {barS} by decide, bigSep_singleton]

theorem own_intro (c : Dev nD) : iprop(unscopedBufs c (fun b => m ((c : Thread nD τ).loc b)) ∗ unscopedSems0 c
      ∗ owes (c : Thread nD τ) (Oat c 0) ∅ ∗ Pipeline.launchCred (fun d => Oat d 0) c ∗ prngReg c (ρ c) ∗ G c)
    ⊢ (iprop(own m c ∗ (semVal (cell c barS) 0 ∗ G c)) : sProp 𝕄) := by
  rw [show unscopedBufs c (fun b => m ((c : Thread nD τ).loc b)) = StableHlo.held (c : Thread nD τ) bufs (fun b => m (c, b)) from Pipeline.unscopedBufs_held c (fun b => m (c, b)),
    unscoped_sems]
  unfold own
  iintro ⟨Hh, Hz, HO, Hc, Hp, HG⟩
  isplitl [Hh HO Hc Hp]
  · isplitl [Hh]; · iexact Hh
    isplitl [Hc]; · iapply (creds_deal (F := F) c) $$ Hc
    isplitl [HO]; · iexact HO
    iexists (ρ c); iexact Hp
  isplitl [Hz]; · iexact Hz
  iexact HG

theorem bars (Ψ : GSem nD τ sig → sProp 𝕄) : bigSep barCells Ψ = bigSep Finset.univ fun c : Dev nD => Ψ (cell c barS) :=
  bigSep_map (s := Finset.univ) barEmb (Φ := Ψ)
theorem scs (Ψ : GSem nD τ sig → sProp 𝕄) : bigSep scCells Ψ = bigSep Finset.univ fun c : Dev nD => bigSep Finset.univ fun k : Fin 45 => Ψ (cell c (osem k)) := by
  unfold scCells; rw [bigSep_map, bigSep_univ_prod]; rfl

theorem pair {ι : Type} [Fintype ι] [DecidableEq ι] (Φ Ψ : ι → sProp 𝕄) : (bigSep Finset.univ fun i => iprop(Φ i ∗ Ψ i)) = iprop(bigSep Finset.univ Φ ∗ bigSep Finset.univ Ψ) :=
  bigSep_sep' _ _ _

theorem init :
    iprop((bigSep Finset.univ fun c : Dev nD => iprop(unscopedBufs c (fun b => m ((c : Thread nD τ).loc b)) ∗ unscopedSems0 c
          ∗ owes (c : Thread nD τ) (Oat c 0) ∅ ∗ Pipeline.launchCred (fun d => Oat d 0) c ∗ prngReg c (ρ c) ∗ G c)) ∗ levAts L lv)
      ⊢ (|={Set.univ}=> bigSep Finset.univ (T₀ m) : sProp 𝕄) := by
  iintro ⟨H, -⟩
  ihave H := (show (bigSep Finset.univ fun c : Dev nD => iprop(unscopedBufs c (fun b => m ((c : Thread nD τ).loc b)) ∗ unscopedSems0 c
          ∗ owes (c : Thread nD τ) (Oat c 0) ∅ ∗ Pipeline.launchCred (fun d => Oat d 0) c ∗ prngReg c (ρ c) ∗ G c))
      ⊢ (bigSep Finset.univ fun c : Dev nD => iprop(own m c ∗ (semVal (cell c barS) 0 ∗ G c)) : sProp 𝕄) from bigSep_mono fun c _ => own_intro m ρ c) $$ H
  ihave H := (Entails.of_eq (pair (F := F) _ _)) $$ H; icases H with ⟨HB, H⟩
  ihave H := (Entails.of_eq (pair (F := F) _ _)) $$ H; icases H with ⟨Hz, HG⟩
  ihave Hz := (Entails.of_eq (bars (F := F) fun g => semVal g 0).symm) $$ Hz
  ihave Hu := (show bigSep Finset.univ (G (F := F)) ⊢ BI.own (ER (launchOf barCells scCells allToks)) from Entails.of_eq (at0_all _)) $$ HG
  imod (Rounds.fund_launch ER (sched (ins m)) disjoint_cells (fun g _ h => h) allToks) $$ [Hz Hu] with ⟨%κ, -, #Hinv, #Hr, Ha, Ho, Ht⟩
  · isplitl [Hz]; · iexact Hz
    iexact Hu
  imodintro
  iapply (bigSep_with_persistent (R := records (ins m) κ) (Φ := fun c => iprop(dealt c ∗ own m c)) fun c _ => T₀_intro m κ c)
  isplitr
  · unfold records
    isplitr; · iexact Hinv
    iexact Hr
  iapply (Entails.of_eq (pair (F := F) _ _).symm)
  isplitr [HB]
  · unfold dealt
    iapply (Entails.of_eq (pair (F := F) _ _).symm)
    isplitl [Ha]; · iapply (Entails.of_eq (bars (F := F) fun g => atPos ER g 0 ∅ 0)) $$ Ha
    iapply (Entails.of_eq (pair (F := F) _ _).symm)
    isplitl [Ho]; · iapply (Entails.of_eq (scs (F := F) fun g => openTok ER g)) $$ Ho
    iapply (Entails.of_eq (toks_deal (F := F))) $$ Ht
  iexact HB

/-! ### The run -/

def Ends : Finset (DevRef τ sig) :=
  {Proc.devRef .tc main_arg0, Proc.devRef .tc main_arg1, Proc.devRef .tc main_arg2, Proc.devRef .tc main_arg3, Proc.devRef .tc main_arg4, Proc.devRef .tc main_v11}
theorem Ends_eq (c : Dev nD) (X : Valuation τ sig (Elt F)) : (StableHlo.held (c : Thread nD τ) Ends X : sProp 𝕄)
    = iprop(((c : Thread nD τ).loc main_arg0 ↦{fullShare} X (Proc.devRef .tc main_arg0)) ∗ ((c : Thread nD τ).loc main_arg1 ↦{fullShare} X (Proc.devRef .tc main_arg1))
      ∗ ((c : Thread nD τ).loc main_arg2 ↦{fullShare} X (Proc.devRef .tc main_arg2)) ∗ ((c : Thread nD τ).loc main_arg3 ↦{fullShare} X (Proc.devRef .tc main_arg3))
      ∗ ((c : Thread nD τ).loc main_arg4 ↦{fullShare} X (Proc.devRef .tc main_arg4)) ∗ ((c : Thread nD τ).loc main_v11 ↦{fullShare} X (Proc.devRef .tc main_v11))) := by
  unfold StableHlo.held Ends
  rw [bigSep_eq_bigSepL_of_eq [Proc.devRef .tc main_arg0, Proc.devRef .tc main_arg1, Proc.devRef .tc main_arg2, Proc.devRef .tc main_arg3, Proc.devRef .tc main_arg4, Proc.devRef .tc main_v11] (by decide) (by decide)]
  rfl

/-- What a device's memory holds at the end. -/
def Final (c : Dev nD) (s : (ℓ : Loc nD τ sig) → Buf (Elt F) ℓ) : Prop :=
  s ((c : Thread nD τ).loc main_v11) = shapeCast S1x256x1024 (outv (ins m) c) shapeCasts_S256x1024_S1x256x1024
  ∧ s ((c : Thread nD τ).loc main_arg0) = m ((c : Thread nD τ).loc main_arg0)
  ∧ s ((c : Thread nD τ).loc main_arg1) = m ((c : Thread nD τ).loc main_arg1)
  ∧ s ((c : Thread nD τ).loc main_arg2) = m ((c : Thread nD τ).loc main_arg2)
  ∧ s ((c : Thread nD τ).loc main_arg3) = m ((c : Thread nD τ).loc main_arg3)
  ∧ s ((c : Thread nD τ).loc main_arg4) = m ((c : Thread nD τ).loc main_arg4)

set_option backward.isDefEq.respectTransparency.types false in
/-- Every run ends, with each device's result computed, its arguments as they were, and every counter at zero. -/
theorem run_main : θ_run defs (onTc (τ := τ) (main (F := F))) ⟨m, fun _ => 0, ρ⟩ (fun r => (∀ c : Dev nD, Final m c r.2.mem) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (h0 m) (h1 m) (reg0 m) rfl rfl c]; exact BI.Entails.refl _)
    (by simp only [segs, Pipeline.Seg.pipes_host, Pipeline.Seg.pipes_region, Pipeline.Seg.pipes_nil]; decide)
    (O₀ := fun d => Oat d 0) (hL := L_of_ne) (G := G) (u₀ := u₀)
    (hu₀ := by
      unfold u₀ G
      iintro Hu
      ihave H := (ownU_pair _ _) $$ Hu
      icases H with ⟨HP, HX⟩
      imodintro
      isplitl [HP]; · iexact HP
      rw [at0_all]; iexact HX)
    (T₀ := T₀ m) (Tₙ := Tₙ m)
    (hch := by
      refine ⟨fun c => .rfl, fun c => reg0_pre m c, fun c => reg0_post m c, fun c => ?_⟩
      show iprop(StableHlo.held (c : Thread nD τ) bufs (Vn m c) ∗ R1 c)
        ⊢ iprop(Tₙ m c ∗ ∃ W, owes (c : Thread nD τ) (0 : CellTallies nD τ sig Unit) W)
      unfold R1
      iintro ⟨Hh, Hz, HO⟩
      isplitr [HO]
      · isplitl [Hh]; · iexact Hh
        iexact Hz
      iexact HO)
    (hinit := init m ρ)
    (QY := fun c s => Final m c s.mem ∧ s.sem (cell c barS) = 0)
    (hfin := fun c s' => by
      dsimp only [Tₙ]
      rw [StableHlo.held_sub_split (c : Thread nD τ) (show Ends ⊆ bufs by decide) (Vn m c), Ends_eq, Vn_out, Vn_ne m c (by decide) (by decide), Vn_ne m c (by decide) (by decide),
        Vn_ne m c (by decide) (by decide), Vn_ne m c (by decide) (by decide), Vn_ne m c (by decide) (by decide),
        V_main_arg0, V_main_arg1, V_main_arg2, V_main_arg3, V_main_arg4]
      iintro ⟨⟨⟨⟨H0, H1, H2, H3, H4, H5⟩, -⟩, Hz⟩, HSI⟩
      icombine HSI H0 gives %h0
      icombine HSI H1 gives %h1
      icombine HSI H2 gives %h2
      icombine HSI H3 gives %h3
      icombine HSI H4 gives %h4
      icombine HSI H5 gives %h5
      icombine HSI Hz gives %hz
      imodintro
      isplitr
      · ipureintro
        exact ⟨⟨Buf.eq_of_forall_mem_univ h5, Buf.eq_of_forall_mem_univ h0, Buf.eq_of_forall_mem_univ h1, Buf.eq_of_forall_mem_univ h2, Buf.eq_of_forall_mem_univ h3,
          Buf.eq_of_forall_mem_univ h4⟩, by simpa using hz⟩
      iexact HSI)
    (hQ := fun s h hs => ⟨fun c => (h c).1, sem_eq_zero hs fun c sm hsm => by
      obtain rfl := unscoped_eq sm hsm
      exact (h c).2⟩)

end Cert.KernelIdeal
-- ==== Proof.Frames.lean ====
module

public import proofs.«01_k».proof.Proof.Launch
public import proofs.«01_k».proof.Defs
public import proofs.«01_k».proof.Proof.Gen.Kernel
public import proofs.«01_k».proof.Proof.Gen.ReferenceIdeal.Run

@[expose] public section

noncomputable section

namespace Cert.Proof

open Idealize.ShloMosaic Idealize.ShloMosaic.TcCoe
open Idealize.SL.Sem

/-- A named constant read as the literal it was printed as. -/
instance literal : Named Bits where
  named _ _ {φ} b := Scalar.ofBits φ b

theorem same_main (c : Dev Cert.Kernel.nD) : Cert.Kernel.main (F := Bits) c = Cert.KernelIdeal.main (F := Bits) c := rfl

set_option maxRecDepth 65536 in
theorem same_body : Cert.Kernel.cc0_body (F := Bits) = Cert.KernelIdeal.cc0_body (F := Bits) := rfl

set_option maxRecDepth 65536 in
theorem same_cfgs : Cert.Kernel.pcfgs (F := Bits) = Cert.KernelIdeal.pcfgs (F := Bits) := rfl

set_option maxRecDepth 65536 in
set_option pp.maxSteps 300 in
theorem same_defs₀ : Cert.Kernel.defs₀ (F := Bits) = Cert.KernelIdeal.defs₀ (F := Bits) := by
  unfold Cert.Kernel.defs₀ Cert.KernelIdeal.defs₀
  congr 1
  funext l a
  match l, a with
  | 0, (t, s) =>
    dsimp only
    rw [same_body]

theorem same_defs : Cert.Kernel.defs (F := Bits) = Cert.KernelIdeal.defs (F := Bits) :=
  congrArg (Pipeline.defs Cert.KernelIdeal.pcfgs) same_defs₀

theorem same_mains : Cert.Kernel.main (F := Bits) = Cert.KernelIdeal.main (F := Bits) := funext same_main

theorem frame_KernelIdeal : Cert.quiescent_KernelIdeal := fun m ρ _ =>
  (θ_run Cert.KernelIdeal.defs _ _).mono (fun _ h => ⟨fun c => (h.1 c).2, h.2⟩) (Cert.KernelIdeal.run_main (F := Ideal) m ρ)

/-- The same from the launches the value claim is about. -/
theorem frame_KernelIdeal_pre [Cert.Pre_finite_scores_KernelIdeal.Facts] : Cert.quiescent_KernelIdeal_pre_finite_scores_KernelIdeal := fun m ρ _ =>
  frame_KernelIdeal m ρ trivial

theorem frame_Kernel : Cert.quiescent_Kernel := fun m ρ _ => by
  rw [same_defs, same_mains]
  exact (θ_run Cert.KernelIdeal.defs _ _).mono (fun _ h => ⟨fun c => (h.1 c).2, h.2⟩) (Cert.KernelIdeal.run_main (F := Bits) m ρ)

theorem preserves : Cert.preserves_Kernel_KernelIdeal :=
  ⟨IdealRules.named_const.statement _ _ _ _ _ rfl, IdealRules.named_const.statement _ _ _ _ _ rfl⟩

/-- `Cert.quiescent_ReferenceIdeal`: the reference's run read at its arguments; it declares no semaphore. -/
theorem frame_ReferenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The same from the launches the value claim is about. -/
theorem frame_ReferenceIdeal_pre [Cert.Pre_finite_scores_ReferenceIdeal.Facts] : Cert.quiescent_ReferenceIdeal_pre_finite_scores_ReferenceIdeal := fun m ρ _ =>
  frame_ReferenceIdeal m ρ trivial

end Cert.Proof

end
-- ==== Proof.Soft.lean ====
/- Weighted means over the extended reals: the sums a running softmax keeps, and the value they end at. -/
module

public import Idealize.ShloMosaic.PureOps.Ideal.Laws
public import Mathlib.Data.EReal.Inv
public import Mathlib.Algebra.Order.BigOperators.Group.Finset
public import Mathlib.Algebra.BigOperators.Intervals
public import Mathlib.Data.Finset.Fold

@[expose] public section

noncomputable section

namespace Cert.Math

open Idealize.ShloMosaic
open scoped BigOperators

/-- A finite extended real. -/
def Fin' (x : EReal) : Prop := ∃ r : ℝ, x = r

theorem Fin'.ne_top {x : EReal} (h : Fin' x) : x ≠ ⊤ := by obtain ⟨r, rfl⟩ := h; exact EReal.coe_ne_top r
theorem Fin'.ne_bot {x : EReal} (h : Fin' x) : x ≠ ⊥ := by obtain ⟨r, rfl⟩ := h; exact EReal.coe_ne_bot r
theorem fin'_of {x : EReal} (h : x ≠ ⊥) (h' : x ≠ ⊤) : Fin' x := ⟨x.toReal, (EReal.coe_toReal h' h).symm⟩

theorem Fin'.mul {x y : EReal} (hx : Fin' x) (hy : Fin' y) : Fin' (x * y) := by
  obtain ⟨r, rfl⟩ := hx; obtain ⟨s, rfl⟩ := hy; exact ⟨r * s, (EReal.coe_mul r s).symm⟩

theorem sum_coe {ι : Type*} (S : Finset ι) (f : ι → ℝ) : ∑ i ∈ S, (f i : EReal) = ((∑ i ∈ S, f i : ℝ) : EReal) := by
  classical
  induction S using Finset.induction_on with
  | empty => simp
  | insert a S h ih => rw [Finset.sum_insert h, Finset.sum_insert h, ih, EReal.coe_add]

theorem Fin'.sum {ι : Type*} (S : Finset ι) (f : ι → EReal) (h : ∀ i, Fin' (f i)) : Fin' (∑ i ∈ S, f i) := by
  choose g hg using h
  exact ⟨∑ i ∈ S, g i, by rw [← sum_coe]; exact Finset.sum_congr rfl fun i _ => hg i⟩

/-- The weight of a score `s` against the reference score `m`. -/
def wt (s m : EReal) : EReal := Ideal.exp (s - m)

theorem wt_bot {m : EReal} : wt ⊥ m = 0 := by
  unfold wt; rw [sub_eq_add_neg, EReal.bot_add]; exact Ideal.exp_bot

theorem wt_coe (s m : ℝ) : wt s m = (Real.exp (s - m) : EReal) := by
  unfold wt; rw [← EReal.coe_sub]; exact Ideal.exp_coe _

/-- A weight is a real number that is not negative. -/
theorem wt_real {s m : EReal} (hs : s ≠ ⊤) (hm : Fin' m) : ∃ r : ℝ, 0 ≤ r ∧ wt s m = r := by
  obtain ⟨y, rfl⟩ := hm
  induction s with
  | bot => exact ⟨0, le_refl _, wt_bot⟩
  | coe x => exact ⟨_, (Real.exp_pos _).le, wt_coe x y⟩
  | top => exact absurd rfl hs

theorem wt_pos {s m : EReal} (hs : Fin' s) (hm : Fin' m) : ∃ r : ℝ, 0 < r ∧ wt s m = r := by
  obtain ⟨x, rfl⟩ := hs; obtain ⟨y, rfl⟩ := hm
  exact ⟨_, Real.exp_pos _, wt_coe x y⟩

/-- Moving a weight from one reference score to another. -/
theorem wt_shift {s m m' : EReal} (hs : s ≠ ⊤) (hm : Fin' m) (hm' : Fin' m') : wt s m * wt m m' = wt s m' := by
  obtain ⟨y, rfl⟩ := hm; obtain ⟨z, rfl⟩ := hm'
  induction s with
  | bot => rw [wt_bot, wt_bot, zero_mul]
  | coe x => rw [wt_coe, wt_coe, wt_coe, ← EReal.coe_mul, ← Real.exp_add, sub_add_sub_cancel]
  | top => exact absurd rfl hs

/-- A sum scaled by a real number that is not negative. -/
theorem sum_scale {ι : Type*} (S : Finset ι) (f : ι → EReal) {c : ℝ} (hc : 0 ≤ c) : (∑ i ∈ S, f i) * (c : EReal) = ∑ i ∈ S, f i * (c : EReal) := by
  classical
  induction S using Finset.induction_on with
  | empty => simp
  | insert a S h ih =>
    rw [Finset.sum_insert h, Finset.sum_insert h,
      EReal.right_distrib_of_nonneg_of_ne_top (EReal.coe_nonneg.mpr hc) (EReal.coe_ne_top c), ih]

variable {ι : Type*}

/-- The weighted sum of `v`, and the sum of the weights. -/
def num (S : Finset ι) (s v : ι → EReal) (m : EReal) : EReal := ∑ i ∈ S, wt (s i) m * v i
def den (S : Finset ι) (s : ι → EReal) (m : EReal) : EReal := ∑ i ∈ S, wt (s i) m

theorem num_shift (S : Finset ι) (s v : ι → EReal) {m m' : EReal} (hs : ∀ i, s i ≠ ⊤) (hm : Fin' m) (hm' : Fin' m') :
    num S s v m * wt m m' = num S s v m' := by
  obtain ⟨c, hc, e⟩ := wt_pos hm hm'
  unfold num
  rw [e, sum_scale S _ hc.le]
  refine Finset.sum_congr rfl fun i _ => ?_
  rw [← e, mul_right_comm, wt_shift (hs i) hm hm']

theorem den_shift (S : Finset ι) (s : ι → EReal) {m m' : EReal} (hs : ∀ i, s i ≠ ⊤) (hm : Fin' m) (hm' : Fin' m') :
    den S s m * wt m m' = den S s m' := by
  have h := num_shift S s (fun _ => 1) hs hm hm'
  simpa only [num, den, mul_one] using h

/-- The sum of the weights is a positive real number when some score is finite. -/
theorem den_pos (S : Finset ι) (s : ι → EReal) {m : EReal} (hs : ∀ i, s i ≠ ⊤) (hm : Fin' m) (hp : ∃ i ∈ S, s i ≠ ⊥) :
    ∃ r : ℝ, 0 < r ∧ den S s m = r := by
  choose g hg e using fun i => wt_real (hs i) hm
  obtain ⟨i, hi, hb⟩ := hp
  refine ⟨∑ i ∈ S, g i, ?_, ?_⟩
  · obtain ⟨r, hr, e'⟩ := wt_pos (fin'_of hb (hs i)) hm
    refine Finset.sum_pos' (fun i _ => hg i) ⟨i, hi, ?_⟩
    have : (g i : EReal) = r := by rw [← e i, e']
    rw [EReal.coe_eq_coe_iff.mp this]; exact hr
  · unfold den; rw [← sum_coe]; exact Finset.sum_congr rfl fun i _ => e i

theorem div_pos_real (x : EReal) {r : ℝ} (hr : 0 < r) : Ideal.div x r = x * ((r⁻¹ : ℝ) : EReal) := by
  rw [Ideal.div_coe hr.ne', one_div]

/-- The weighted mean of `v`: every weight divided by their sum. -/
def mean (S : Finset ι) (s v : ι → EReal) (m : EReal) : EReal := ∑ i ∈ S, v i * Ideal.div (wt (s i) m) (den S s m)

/-- Dividing once at the end, against any reference score, gives the mean. -/
theorem soft (S : Finset ι) (s v : ι → EReal) {m m' : EReal} (hs : ∀ i, s i ≠ ⊤) (hm : Fin' m) (hm' : Fin' m') (hp : ∃ i ∈ S, s i ≠ ⊥) :
    Ideal.div (num S s v m) (den S s m) = mean S s v m' := by
  obtain ⟨d, hd, ed⟩ := den_pos S s hs hm hp
  obtain ⟨d', hd', ed'⟩ := den_pos S s hs hm' hp
  obtain ⟨c, hc, ec⟩ := wt_pos hm hm'
  have hdc : d' = d * c := by
    have h := den_shift S s hs hm hm'
    rw [ed, ed', ec, ← EReal.coe_mul] at h
    exact (EReal.coe_eq_coe_iff.mp h).symm
  unfold mean
  rw [ed, ed', div_pos_real _ hd]
  unfold num
  rw [sum_scale S _ (inv_pos.mpr hd).le]
  refine Finset.sum_congr rfl fun i _ => ?_
  rw [div_pos_real _ hd', ← wt_shift (hs i) hm hm', ec]
  obtain ⟨w, _, ew⟩ := wt_real (hs i) hm
  rw [ew, mul_comm (w : EReal) (v i), mul_assoc, ← EReal.coe_mul, ← EReal.coe_mul, ← EReal.coe_mul]
  have hh : w * d⁻¹ = w * c * d'⁻¹ := by rw [hdc]; field_simp
  rw [hh]

/-- A running maximum of scores below `⊤`. -/
theorem fold_ne_top (S : Finset ι) (f : ι → EReal) (hf : ∀ i, f i ≠ ⊤) : S.fold max ⊥ f ≠ ⊤ :=
  ((Finset.fold_max_lt ⊤).mpr ⟨bot_lt_top, fun i _ => lt_top_iff_ne_top.mpr (hf i)⟩).ne

theorem fold_fin (S : Finset ι) (f : ι → EReal) (hf : ∀ i, f i ≠ ⊤) (hp : ∃ i ∈ S, f i ≠ ⊥) : Fin' (S.fold max ⊥ f) :=
  fin'_of (((Finset.lt_fold_max ⊥).mpr (Or.inr (hp.imp fun _ h => ⟨h.1, bot_lt_iff_ne_bot.mpr h.2⟩))).ne') (fold_ne_top S f hf)

theorem max_fin {x y : EReal} (hx : Fin' x) (hy : y ≠ ⊤) : Fin' (max x y) :=
  fin'_of (lt_max_of_lt_left (bot_lt_iff_ne_bot.mpr hx.ne_bot)).ne'
    (max_lt (lt_top_iff_ne_top.mpr hx.ne_top) (lt_top_iff_ne_top.mpr hy)).ne

theorem max_fin' {x y : EReal} (hx : x ≠ ⊤) (hy : Fin' y) : Fin' (max x y) := max_comm x y ▸ max_fin hy hx

/-! ### Keys in blocks -/

/-- One further block of keys, taken into the two sums at a new reference score. -/
theorem num_block (s v : ℕ → EReal) (n p : ℕ) {m m' : EReal} (hs : ∀ i, s i ≠ ⊤) (hm : Fin' m) (hm' : Fin' m') :
    num (Finset.range n) s v m * wt m m' + ∑ b : Fin p, wt (s (n + b)) m' * v (n + b) = num (Finset.range (n + p)) s v m' := by
  rw [num_shift _ s v hs hm hm']
  unfold num
  rw [Finset.sum_range_add, ← Fin.sum_univ_eq_sum_range (fun b => wt (s (n + b)) m' * v (n + b))]

theorem den_block (s : ℕ → EReal) (n p : ℕ) {m m' : EReal} (hs : ∀ i, s i ≠ ⊤) (hm : Fin' m) (hm' : Fin' m') :
    den (Finset.range n) s m * wt m m' + ∑ b : Fin p, wt (s (n + b)) m' = den (Finset.range (n + p)) s m' := by
  have h := num_block s (fun _ => 1) n p hs hm hm'
  simpa only [num, den, mul_one] using h

/-- The keys row `r` sees. -/
def sees (r k : ℕ) : Prop := (r ≤ k + 128 ∧ k ≤ r + 128) ∨ k < 32 ∨ r < 32
instance (r k : ℕ) : Decidable (sees r k) := by unfold sees; infer_instance
/-- The score of key `k` for row `r`: `⊥` when the row does not see the key. -/
def score (r : ℕ) (raw : ℕ → EReal) (k : ℕ) : EReal := if sees r k then raw k else ⊥

theorem score_ne_top (r : ℕ) (raw : ℕ → EReal) (h : ∀ k, Fin' (raw k)) (k : ℕ) : score r raw k ≠ ⊤ := by
  unfold score; split
  · exact (h k).ne_top
  · exact bot_ne_top

theorem score_zero (r : ℕ) (raw : ℕ → EReal) (h : ∀ k, Fin' (raw k)) : score r raw 0 ≠ ⊥ := by
  unfold score
  rw [if_pos (show sees r 0 from Or.inr (Or.inl (by omega)))]
  exact (h 0).ne_bot

/-- A window of keys and the first keys, when they are all that the row sees. -/
theorem window_sum (g : ℕ → EReal) {r w : ℕ} (hw : 32 ≤ w) (hw' : w + 1024 ≤ 4096) (hr : 32 ≤ r) (h1 : w + 128 ≤ r) (h2 : r + 128 < w + 1024) :
    (∑ b : Fin 1024, if r ≤ w + b + 128 ∧ w + b ≤ r + 128 then g (w + b) else 0) + (∑ b : Fin 256, if (b : ℕ) < 32 then g b else 0)
      = ∑ k ∈ Finset.range 4096, if sees r k then g k else 0 := by
  rw [Fin.sum_univ_eq_sum_range (fun b => if r ≤ w + b + 128 ∧ w + b ≤ r + 128 then g (w + b) else 0) 1024,
    Fin.sum_univ_eq_sum_range (fun b => if b < 32 then g b else 0) 256]
  have e : ∑ b ∈ Finset.range 1024, (if r ≤ w + b + 128 ∧ w + b ≤ r + 128 then g (w + b) else 0)
      = ∑ k ∈ Finset.Ico w (w + 1024), if r ≤ k + 128 ∧ k ≤ r + 128 then g k else 0 := by
    rw [Finset.sum_Ico_eq_sum_range, Nat.add_sub_cancel_left]
  rw [e, ← Finset.sum_filter, ← Finset.sum_filter, ← Finset.sum_filter, ← Finset.sum_union]
  · refine Finset.sum_congr ?_ fun _ _ => rfl
    ext k
    rw [Finset.mem_union, Finset.mem_filter, Finset.mem_filter, Finset.mem_filter, Finset.mem_Ico, Finset.mem_range, Finset.mem_range]
    constructor
    · rintro (⟨⟨h3, h4⟩, h5⟩ | ⟨h3, h4⟩)
      · exact ⟨by omega, Or.inl h5⟩
      · exact ⟨by omega, Or.inr (Or.inl h4)⟩
    · rintro ⟨h3, h4 | h4 | h4⟩
      · exact Or.inl ⟨⟨by omega, by omega⟩, h4⟩
      · exact Or.inr ⟨by omega, h4⟩
      · omega
  · rw [Finset.disjoint_left]
    intro k
    simp only [Finset.mem_filter, Finset.mem_Ico, Finset.mem_range]
    omega

theorem wt_ite (c : Prop) [Decidable c] (x m : EReal) : wt (if c then x else ⊥) m = if c then wt x m else 0 := by
  split
  · rfl
  · exact wt_bot

theorem wt_ite_mul (c : Prop) [Decidable c] (x m v : EReal) : wt (if c then x else ⊥) m * v = if c then wt x m * v else 0 := by
  rw [wt_ite, ite_mul, zero_mul]

/-- The two sums of a row whose keys are a window and the first keys. -/
theorem num_window (raw v : ℕ → EReal) (m : EReal) {r w : ℕ} (hw : 32 ≤ w) (hw' : w + 1024 ≤ 4096) (hr : 32 ≤ r) (h1 : w + 128 ≤ r) (h2 : r + 128 < w + 1024) :
    (∑ b : Fin 1024, wt (if r ≤ w + b + 128 ∧ w + b ≤ r + 128 then raw (w + b) else ⊥) m * v (w + b))
        + (∑ b : Fin 256, wt (if (b : ℕ) < 32 then raw b else ⊥) m * v b)
      = num (Finset.range 4096) (score r raw) v m := by
  unfold num score
  simp only [wt_ite_mul]
  exact window_sum (fun k => wt (raw k) m * v k) hw hw' hr h1 h2

theorem den_window (raw : ℕ → EReal) (m : EReal) {r w : ℕ} (hw : 32 ≤ w) (hw' : w + 1024 ≤ 4096) (hr : 32 ≤ r) (h1 : w + 128 ≤ r) (h2 : r + 128 < w + 1024) :
    (∑ b : Fin 1024, wt (if r ≤ w + b + 128 ∧ w + b ≤ r + 128 then raw (w + b) else ⊥) m)
        + (∑ b : Fin 256, wt (if (b : ℕ) < 32 then raw b else ⊥) m)
      = den (Finset.range 4096) (score r raw) m := by
  have h := num_window raw (fun _ => 1) m hw hw' hr h1 h2
  simpa only [num, den, mul_one] using h

end Cert.Math

end
-- ==== Proof.KernelReads.lean ====
/- The kernel's masks, its literals, and the parts of the operands one head reads, each at an index. -/
module

public import proofs.«01_k».proof.Proof.Protocol
public import proofs.«01_k».proof.Proof.Soft
public import Idealize.ShloMosaic.Lib.Pointwise
public import Idealize.ShloMosaic.Lib.WordArith
public import Idealize.ShloMosaic.Lib.WordCmp

@[expose] public section

noncomputable section

namespace Cert.KernelIdeal

open Cert.KernelIdeal.Gen Cert.Math
open Idealize.ShloMosaic Idealize.ShloMosaic.TcCoe Idealize.ShloMosaic.Tactic
open Idealize.ShloMosaic.WordArith Idealize.ShloMosaic.WordCmp

/-! ### Literals -/

/-- The scale the kernel multiplies the scores by. -/
abbrev scale : EReal := Named.named (F := Ideal) (φ := .f32) κ "s" 0x3DB504F3#32

theorem mask_bot : Named.named (F := Ideal) (φ := .f32) κ "mask" 0xCE6E6B28#32 = (⊥ : EReal) := rfl
theorem ninf_bot : Ideal.ofBits .f32 0xFF800000#32 = (⊥ : EReal) := by simp [Ideal.ofBits, Ideal.ieee]
theorem scale_eq : scale = (((Real.sqrt 128)⁻¹ : ℝ) : EReal) := rfl
theorem scale_fin : Fin' scale := ⟨_, scale_eq⟩

/-- Dividing by the root of 128 is multiplying by the scale. -/
theorem div_root (x : EReal) : Ideal.div x (Ideal.sqrt (Ideal.ofBits .f32 0x43000000#32)) = x * scale := by
  have e : Ideal.ofBits .f32 0x43000000#32 = ((128 : ℝ) : EReal) := by
    simp [Ideal.ofBits, Ideal.ieee, -EReal.coe_mul]
    norm_num
  rw [e, Ideal.sqrt_coe, if_neg (by norm_num), Ideal.div_coe (Real.sqrt_ne_zero'.mpr (by norm_num)), scale_eq, one_div]

/-! ### Masks -/

theorem near {x y : ℕ} (hx : x < 8192) (hy : y < 8192) :
    IntOp.cmpi .sle (IntOp.absi (IntOp.subi (BitVec.ofNat 32 x) (BitVec.ofNat 32 y))) 128#32 = BitVec.ofBool (decide (x ≤ y + 128 ∧ y ≤ x + 128)) := by
  have ex := toInt_ofNat_small x (by omega)
  have ey := toInt_ofNat_small y (by omega)
  have e : (IntOp.subi (BitVec.ofNat 32 x) (BitVec.ofNat 32 y)).toInt = (x : ℤ) - y := by
    rw [toInt_subi_of_nonneg _ _ (by omega) (by omega), ex, ey]
  generalize IntOp.subi (BitVec.ofNat 32 x) (BitVec.ofNat 32 y) = z at e
  rw [cmpi_sle_eq]
  congr 1
  rw [decide_eq_decide]
  have h128 : (128#32).toInt = 128 := by decide
  rw [h128]
  unfold IntOp.absi
  split
  · rename_i h
    have hn : (-z).toInt = -z.toInt := by
      rw [BitVec.toInt_neg, e]
      apply Int.bmod_eq_of_le <;> omega
    rw [BitVec.msb_eq_toInt, decide_eq_true_iff] at h
    rw [hn]; omega
  · rename_i h
    rw [BitVec.msb_eq_toInt, decide_eq_true_iff] at h
    omega

theorem small {x c : ℕ} (hx : x < 8192) (hc : c < 8192) :
    IntOp.cmpi .slt (BitVec.ofNat 32 x) (BitVec.ofNat 32 c) = BitVec.ofBool (decide (x < c)) := by
  rw [cmpi_slt_eq, toInt_ofNat_small x (by omega), toInt_ofNat_small c (by omega)]
  congr 1
  rw [decide_eq_decide]; omega

theorem select_ofBool (p : Prop) [Decidable p] (x y : EReal) : Scalar.select (BitVec.ofBool (decide p)) x y = if p then x else y := by
  by_cases h : p <;> simp [h, Scalar.select]

/-- The mask of a block of keys on the first chunk. -/
theorem sel_block (o : ℕ) (ho : o ≤ 3072) (a : Fin 256) (b : Fin 1024) (x : EReal) :
    Scalar.select
      (IntOp.ori
        (IntOp.ori
          (IntOp.cmpi CmpIPredicate.sle
            (IntOp.absi (IntOp.subi (BitVec.ofNat 32 ↑a) (IntOp.addi (BitVec.ofNat 32 o) (BitVec.ofNat 32 ↑b)))) 128#32)
          (IntOp.cmpi CmpIPredicate.slt (IntOp.addi (BitVec.ofNat 32 o) (BitVec.ofNat 32 ↑b)) 32#32))
        (IntOp.cmpi CmpIPredicate.slt (BitVec.ofNat 32 ↑a) 32#32)) x (Named.named (F := Ideal) (φ := .f32) κ "mask" 0xCE6E6B28#32)
      = if sees a (o + b) then x else ⊥ := by
  have ha := a.isLt; have hb := b.isLt
  rw [mask_bot, addi_ofNat, near (by omega) (by omega), small (by omega) (by omega), small (by omega) (by omega), WordArith.ori_ofBool, WordArith.ori_ofBool,
    ← Bool.decide_or, ← Bool.decide_or, select_ofBool]
  refine if_congr ?_ rfl rfl
  unfold sees; rw [or_assoc]

/-- The mask of the window of keys on a later chunk. -/
theorem sel_window (a : Fin 256) (b : Fin 1024) (x : EReal) :
    Scalar.select (IntOp.cmpi CmpIPredicate.sle
            (IntOp.absi (IntOp.subi (IntOp.addi (BitVec.ofNat 32 ↑a) 128#32) (BitVec.ofNat 32 ↑b))) 128#32) x (Named.named (F := Ideal) (φ := .f32) κ "mask" 0xCE6E6B28#32)
      = if (a : ℕ) + 128 ≤ b + 128 ∧ (b : ℕ) ≤ a + 128 + 128 then x else ⊥ := by
  have ha := a.isLt; have hb := b.isLt
  rw [mask_bot, addi_ofNat, near (by omega) (by omega), select_ofBool]

/-- The mask of the first keys on a later chunk. -/
theorem sel_first (b : Fin 256) (x : EReal) :
    Scalar.select (IntOp.cmpi CmpIPredicate.slt (BitVec.ofNat 32 ↑b) 32#32) x (Named.named (F := Ideal) (φ := .f32) κ "mask" 0xCE6E6B28#32)
      = if (b : ℕ) < 32 then x else ⊥ := by
  have hb := b.isLt
  rw [mask_bot, small (by omega) (by omega), select_ofBool]

/-! ### Parts of the operands -/

/-- A head's keys, or values, at a row and a lane: `0` past the last row. -/
def at' (w : Vec Ideal S1x4096x128 .f32) (k : ℕ) (t : Fin 128) : EReal := if h : k < 4096 then w (ix3 0 ⟨k, h⟩ t) else 0

theorem at'_fin (w : Vec Ideal S1x4096x128 .f32) (hw : ∀ i, Fin' (w i)) (k : ℕ) (t : Fin 128) : Fin' (at' w k t) := by
  unfold at'; split
  · exact hw _
  · exact ⟨0, rfl⟩

theorem blk_at (w : Vec Ideal S1x4096x128 .f32) (r : ℕ) (hr : r + 1024 ≤ 4096) (b : Fin 1024) (t : Fin 128) :
    blk w r hr (ix3 0 b t) = at' w (r + b) t := by
  have hb := b.isLt
  unfold blk at'
  rw [dif_pos (by omega)]
  congr 1
  funext i
  fin_cases i
  · exact Fin.ext (show 0 + 1 * 0 = 0 by omega)
  · exact Fin.ext (show r + 1 * b.val = r + b.val by omega)
  · exact Fin.ext (show 0 + 1 * t.val = t.val by omega)

theorem fst_at (w : Vec Ideal S1x4096x128 .f32) (b : Fin 256) (t : Fin 128) : fst w (ix3 0 b t) = at' w b t := by
  have hb := b.isLt
  unfold fst at'
  rw [dif_pos (by omega)]
  congr 1
  funext i
  fin_cases i
  · exact Fin.ext (show 0 + 1 * 0 = 0 by omega)
  · exact Fin.ext (show 0 + 1 * b.val = b.val by omega)
  · exact Fin.ext (show 0 + 1 * t.val = t.val by omega)

theorem wqv_at (a : Ins Ideal) (c : Dev nD) (h : Fin 8) (d : Fin 1024) (t : Fin 128) : wqv a c h (ix3 0 d t) = a.wq c (ix3 h d t) := by
  unfold wqv
  congr 1
  funext i
  fin_cases i
  · exact Fin.ext (show h.val + 1 * 0 = h.val by omega)
  · exact Fin.ext (show 0 + 1 * d.val = d.val by omega)
  · exact Fin.ext (show 0 + 1 * t.val = t.val by omega)

theorem wov_at (a : Ins Ideal) (c : Dev nD) (h : Fin 8) (t : Fin 128) (n : Fin 1024) : wov a c h (ix3 0 t n) = a.wo c (ix3 h t n) := by
  unfold wov
  congr 1
  funext i
  fin_cases i
  · exact Fin.ext (show h.val + 1 * 0 = h.val by omega)
  · exact Fin.ext (show 0 + 1 * t.val = t.val by omega)
  · exact Fin.ext (show 0 + 1 * n.val = n.val by omega)

/-- The head of the model that device `c` calls `h`. -/
def head (c : Dev nD) (h : Fin 8) : Fin 64 := ⟨8 * c.val + h.val, by have hc : c.val < 8 := c.isLt; have := h.isLt; omega⟩

theorem kvv_at (K : Vec Ideal S4096x64x128 .f32) (c : Dev nD) (h : Fin 8) (k : Fin 4096) (t : Fin 128) :
    kvv K c h (ix3 0 k t) = K (ix3 k (head c h) t) := by
  unfold kvv
  have e1 : (Shape.reshapeEquiv squeezes_S1x4096x128_S4096x128.numel_eq).symm (ix3 (0 : Fin 1) k t) = (ix2 k t : S4096x128.Idx) := by
    rw [Equiv.symm_apply_eq]
    symm
    exact Shape.reshapeEquiv_eq_of_rowMajor _ (by
      rw [Shape.rowMajor_val_three, Shape.rowMajor_val_two]
      show ((0 : ℕ) * 4096 + k.val) * 128 + t.val = k.val * 128 + t.val; omega)
  rw [e1]
  have e2 : Shape.reshapeEquiv squeezes_S4096x1x128_S4096x128.numel_eq (ix2 k t : S4096x128.Idx) = (ix3 k (0 : Fin 1) t : S4096x1x128.Idx) :=
    Shape.reshapeEquiv_eq_of_rowMajor _ (by
      rw [Shape.rowMajor_val_three, Shape.rowMajor_val_two]
      show (k.val * 1 + (0 : ℕ)) * 128 + t.val = k.val * 128 + t.val; omega)
  show K ((Rect.unit (s := S4096x64x128) (ho c h) S4096x1x128.size (hi c h)).emb (Shape.reshapeEquiv squeezes_S4096x1x128_S4096x128.numel_eq (ix2 k t : S4096x128.Idx))) = _
  rw [e2]
  congr 1
  funext i
  fin_cases i
  · exact Fin.ext (show 0 + 1 * k.val = k.val by omega)
  · exact Fin.ext (show (8 * c.val + h.val) + 1 * 0 = 8 * c.val + h.val by omega)
  · exact Fin.ext (show 0 + 1 * t.val = t.val by omega)

end Cert.KernelIdeal

end
-- ==== Proof.KernelHeads.lean ====
/- One head's result at a row and a lane: a weighted mean of the values of the keys the row sees. -/
module

public import proofs.«01_k».proof.Proof.KernelReads

@[expose] public section

noncomputable section

namespace Cert.KernelIdeal

open Cert.KernelIdeal.Gen Cert.Math
open Idealize.ShloMosaic Idealize.ShloMosaic.TcCoe Idealize.ShloMosaic.Tactic
open scoped BigOperators

section Head
variable (q : FVec Ideal S256x128 .bf16) (K V : Vec Ideal S1x4096x128 .f32)

/-- The scaled product of a query and a key. -/
def raw (a : Fin 256) (k : ℕ) : EReal := (∑ x, q (ix2 a x) * at' K k x) * scale

theorem raw_fin (hq : ∀ i, Fin' (q i)) (hK : ∀ i, Fin' (K i)) (a : Fin 256) (k : ℕ) : Fin' (raw q K a k) :=
  (Fin'.sum _ _ fun _ => (hq _).mul (at'_fin K hK k _)).mul scale_fin

/-- The score on the first chunk. -/
abbrev sc0 (a : Fin 256) (k : ℕ) : EReal := score a (raw q K a) k
/-- The running maximum after the block of keys from `n`. -/
abbrev top (a : Fin 256) (n : ℕ) (m : EReal) : EReal := max m (Finset.univ.fold max ⊥ fun b : Fin 1024 => sc0 q K a (n + b))

/-! ### The first chunk -/

variable (h0 : 0 + 1024 ≤ 4096) (h1 : 1024 + 1024 ≤ 4096) (h2 : 2048 + 1024 ≤ 4096) (h3 : 3072 + 1024 ≤ 4096)

theorem pay30_at (a : Fin 256) (b : Fin 1024) : k0_pay30 (F := Ideal) q (blk K 0 h0) (ix2 a b) = sc0 q K a b := by
  pointwise [k0_pay30]
  simp only [blk_at, Nat.zero_add]
  have e := sel_block 0 (by omega) a b (raw q K a b)
  rw [Nat.zero_add] at e
  exact e

theorem pay37_at (a : Fin 256) (b : Fin 1024) : k0_pay37 (F := Ideal) q (blk K 1024 h1) (ix2 a b) = sc0 q K a (1024 + b) := by
  pointwise [k0_pay37]
  simp only [blk_at]
  exact sel_block 1024 (by omega) a b _

theorem pay44_at (a : Fin 256) (b : Fin 1024) : k0_pay44 (F := Ideal) q (blk K 2048 h2) (ix2 a b) = sc0 q K a (2048 + b) := by
  pointwise [k0_pay44]
  simp only [blk_at]
  exact sel_block 2048 (by omega) a b _

theorem pay31_at (a : Fin 256) : k0_pay31 (F := Ideal) q (blk K 0 h0) (ix2 a 0) = top q K a 0 ⊥ := by
  pointwise [k0_pay31, k0_pay29]
  simp only [pay30_at, ninf_bot, mask_bot, top, Nat.zero_add]

theorem pay33_at (a : Fin 256) (b : Fin 1024) : k0_pay33 (F := Ideal) q (blk K 0 h0) (ix2 a b) = wt (sc0 q K a b) (top q K a 0 ⊥) := by
  pointwise [k0_pay33]
  simp only [pay30_at, pay31_at]
  rfl

theorem pay34_at (a : Fin 256) : k0_pay34 (F := Ideal) q (blk K 0 h0) (ix2 a 0) = ∑ b : Fin 1024, wt (sc0 q K a b) (top q K a 0 ⊥) := by
  pointwise [k0_pay34]
  simp only [pay33_at, zero_mul, zero_add]

theorem pay35_at (a : Fin 256) (t : Fin 128) : k0_pay35 (F := Ideal) q (blk K 0 h0) (ix2 a t) = 0 := by
  pointwise [k0_pay35]
  simp only [zero_mul]

theorem pay36_at (b : Fin 1024) (t : Fin 128) : k0_pay36 (F := Ideal) (blk V 0 h0) (ix2 b t) = at' V b t := by
  pointwise [k0_pay36]
  rw [blk_at, Nat.zero_add]

theorem pay43_at (b : Fin 1024) (t : Fin 128) : k0_pay43 (F := Ideal) (blk V 1024 h1) (ix2 b t) = at' V (1024 + b) t := by
  pointwise [k0_pay43]
  exact blk_at _ _ _ _ _

theorem pay38_at (m : FVec Ideal S256x1 .f32) (a : Fin 256) : k0_pay38 (F := Ideal) q m (blk K 1024 h1) (ix2 a 0) = top q K a 1024 (m (ix2 a 0)) := by
  pointwise [k0_pay38]
  simp only [pay37_at, ninf_bot]

theorem pay39_at (m : FVec Ideal S256x1 .f32) (a : Fin 256) :
    k0_pay39 (F := Ideal) q m (blk K 1024 h1) (ix2 a 0) = wt (m (ix2 a 0)) (top q K a 1024 (m (ix2 a 0))) := by
  pointwise [k0_pay39]
  simp only [pay38_at]
  rfl

theorem pay40_at (m : FVec Ideal S256x1 .f32) (a : Fin 256) (b : Fin 1024) :
    k0_pay40 (F := Ideal) q m (blk K 1024 h1) (ix2 a b) = wt (sc0 q K a (1024 + b)) (top q K a 1024 (m (ix2 a 0))) := by
  pointwise [k0_pay40]
  simp only [pay37_at, pay38_at]
  rfl

theorem pay41_at (m d : FVec Ideal S256x1 .f32) (a : Fin 256) :
    k0_pay41 (F := Ideal) q m d (blk K 1024 h1) (ix2 a 0)
      = d (ix2 a 0) * wt (m (ix2 a 0)) (top q K a 1024 (m (ix2 a 0))) + ∑ b : Fin 1024, wt (sc0 q K a (1024 + b)) (top q K a 1024 (m (ix2 a 0))) := by
  pointwise [k0_pay41]
  simp only [pay39_at, pay40_at]

theorem pay42_at (m : FVec Ideal S256x1 .f32) (w : FVec Ideal S256x1024 .bf16) (acc : FVec Ideal S256x128 .f32) (v : FVec Ideal S1024x128 .f32)
    (a : Fin 256) (t : Fin 128) :
    k0_pay42 (F := Ideal) q m w acc v (blk K 1024 h1) (ix2 a t)
      = (acc (ix2 a t) + ∑ b : Fin 1024, w (ix2 a b) * v (ix2 b t)) * wt (m (ix2 a 0)) (top q K a 1024 (m (ix2 a 0))) := by
  pointwise [k0_pay42]
  simp only [pay39_at]

theorem pay45_at (m : FVec Ideal S256x1 .f32) (a : Fin 256) : k0_pay45 (F := Ideal) q m (blk K 2048 h2) (ix2 a 0) = top q K a 2048 (m (ix2 a 0)) := by
  pointwise [k0_pay45]
  simp only [pay44_at, ninf_bot]

theorem pay46_at (m : FVec Ideal S256x1 .f32) (a : Fin 256) :
    k0_pay46 (F := Ideal) q m (blk K 2048 h2) (ix2 a 0) = wt (m (ix2 a 0)) (top q K a 2048 (m (ix2 a 0))) := by
  pointwise [k0_pay46]
  simp only [pay45_at]
  rfl

theorem pay47_at (m : FVec Ideal S256x1 .f32) (a : Fin 256) (b : Fin 1024) :
    k0_pay47 (F := Ideal) q m (blk K 2048 h2) (ix2 a b) = wt (sc0 q K a (2048 + b)) (top q K a 2048 (m (ix2 a 0))) := by
  pointwise [k0_pay47]
  simp only [pay44_at, pay45_at]
  rfl

theorem pay48_at (m d : FVec Ideal S256x1 .f32) (a : Fin 256) :
    k0_pay48 (F := Ideal) q m d (blk K 2048 h2) (ix2 a 0)
      = d (ix2 a 0) * wt (m (ix2 a 0)) (top q K a 2048 (m (ix2 a 0))) + ∑ b : Fin 1024, wt (sc0 q K a (2048 + b)) (top q K a 2048 (m (ix2 a 0))) := by
  pointwise [k0_pay48]
  simp only [pay46_at, pay47_at]

theorem pay49_at (m : FVec Ideal S256x1 .f32) (w : FVec Ideal S256x1024 .bf16) (acc : FVec Ideal S256x128 .f32) (v : FVec Ideal S1024x128 .bf16)
    (a : Fin 256) (t : Fin 128) :
    k0_pay49 (F := Ideal) q m w acc v (constant S256x128 .f32 0x00000000#32) (blk K 2048 h2) (blk V 2048 h2) (ix2 a t)
      = (acc (ix2 a t) + ∑ b : Fin 1024, w (ix2 a b) * v (ix2 b t)) * wt (m (ix2 a 0)) (top q K a 2048 (m (ix2 a 0)))
        + ∑ b : Fin 1024, wt (sc0 q K a (2048 + b)) (top q K a 2048 (m (ix2 a 0))) * at' V (2048 + b) t := by
  pointwise [k0_pay49]
  simp only [pay46_at, pay47_at, blk_at]

theorem pay50_at (m d : FVec Ideal S256x1 .f32) (acc : FVec Ideal S256x128 .f32) (a : Fin 256) (t : Fin 128) :
    k0_pay50 (F := Ideal) q m d acc (blk K 3072 h3) (blk V 3072 h3) (ix2 a t)
      = Ideal.div
          (acc (ix2 a t) * wt (m (ix2 a 0)) (top q K a 3072 (m (ix2 a 0)))
            + ∑ b : Fin 1024, wt (sc0 q K a (3072 + b)) (top q K a 3072 (m (ix2 a 0))) * at' V (3072 + b) t)
          (d (ix2 a 0) * wt (m (ix2 a 0)) (top q K a 3072 (m (ix2 a 0)))
            + ∑ b : Fin 1024, wt (sc0 q K a (3072 + b)) (top q K a 3072 (m (ix2 a 0)))) := by
  pointwise [k0_pay50]
  simp only [blk_at, ninf_bot]
  have e := fun (x : Fin 1024) => sel_block 3072 (by omega) a x
  simp only [e]
  rfl

theorem top_fin (hr : ∀ a k, Fin' (raw q K a k)) (a : Fin 256) (n : ℕ) {m : EReal} (hm : Fin' m) : Fin' (top q K a n m) :=
  max_fin hm (fold_ne_top _ _ fun _ => score_ne_top _ _ (hr a) _)

theorem top_fin0 (hr : ∀ a k, Fin' (raw q K a k)) (a : Fin 256) : Fin' (top q K a 0 ⊥) :=
  max_fin' bot_ne_top (fold_fin _ _ (fun _ => score_ne_top _ _ (hr a) _) ⟨0, Finset.mem_univ _, score_zero a _ (hr a)⟩)

/-- The running softmax ends at the mean. -/
theorem full_at (hr : ∀ a k, Fin' (raw q K a k)) (a : Fin 256) (t : Fin 128) {M : EReal} (hM : Fin' M) :
    fullOf q (blk K 0 h0) (blk K 1024 h1) (blk K 2048 h2) (blk K 3072 h3) (blk V 0 h0) (blk V 1024 h1) (blk V 2048 h2) (blk V 3072 h3) (ix3 0 a t)
      = mean (Finset.range 4096) (sc0 q K a) (fun k => at' V k t) M := by
  unfold fullOf
  pointwise [k0_pay234]
  simp only [pay50_at, pay49_at, pay48_at, pay45_at, pay42_at, pay41_at, pay40_at, pay38_at, pay36_at, pay43_at, pay35_at, pay34_at, pay33_at, pay31_at, zero_add]
  have hs := score_ne_top a (raw q K a) (hr a)
  have f0 := top_fin0 q K hr a
  have f1 := top_fin q K hr a 1024 f0
  have f2 := top_fin q K hr a 2048 f1
  have f3 := top_fin q K hr a 3072 f2
  have n0 : ∑ b : Fin 1024, wt (sc0 q K a b) (top q K a 0 ⊥) * at' V b t = num (Finset.range 1024) (sc0 q K a) (fun k => at' V k t) (top q K a 0 ⊥) :=
    Fin.sum_univ_eq_sum_range (fun b => wt (sc0 q K a b) (top q K a 0 ⊥) * at' V b t) 1024
  have d0 : ∑ b : Fin 1024, wt (sc0 q K a b) (top q K a 0 ⊥) = den (Finset.range 1024) (sc0 q K a) (top q K a 0 ⊥) :=
    Fin.sum_univ_eq_sum_range (fun b => wt (sc0 q K a b) (top q K a 0 ⊥)) 1024
  have n1 := num_block (sc0 q K a) (fun k => at' V k t) 1024 1024 hs f0 f1
  have n2 := num_block (sc0 q K a) (fun k => at' V k t) 2048 1024 hs f1 f2
  have n3 := num_block (sc0 q K a) (fun k => at' V k t) 3072 1024 hs f2 f3
  have d1 := den_block (sc0 q K a) 1024 1024 hs f0 f1
  have d2 := den_block (sc0 q K a) 2048 1024 hs f1 f2
  have d3 := den_block (sc0 q K a) 3072 1024 hs f2 f3
  simp only [top, zero_add] at n0 d0 n1 n2 n3 d1 d2 d3 f3 ⊢
  rw [n0, d0, n1, d1, n2, d2, n3, d3]
  exact soft _ _ _ hs f3 hM ⟨0, by decide, score_zero a _ (hr a)⟩

/-! ### A later chunk -/

/-- The keys of the window from `w`. -/
abbrev win (a : Fin 256) (r w : ℕ) (b : Fin 1024) : EReal := if r ≤ w + b + 128 ∧ w + b ≤ r + 128 then raw q K a (w + b) else ⊥
abbrev fir (a : Fin 256) (b : Fin 256) : EReal := if (b : ℕ) < 32 then raw q K a b else ⊥

theorem pay51_at (w r : ℕ) (hw : w + 1024 ≤ 4096) (a : Fin 256) (hr : r = w + 128 + a) (b : Fin 1024) :
    k0_pay51 (F := Ideal) q (blk K w hw) (ix2 a b) = win q K a r w b := by
  pointwise [k0_pay51]
  simp only [blk_at]
  refine (sel_window a b _).trans (if_congr ?_ rfl rfl)
  omega

theorem pay52_at (a b : Fin 256) : k0_pay52 (F := Ideal) q (fst K) (ix2 a b) = fir q K a b := by
  pointwise [k0_pay52]
  simp only [fst_at]
  exact sel_first b _

theorem win_at (w r : ℕ) (hw : w + 1024 ≤ 4096) (hw' : 32 ≤ w) (hr : ∀ a k, Fin' (raw q K a k)) (a : Fin 256) (t : Fin 128) (er : r = w + 128 + a) {M : EReal} (hM : Fin' M) :
    winOf q (blk K w hw) (fst K) (blk V w hw) (fst V) (ix3 0 a t)
      = mean (Finset.range 4096) (score r (raw q K a)) (fun k => at' V k t) M := by
  have ha := a.isLt
  unfold winOf
  pointwise [k0_pay235, k0_pay54, k0_pay55, k0_pay56, k0_pay53]
  simp only [pay51_at q K w r hw a er, pay52_at, ninf_bot, blk_at, fst_at]
  have f1 : Fin' (max (Finset.univ.fold max ⊥ fun b : Fin 1024 => win q K a r w b) (Finset.univ.fold max ⊥ fun b : Fin 256 => fir q K a b)) := by
    refine max_fin' (fold_ne_top _ _ fun b => ?_) (fold_fin _ _ (fun b => ?_) ⟨0, Finset.mem_univ _, ?_⟩)
    · unfold win; split
      · exact (hr a _).ne_top
      · exact bot_ne_top
    · unfold fir; split
      · exact (hr a _).ne_top
      · exact bot_ne_top
    · unfold fir; rw [if_pos (by decide)]
      exact (hr a _).ne_bot
  generalize max (Finset.univ.fold max ⊥ fun b : Fin 1024 => win q K a r w b) (Finset.univ.fold max ⊥ fun b : Fin 256 => fir q K a b) = m at f1 ⊢
  have n := num_window (raw q K a) (fun k => at' V k t) m (r := r) hw' hw (by omega) (by omega) (by omega)
  have d := den_window (raw q K a) m (r := r) hw' hw (by omega) (by omega) (by omega)
  refine Eq.trans ?_ (soft (Finset.range 4096) (score r (raw q K a)) (fun k => at' V k t) (score_ne_top _ _ (hr a)) f1 hM ⟨0, by decide, score_zero r _ (hr a)⟩)
  rw [← n, ← d]
  rfl

end Head

/-! ### Any chunk -/

theorem cxOf_at (x : Vec Ideal S256x1024 .bf16) (w : Vec Ideal S1x1024x128 .bf16) (K V : Vec Ideal S1x4096x128 .f32) (j : Fin 8)
    (hr : ∀ a k, Fin' (raw (qOf x w) K a k)) (a : Fin 256) (t : Fin 128) {M : EReal} (hM : Fin' M) :
    cxOf x w K V j (ix3 0 a t) = mean (Finset.range 4096) (score (256 * j.val + a) (raw (qOf x w) K a)) (fun k => at' V k t) M := by
  unfold cxOf
  by_cases h : j = 0
  · subst h
    rw [if_pos rfl]
    refine (full_at (qOf x w) K V _ _ _ _ hr a t hM).trans ?_
    simp only [sc0, Fin.val_zero, mul_zero, zero_add]
  · rw [if_neg h]
    have hj : 1 ≤ j.val := Nat.one_le_iff_ne_zero.mpr fun e => h (Fin.ext e)
    exact win_at (qOf x w) K V (256 * j.val - 128) (256 * j.val + a) _ (by omega) hr a t (by omega) hM

theorem qOf_at (x : Vec Ideal S256x1024 .bf16) (w : Vec Ideal S1x1024x128 .bf16) (a : Fin 256) (t : Fin 128) :
    qOf x w (ix2 a t) = ∑ d : Fin 1024, x (ix2 a d) * w (ix3 0 d t) := by
  unfold qOf
  pointwise [k0_pay233]

end Cert.KernelIdeal

end
-- ==== Proof.KernelValue.lean ====
/- A device's rows of the result at an index: the sum over the devices, their heads and the heads' features. -/
module

public import proofs.«01_k».proof.Proof.KernelHeads

@[expose] public section

noncomputable section

namespace Cert.KernelIdeal

open Cert.KernelIdeal.Gen Cert.Math
open Idealize.ShloMosaic Idealize.ShloMosaic.TcCoe Idealize.ShloMosaic.Tactic
open scoped BigOperators

/-! ### One device's part of a chunk -/

/-- The product of one head's result with its part of the second matrix. -/
abbrev prod1 (c : Vec Ideal S1x256x128 .bf16) (w : Vec Ideal S1x128x1024 .bf16) (a : Fin 256) (n : Fin 1024) : EReal :=
  ∑ t : Fin 128, c (ix3 0 a t) * w (ix3 0 t n)

theorem pay229_at (c w a n) : k0_pay229 (F := Ideal) c w (ix2 a n) = prod1 c w a n := by
  pointwise [k0_pay229]

theorem pay231_at (v c1 w1 c2 w2 c3 w3 c4 w4 c5 w5 a n) :
    k0_pay231 (F := Ideal) v (k0_pay230 c1) w1 c2 w2 c3 w3 c4 w4 c5 w5 (ix2 a n)
      = v (ix2 a n) + prod1 c1 w1 a n + prod1 c2 w2 a n + prod1 c3 w3 a n + prod1 c4 w4 a n + prod1 c5 w5 a n := by
  pointwise [k0_pay231, k0_pay230]

theorem pay232_at (v c1 w1 c2 w2 a n) :
    k0_pay232 (F := Ideal) v c1 w1 c2 w2 (ix2 a n) = v (ix2 a n) + prod1 c1 w1 a n + prod1 c2 w2 a n := by
  pointwise [k0_pay232]

theorem projOf_at (c : Fin 8 → Vec Ideal S1x256x128 .bf16) (w : Fin 8 → Vec Ideal S1x128x1024 .bf16) (a n) :
    projOf c w (ix2 a n) = ∑ h : Fin 8, prod1 (c h) (w h) a n := by
  unfold projOf
  rw [Fin.sum_univ_eight, ← pay229_at, ← pay231_at, ← pay232_at]
  rfl

/-! ### The ring -/

theorem pay239_at (v a n) : k0_pay239 (F := Ideal) v (ix3 0 a n) = v (ix2 a n) := by
  pointwise [k0_pay239]
theorem pay247_at (v m a n) : k0_pay247 (F := Ideal) v m (ix2 a n) = v (ix2 a n) + m (ix3 0 a n) := by
  pointwise [k0_pay247]
theorem pay248_at (v a n) : k0_pay248 (F := Ideal) v (ix2 a n) = v (ix2 a n) := by
  pointwise [k0_pay248]
theorem pay297_at (v m a n) : k0_pay297 (F := Ideal) v m (ix2 a n) = v (ix2 a n) + m (ix3 0 a n) := by
  pointwise [k0_pay297]
theorem pay225_at (v a n) : k0_pay225 (F := Ideal) v (ix2 a n) = v (ix2 a n) := by
  pointwise [k0_pay225]

variable (A : Ins Ideal)

theorem msg_zero (e : Dev nD) (a n) : msg A 0 e (ix3 0 a n) = pr A e (e + 7) (ix2 a n) := pay239_at _ a n
theorem msg_succ (s : ℕ) (e : Dev nD) (a n) :
    msg A (s + 1) e (ix3 0 a n) = pr A e (e + Fin.ofNat 8 (14 - s)) (ix2 a n) + msg A s (e + 7) (ix3 0 a n) := by
  show k0_pay239 _ (ix3 0 a n) = _
  rw [pay239_at]
  unfold psum
  rw [pay248_at, pay247_at]

/-- Going down the ring from `c` meets every device once. -/
theorem ring_sum (f : Fin 8 → EReal) (c : Fin 8) :
    f c + (f (c + 7) + (f (c + 7 + 7) + (f (c + 7 + 7 + 7) + (f (c + 7 + 7 + 7 + 7) + (f (c + 7 + 7 + 7 + 7 + 7)
      + (f (c + 7 + 7 + 7 + 7 + 7 + 7) + f (c + 7 + 7 + 7 + 7 + 7 + 7 + 7))))))) = ∑ d : Fin 8, f d := by
  have e : ∀ c : Fin 8, c - 0 = c ∧ c - 1 = c + 7 ∧ c - 2 = c + 7 + 7 ∧ c - 3 = c + 7 + 7 + 7 ∧ c - 4 = c + 7 + 7 + 7 + 7 ∧ c - 5 = c + 7 + 7 + 7 + 7 + 7
      ∧ c - 6 = c + 7 + 7 + 7 + 7 + 7 + 7 ∧ c - 7 = c + 7 + 7 + 7 + 7 + 7 + 7 + 7 := by decide
  obtain ⟨e0, e1, e2, e3, e4, e5, e6, e7⟩ := e c
  rw [← (Equiv.subLeft c).sum_comp f, Fin.sum_univ_eight]
  simp only [Equiv.subLeft_apply, e0, e1, e2, e3, e4, e5, e6, e7, add_assoc]

/-- The ring adds up all devices' parts. -/
theorem outv_at (c : Dev nD) (a n) : outv A c (ix2 a n) = ∑ d : Fin 8, pr A d c (ix2 a n) := by
  unfold outv
  rw [pay297_at, msg_succ A 5, msg_succ A 4, msg_succ A 3, msg_succ A 2, msg_succ A 1, msg_succ A 0, msg_zero, ← ring_sum (fun d => pr A d c (ix2 a n)) c]
  have e : ∀ c : Fin 8, c + 7 + Fin.ofNat 8 (14 - 5) = c ∧ c + 7 + 7 + Fin.ofNat 8 (14 - 4) = c ∧ c + 7 + 7 + 7 + Fin.ofNat 8 (14 - 3) = c
      ∧ c + 7 + 7 + 7 + 7 + Fin.ofNat 8 (14 - 2) = c ∧ c + 7 + 7 + 7 + 7 + 7 + Fin.ofNat 8 (14 - 1) = c
      ∧ c + 7 + 7 + 7 + 7 + 7 + 7 + Fin.ofNat 8 (14 - 0) = c ∧ c + 7 + 7 + 7 + 7 + 7 + 7 + 7 + 7 = c := by decide
  obtain ⟨e0, e1, e2, e3, e4, e5, e6⟩ := e c
  rw [e0, e1, e2, e3, e4, e5, e6]

/-! ### All heads -/

/-- The queries of device `c`'s head `h` on chunk `j`. -/
abbrev qv (c j : Dev nD) (h : Fin 8) := qOf (xv A j) (wqv A c h)

theorem qv_at (c j : Dev nD) (h : Fin 8) (a : Fin 256) (t : Fin 128) :
    qv A c j h (ix2 a t) = ∑ d : Fin 1024, A.x j (ix2 a d) * A.wq c (ix3 h d t) := by
  rw [qv, qOf_at]
  exact Finset.sum_congr rfl fun d _ => by rw [wqv_at]; unfold xv; rw [pay225_at]

theorem at'_kvv (K : Vec Ideal S4096x64x128 .f32) (c : Dev nD) (h : Fin 8) (k : ℕ) (t : Fin 128) :
    at' (kvv K c h) k t = if hk : k < 4096 then K (ix3 ⟨k, hk⟩ (head c h) t) else 0 := by
  unfold at'
  split
  · exact kvv_at K c h _ t
  · rfl

/-- Device `c`'s rows of the result: at every head of every device, the weighted mean of the values, times the second matrix. -/
theorem outv_value (c : Dev nD) (hr : ∀ (d : Dev nD) h a k, Fin' (raw (qv A d c h) (kvv (A.k d) d h) a k)) (a : Fin 256) (n : Fin 1024)
    (M : Dev nD → Fin 8 → EReal) (hM : ∀ d h, Fin' (M d h)) :
    outv A c (ix2 a n) = ∑ d : Fin 8, ∑ h : Fin 8, ∑ t : Fin 128,
      mean (Finset.range 4096) (score (256 * c.val + a) (raw (qv A d c h) (kvv (A.k d) d h) a)) (fun k => at' (kvv (A.v d) d h) k t) (M d h) * A.wo d (ix3 h t n) := by
  rw [outv_at]
  refine Finset.sum_congr rfl fun d _ => ?_
  unfold pr
  rw [projOf_at]
  refine Finset.sum_congr rfl fun h _ => Finset.sum_congr rfl fun t _ => ?_
  rw [wov_at]
  unfold cx
  rw [cxOf_at _ _ _ _ c (hr d h) a t (hM d h)]

end Cert.KernelIdeal

end
-- ==== Proof.Inputs.lean ====
/- What the devices compute with, in terms of the launched arguments. -/
module

public import proofs.«01_k».proof.Proof.Region
public import proofs.«01_k».proof.Proof.KernelValue

@[expose] public section

noncomputable section

namespace Cert.KernelIdeal

open Cert.KernelIdeal.Gen Cert.Math
open Idealize.ShloMosaic Idealize.ShloMosaic.TcCoe Idealize.ShloMosaic.Tactic
open scoped BigOperators

variable (m : (ℓ : Loc nD τ sig) → Buf (Elt Ideal) ℓ)

/-! ### The launch finds the windows whole -/

theorem ins_x (c : Dev nD) (a d) : (ins m).x c (ix2 a d) = V m c main_v2 (ix2 a d) := by
  show V m c main_v2 (((cfg0.win 0).blk t0_0).view.emb (ix2 a d)) = _
  refine congrArg (V m c main_v2) (funext fun i => ?_)
  fin_cases i
  · exact Fin.ext (show 0 * 256 + 1 * a.val = a.val by omega)
  · exact Fin.ext (show 0 * 1024 + 1 * d.val = d.val by omega)

theorem ins_wq (c : Dev nD) (h d t) : (ins m).wq c (ix3 h d t) = V m c main_v5 (ix3 h d t) := by
  show V m c main_v5 (((cfg0.win 1).blk t0_0).view.emb (ix3 h d t)) = _
  refine congrArg (V m c main_v5) (funext fun i => ?_)
  fin_cases i
  · exact Fin.ext (show 0 * 8 + 1 * h.val = h.val by omega)
  · exact Fin.ext (show 0 * 1024 + 1 * d.val = d.val by omega)
  · exact Fin.ext (show 0 * 128 + 1 * t.val = t.val by omega)

theorem ins_wo (c : Dev nD) (h t n) : (ins m).wo c (ix3 h t n) = V m c main_v7 (ix3 h t n) := by
  show V m c main_v7 (((cfg0.win 2).blk t0_0).view.emb (ix3 h t n)) = _
  refine congrArg (V m c main_v7) (funext fun i => ?_)
  fin_cases i
  · exact Fin.ext (show 0 * 8 + 1 * h.val = h.val by omega)
  · exact Fin.ext (show 0 * 128 + 1 * t.val = t.val by omega)
  · exact Fin.ext (show 0 * 1024 + 1 * n.val = n.val by omega)

/-! ### The operations before the launch -/

variable (c : Dev nD)
abbrev a0 : FVec Ideal S1x256x1024 .f32 := m ((c : Thread nD τ).loc main_arg0)
abbrev a1 : FVec Ideal S1024x1024 .f32 := m ((c : Thread nD τ).loc main_arg1)
abbrev a2 : FVec Ideal S1x4096x64x128 .f32 := m ((c : Thread nD τ).loc main_arg2)
abbrev a3 : FVec Ideal S1x4096x64x128 .f32 := m ((c : Thread nD τ).loc main_arg3)
abbrev a4 : FVec Ideal S1024x1024 .f32 := m ((c : Thread nD τ).loc main_arg4)

theorem v2_eq : (V m c main_v2 : FVec Ideal S256x1024 .bf16)
    = truncf .bf16 (shapeCast S256x1024 (a0 m c) shapeCasts_S1x256x1024_S256x1024 : FVec Ideal S256x1024 .f32) bitsLt_bf16_f32 := by
  simp only [V, V0, hostOps0, List.flatten_cons, List.flatten_nil, List.append_nil, List.cons_append, List.nil_append]
  after_results_simp
  rfl
theorem v5_eq : (V m c main_v5 : FVec Ideal S8x1024x128 .bf16)
    = truncf .bf16 (transpose S8x1024x128 [1, 0, 2] (shapeCast S1024x8x128 (a1 m c) shapeCasts_S1024x1024_S1024x8x128 : FVec Ideal S1024x8x128 .f32) transposes_S1024x8x128_S8x1024x128_1_0_2 : FVec Ideal S8x1024x128 .f32) bitsLt_bf16_f32 := by
  simp only [V, V0, hostOps0, List.flatten_cons, List.flatten_nil, List.append_nil, List.cons_append, List.nil_append]
  after_results_simp
  rfl
theorem v7_eq : (V m c main_v7 : FVec Ideal S8x128x1024 .bf16)
    = truncf .bf16 (shapeCast S8x128x1024 (a4 m c) shapeCasts_S1024x1024_S8x128x1024 : FVec Ideal S8x128x1024 .f32) bitsLt_bf16_f32 := by
  simp only [V, V0, hostOps0, List.flatten_cons, List.flatten_nil, List.append_nil, List.cons_append, List.nil_append]
  after_results_simp
  rfl
theorem v8_eq : (V m c main_v8 : FVec Ideal S4096x64x128 .f32) = shapeCast S4096x64x128 (a2 m c) shapeCasts_S1x4096x64x128_S4096x64x128 := by
  simp only [V, V0, hostOps0, List.flatten_cons, List.flatten_nil, List.append_nil, List.cons_append, List.nil_append]
  after_results_simp
  rfl
theorem v9_eq : (V m c main_v9 : FVec Ideal S4096x64x128 .f32) = shapeCast S4096x64x128 (a3 m c) shapeCasts_S1x4096x64x128_S4096x64x128 := by
  simp only [V, V0, hostOps0, List.flatten_cons, List.flatten_nil, List.append_nil, List.cons_append, List.nil_append]
  after_results_simp
  rfl

/-! ### The operands at an index -/

theorem x_at (a : Fin 256) (d : Fin 1024) : (ins m).x c (ix2 a d) = a0 m c (ix3 0 a d) := by
  rw [ins_x, v2_eq]
  pointwise []
theorem wq_at (h : Fin 8) (d : Fin 1024) (t : Fin 128) : (ins m).wq c (ix3 h d t) = a1 m c (ix2 d ⟨128 * h.val + t.val, by omega⟩) := by
  rw [ins_wq, v5_eq]
  pointwise []
  congr 2
  exact Fin.ext (by show h.val * 128 + t.val = 128 * h.val + t.val; omega)
theorem wo_at (h : Fin 8) (t : Fin 128) (n : Fin 1024) : (ins m).wo c (ix3 h t n) = a4 m c (ix2 ⟨128 * h.val + t.val, by omega⟩ n) := by
  rw [ins_wo, v7_eq]
  pointwise []
  congr 2
  exact Fin.ext (by show h.val * 128 + t.val = 128 * h.val + t.val; omega)
theorem k_at (k : Fin 4096) (g : Fin 64) (t : Fin 128) : (ins m).k c (ix3 k g t) = a2 m c (ix4 0 k g t) := by
  show V m c main_v8 (ix3 k g t) = _
  rw [v8_eq]
  pointwise []
theorem v_at (k : Fin 4096) (g : Fin 64) (t : Fin 128) : (ins m).v c (ix3 k g t) = a3 m c (ix4 0 k g t) := by
  show V m c main_v9 (ix3 k g t) = _
  rw [v9_eq]
  pointwise []

end Cert.KernelIdeal

end
-- ==== Proof.Reference.lean ====
/- The reference at an index: the product of the weighted means of all heads with the output matrix. -/
module

public import proofs.«01_k».proof.Proof.KernelReads
public import proofs.«01_k».proof.Proof.Gen.ReferenceIdeal.Run

@[expose] public section

noncomputable section

namespace Cert.ReferenceIdeal.Value

open Cert.ReferenceIdeal Cert.ReferenceIdeal.Gen Cert.Math
open Idealize.ShloMosaic Idealize.ShloMosaic.TcCoe
open Idealize.ShloMosaic.WordArith Idealize.ShloMosaic.WordCmp
open scoped BigOperators

/-! ### The reference in stages -/

/-- Which keys every row sees. -/
def maskT : IVec S2048x4096 1 :=
  ori (cmpi .sle (absi (subi (broadcastInDim S2048x4096 ![0, 1] bcast_S2048x1_S2048x4096_0_1 (broadcastInDim S2048x1 ![0] bcast_S2048_S2048x1_0 (iotaInDim S2048 32 0)))
      (broadcastInDim S2048x4096 ![0, 1] bcast_S1x4096_S2048x4096_0_1 (broadcastInDim S1x4096 ![1] bcast_S4096_S1x4096_1 (iotaInDim S4096 32 0)))))
      (broadcastInDim S2048x4096 ![] bcast_S_S2048x4096 (constantI S_ 32 128#32)))
    (ori (broadcastInDim S2048x4096 ![0, 1] bcast_S1x4096_S2048x4096_0_1 (cmpi .slt (broadcastInDim S1x4096 ![1] bcast_S4096_S1x4096_1 (iotaInDim S4096 32 0)) (broadcastInDim S1x4096 ![] bcast_S_S1x4096 (constantI S_ 32 32#32))))
      (broadcastInDim S2048x4096 ![0, 1] bcast_S2048x1_S2048x4096_0_1 (cmpi .slt (broadcastInDim S2048x1 ![0] bcast_S2048_S2048x1_0 (iotaInDim S2048 32 0)) (broadcastInDim S2048x1 ![] bcast_S_S2048x1 (constantI S_ 32 32#32)))))

/-- Whether a row sees any key. -/
def keepT : IVec S2048 1 := Host.reduce IntOp.ori maskT (constantI S_ 1 0#1) reducesTo_S2048x4096_S2048_d1 h_S_

variable (X : FVec Ideal S1x2048x1024 .f32) (W : FVec Ideal S1024x8192 .f32) (K V : FVec Ideal S1x4096x64x128 .f32) (O : FVec Ideal S8192x1024 .f32)

def queT : FVec Ideal S1x2048x64x128 .f32 :=
  shapeCast S1x2048x64x128 (Host.dotGeneral dot_S1x2048x1024_S1024x8192_S1x2048x8192_2_0_01_1_n_n none X W) shapeCasts_S1x2048x8192_S1x2048x64x128

/-- The products of the queries and the keys. -/
def dotT : FVec Ideal S1x64x2048x4096 .f32 :=
  Host.dotGeneral dot_S1x2048x64x128_S1x4096x64x128_S1x64x2048x4096_3_3_1_1_02_02 none (queT X W) K

/-- The root the products are divided by. -/
def rootT : FVec Ideal S_ .f32 := Host.sqrt (constant S_ .f32 0x43000000#32)

def rawT : FVec Ideal S1x64x2048x4096 .f32 := Host.divf (dotT X W K) (broadcastInDim S1x64x2048x4096 ![] bcast_S_S1x64x2048x4096 rootT)

/-- The scores, `⊥` where a row does not see a key. -/
def scoreT : FVec Ideal S1x64x2048x4096 .f32 :=
  select (broadcastInDim S1x64x2048x4096 ![0, 1, 2, 3] bcast_S1x1x2048x4096_S1x64x2048x4096_0_1_2_3 (broadcastInDim S1x1x2048x4096 ![2, 3] bcast_S2048x4096_S1x1x2048x4096_2_3 maskT))
    (rawT X W K)
    (broadcastInDim S1x64x2048x4096 ![] bcast_S_S1x64x2048x4096 (id (constant S_ .f32 0xFF800000#32)))

/-- Every row's greatest score. -/
def maxT : FVec Ideal S1x64x2048 .f32 :=
  Host.reduce FloatOps.maximumf (scoreT X W K) (constant S_ .f32 0xFF800000#32) reducesTo_S1x64x2048x4096_S1x64x2048_d3 h_S_

def expT : FVec Ideal S1x64x2048x4096 .f32 :=
  Host.exp (subf (scoreT X W K) (broadcastInDim S1x64x2048x4096 ![0, 1, 2, 3] bcast_S1x64x2048x1_S1x64x2048x4096_0_1_2_3 (broadcastInDim S1x64x2048x1 ![0, 1, 2] bcast_S1x64x2048_S1x64x2048x1_0_1_2 (maxT X W K))))

/-- The sum a row's weights are divided by. -/
def denT : FVec Ideal S1x64x2048x1 .f32 :=
  select (broadcastInDim S1x64x2048x1 ![0, 1, 2, 3] bcast_S1x1x2048x1_S1x64x2048x1_0_1_2_3 (broadcastInDim S1x1x2048x1 ![2] bcast_S2048_S1x1x2048x1_2 keepT))
    (broadcastInDim S1x64x2048x1 ![0, 1, 2] bcast_S1x64x2048_S1x64x2048x1_0_1_2 (Host.reduceAdd (expT X W K) (constant S_ .f32 0x00000000#32) reducesTo_S1x64x2048x4096_S1x64x2048_d3 h_S_))
    (broadcastInDim S1x64x2048x1 ![] bcast_S_S1x64x2048x1 (id (constant S_ .f32 0x3F800000#32)))

def quotT : FVec Ideal S1x64x2048x4096 .f32 :=
  Host.divf (expT X W K) (broadcastInDim S1x64x2048x4096 ![0, 1, 2, 3] bcast_S1x64x2048x1_S1x64x2048x4096_0_1_2_3 (denT X W K))

/-- Whether a row sees any key, at every score. -/
def keepsT : IVec S1x64x2048x4096 1 :=
  broadcastInDim S1x64x2048x4096 ![0, 1, 2, 3] bcast_S1x1x2048x1_S1x64x2048x4096_0_1_2_3 (broadcastInDim S1x1x2048x1 ![2] bcast_S2048_S1x1x2048x1_2 keepT)

def weightT : FVec Ideal S1x64x2048x4096 .f32 :=
  select keepsT (quotT X W K)
    (broadcastInDim S1x64x2048x4096 ![] bcast_S_S1x64x2048x4096 (id (constant S_ .f32 0x00000000#32)))

def ctxT : FVec Ideal S1x64x128x2048 .f32 :=
  Host.dotGeneral dot_S1x4096x64x128_S1x64x2048x4096_S1x64x128x2048_1_3_3_2_02_01 none V (weightT X W K)

def outT : FVec Ideal S1x2048x1024 .f32 :=
  Host.dotGeneral dot_S1x2048x8192_S8192x1024_S1x2048x1024_2_0_01_1_n_n none
    (shapeCast S1x2048x8192 (transpose S1x2048x64x128 [0, 3, 1, 2] (ctxT X W K V) transposes_S1x64x128x2048_S1x2048x64x128_0_3_1_2) shapeCasts_S1x2048x64x128_S1x2048x8192) O

theorem res_eq (m : (ℓ : Loc nD τ sig) → Buf (Elt Ideal) ℓ) (c : Dev nD) :
    res_main_v43 m c = outT (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  unfold res_main_v43 outT ctxT weightT quotT keepsT denT expT maxT scoreT rawT rootT dotT queT keepT maskT
  rfl

end Cert.ReferenceIdeal.Value

end
-- ==== Proof.ReferenceAt.lean ====
/- The stages of the reference at an index: the product of the weighted means of all heads with the output matrix. -/
module

public import proofs.«01_k».proof.Proof.Reference

@[expose] public section

noncomputable section

namespace Cert.ReferenceIdeal.Value

open Cert.ReferenceIdeal Cert.ReferenceIdeal.Gen Cert.Math
open Idealize.ShloMosaic Idealize.ShloMosaic.TcCoe
open Idealize.ShloMosaic.WordArith Idealize.ShloMosaic.WordCmp
open scoped BigOperators

theorem mask_at (r : Fin 2048) (k : Fin 4096) : maskT (ix2 r k) = BitVec.ofBool (decide (sees r k)) := by
  have hr := r.isLt; have hk := k.isLt
  pointwise [maskT]
  rw [Cert.KernelIdeal.near (by omega) (by omega), Cert.KernelIdeal.small (by omega) (by omega), Cert.KernelIdeal.small (by omega) (by omega),
    WordArith.ori_ofBool, WordArith.ori_ofBool]
  congr 1
  by_cases h1 : r.val ≤ k.val + 128 ∧ k.val ≤ r.val + 128 <;> by_cases h2 : k.val < 32 <;> by_cases h3 : r.val < 32 <;> simp [sees, h1, h2, h3]

/-- A disjunction with one true part is true. -/
theorem fold_ori {ι : Type*} (S : Finset ι) (f : ι → BitVec 1) {i : ι} (hi : i ∈ S) (h : f i = 1#1) : S.fold IntOp.ori 0#1 f = 1#1 := by
  classical
  have e : ∀ x : BitVec 1, IntOp.ori 1#1 x = 1#1 := by decide
  rw [← Finset.insert_erase hi, Finset.fold_insert (Finset.notMem_erase i S), h, e]

theorem keep_at (r : Fin 2048) : keepT (ix1 r) = 1#1 := by
  pointwise [keepT]
  refine fold_ori _ _ (Finset.mem_univ (0 : Fin 4096)) ?_
  rw [mask_at, decide_eq_true (show sees r (0 : Fin 4096).val from Or.inr (Or.inl (by decide)))]
  rfl

theorem keeps_at (h : Fin 64) (r : Fin 2048) (k : Fin 4096) : keepsT (ix4 0 h r k) = 1#1 := by
  pointwise [keepsT]
  exact keep_at r

variable (X : FVec Ideal S1x2048x1024 .f32) (W : FVec Ideal S1024x8192 .f32) (K V : FVec Ideal S1x4096x64x128 .f32) (O : FVec Ideal S8192x1024 .f32)

/-- The query of row `r` for head `h`. -/
def que (r : Fin 2048) (h : Fin 64) (t : Fin 128) : EReal := ∑ d : Fin 1024, X (ix3 0 r d) * W (ix2 d ⟨128 * h.val + t.val, by omega⟩)

/-- One feature of key `k` of head `h`. -/
def key (h : Fin 64) (k : ℕ) (t : Fin 128) : EReal := if hk : k < 4096 then K (ix4 0 ⟨k, hk⟩ h t) else 0

theorem key_at (h : Fin 64) (k : Fin 4096) (t : Fin 128) : key K h k t = K (ix4 0 k h t) := by
  unfold key; rw [dif_pos k.isLt]

/-- The score of key `k` for row `r` and head `h`, before the mask. -/
def rawR (r : Fin 2048) (h : Fin 64) (k : ℕ) : EReal := (∑ t : Fin 128, que X W r h t * key K h k t) * Cert.KernelIdeal.scale

theorem que_at (r : Fin 2048) (h : Fin 64) (t : Fin 128) : queT X W (ix4 0 r h t) = que X W r h t := by
  pointwise [queT]
  unfold que
  refine Finset.sum_congr rfl fun d _ => ?_
  congr 3
  exact Fin.ext (by show h.val * 128 + t.val = 128 * h.val + t.val; omega)

theorem divf_at (E D : FVec Ideal S1x64x2048x4096 .f32) (i : S1x64x2048x4096.Idx) : Host.divf E D i = Ideal.div (E i) (D i) := rfl

theorem dot_at (r : Fin 2048) (h : Fin 64) (k : Fin 4096) : dotT X W K (ix4 0 h r k) = ∑ t : Fin 128, queT X W (ix4 0 r h t) * K (ix4 0 k h t) := by
  pointwise [dotT]

theorem scalar_at (D : FVec Ideal S_ .f32) (r : Fin 2048) (h : Fin 64) (k : Fin 4096) :
    broadcastInDim S1x64x2048x4096 ![] bcast_S_S1x64x2048x4096 D (ix4 0 h r k) = D ix0 := by
  pointwise []

theorem root_at : rootT ix0 = Ideal.sqrt (Ideal.ofBits .f32 0x43000000#32) := rfl

theorem raw_at (r : Fin 2048) (h : Fin 64) (k : Fin 4096) : rawT X W K (ix4 0 h r k) = rawR X W K r h k := by
  unfold rawT rawR
  rw [divf_at, scalar_at, root_at, Cert.KernelIdeal.div_root, dot_at]
  refine congrArg (· * Cert.KernelIdeal.scale) (Finset.sum_congr rfl fun t _ => ?_)
  rw [que_at, key_at]

theorem score_at (r : Fin 2048) (h : Fin 64) (k : Fin 4096) : scoreT X W K (ix4 0 h r k) = score r (rawR X W K r h) k := by
  pointwise [scoreT]
  rw [mask_at, Cert.KernelIdeal.select_ofBool]
  unfold score
  exact if_congr Iff.rfl (raw_at X W K r h k) Cert.KernelIdeal.ninf_bot

theorem max_at (r : Fin 2048) (h : Fin 64) :
    maxT X W K (ix3 0 h r) = Finset.univ.fold max ⊥ fun k : Fin 4096 => score r (rawR X W K r h) k := by
  pointwise [maxT]
  rw [Cert.KernelIdeal.ninf_bot]
  exact congrArg (fun f => Finset.fold max ⊥ f Finset.univ) (funext fun k => score_at X W K r h k)

theorem max_real (r : Fin 2048) (h : Fin 64) (hr : ∀ k, Fin' (rawR X W K r h k)) : Fin' (maxT X W K (ix3 0 h r)) := by
  rw [max_at]
  exact fold_fin _ _ (fun k => score_ne_top r _ hr k) ⟨0, Finset.mem_univ _, score_zero r _ hr⟩

theorem exp_at (r : Fin 2048) (h : Fin 64) (k : Fin 4096) :
    expT X W K (ix4 0 h r k) = wt (score r (rawR X W K r h) k) (maxT X W K (ix3 0 h r)) := by
  pointwise [expT]
  rw [score_at]
  rfl

theorem den_at (r : Fin 2048) (h : Fin 64) :
    denT X W K (ix4 0 h r 0) = den (Finset.range 4096) (score r (rawR X W K r h)) (maxT X W K (ix3 0 h r)) := by
  pointwise [denT]
  rw [keep_at, show ∀ x y : EReal, Scalar.select 1#1 x y = x from fun _ _ => rfl]
  unfold den
  rw [← Fin.sum_univ_eq_sum_range (fun k => wt (score r (rawR X W K r h) k) (maxT X W K (ix3 0 h r))) 4096]
  exact Finset.sum_congr rfl fun k _ => exp_at X W K r h k

theorem spread_at (D : FVec Ideal S1x64x2048x1 .f32) (r : Fin 2048) (h : Fin 64) (k : Fin 4096) :
    broadcastInDim S1x64x2048x4096 ![0, 1, 2, 3] bcast_S1x64x2048x1_S1x64x2048x4096_0_1_2_3 D (ix4 0 h r k) = D (ix4 0 h r 0) := by
  pointwise []

theorem quot_at (r : Fin 2048) (h : Fin 64) (k : Fin 4096) :
    quotT X W K (ix4 0 h r k) = Ideal.div (expT X W K (ix4 0 h r k)) (denT X W K (ix4 0 h r 0)) := by
  unfold quotT
  rw [divf_at, spread_at]

theorem weight_at (r : Fin 2048) (h : Fin 64) (k : Fin 4096) : weightT X W K (ix4 0 h r k) = quotT X W K (ix4 0 h r k) := by
  unfold weightT
  show Scalar.select (keepsT (ix4 0 h r k)) _ _ = _
  rw [keeps_at]
  rfl

theorem ctx_at (r : Fin 2048) (h : Fin 64) (t : Fin 128) :
    ctxT X W K V (ix4 0 h t r) = mean (Finset.range 4096) (score r (rawR X W K r h)) (fun k => key V h k t) (maxT X W K (ix3 0 h r)) := by
  pointwise [ctxT]
  unfold mean
  rw [← Fin.sum_univ_eq_sum_range (fun k => key V h k t * Ideal.div (wt (score r (rawR X W K r h) k) (maxT X W K (ix3 0 h r)))
    (den (Finset.range 4096) (score r (rawR X W K r h)) (maxT X W K (ix3 0 h r)))) 4096]
  exact Finset.sum_congr rfl fun k _ => by rw [weight_at, quot_at, exp_at, den_at, key_at]

theorem out_at (r : Fin 2048) (n : Fin 1024) :
    outT X W K V O (ix3 0 r n) = ∑ e : Fin 8192, ctxT X W K V (ix4 0 ⟨e.val / 128, by omega⟩ ⟨e.val % 128, by omega⟩ r) * O (ix2 e n) := by
  pointwise [outT]

end Cert.ReferenceIdeal.Value

end
-- ==== Proof.Finite.lean ====
/- What the precondition says of the arguments: the elements are real numbers. -/
module

public import proofs.«01_k».proof.Defs
public import proofs.«01_k».proof.Proof.Soft
public import Idealize.ShloMosaic.Lib.Pointwise

@[expose] public section

noncomputable section

namespace Cert.Math

open Idealize.ShloMosaic Idealize.ShloMosaic.TcCoe

theorem real_of {x : EReal} (h : BitVec.ofBool (decide (FloatOps.absf (F := Ideal) (φ := .f32) x < Ideal.ofBits .f32 0x7F800000#32)) = 1#1) : Fin' x := by
  have e : Ideal.ofBits .f32 0x7F800000#32 = (⊤ : EReal) := by simp [Ideal.ofBits, Ideal.ieee]
  have hlt : max x (-x) < (⊤ : EReal) := by
    by_contra hn
    rw [e] at h
    rw [show decide (FloatOps.absf (F := Ideal) (φ := .f32) x < (⊤ : EReal)) = false from decide_eq_false hn] at h
    exact absurd h (by decide)
  refine fin'_of (fun hb => ?_) (fun ht => ?_)
  · rw [hb] at hlt; simp at hlt
  · rw [ht] at hlt; simp at hlt

open Cert.Pre_finite_scores_KernelIdeal

variable [Cert.Pre_finite_scores_KernelIdeal.Facts]
variable (x : FVec Ideal S1x256x1024 .f32) (w : FVec Ideal S1024x1024 .f32) (k v : FVec Ideal S1x4096x64x128 .f32) (o : FVec Ideal S1024x1024 .f32)

theorem fin_x (h : (fn (F := Ideal) x w k v o).1 = fun _ => 1#1) (a : Fin 256) (d : Fin 1024) : Fin' (x (ix3 0 a d)) := by
  have h' := congrFun h (ix3 0 a d)
  unfold fn at h'
  revert h'
  pointwise []
  exact real_of

theorem fin_w (h : (fn (F := Ideal) x w k v o).2.1 = fun _ => 1#1) (d e : Fin 1024) : Fin' (w (ix2 d e)) := by
  have h' := congrFun h (ix2 d e)
  unfold fn at h'
  revert h'
  pointwise []
  exact real_of

theorem fin_k (h : (fn (F := Ideal) x w k v o).2.2 = fun _ => 1#1) (i : Fin 4096) (g : Fin 64) (t : Fin 128) : Fin' (k (ix4 0 i g t)) := by
  have h' := congrFun h (ix4 0 i g t)
  unfold fn at h'
  revert h'
  pointwise []
  exact real_of

end Cert.Math

end
-- ==== Proof.Algebraic.lean ====
/- The two programs end with the same result: the launched arguments read as blocks of the whole ones. -/
module

public import proofs.«01_k».proof.Proof.Launch
public import proofs.«01_k».proof.Proof.Inputs
public import proofs.«01_k».proof.Proof.ReferenceAt
public import proofs.«01_k».proof.Proof.Finite

@[expose] public section

noncomputable section

namespace Cert.Proof

open Cert.Math
open Idealize.ShloMosaic Idealize.ShloMosaic.TcCoe
open scoped BigOperators

/-! ### Sums over a product -/

theorem sum_prod (p q : ℕ) (g : Fin (p * q) → EReal) (hb : ∀ (x : Fin p) (y : Fin q), q * x.val + y.val < p * q) :
    ∑ e : Fin (p * q), g e = ∑ x : Fin p, ∑ y : Fin q, g ⟨q * x.val + y.val, hb x y⟩ := by
  rw [← finProdFinEquiv.sum_comp g, Fintype.sum_prod_type]
  refine Finset.sum_congr rfl fun x _ => Finset.sum_congr rfl fun y _ => congrArg g (Fin.ext ?_)
  show y.val + q * x.val = q * x.val + y.val
  omega

/-- A sum over the features of all heads, by devices and their heads. -/
theorem sum_heads (g : Fin 8192 → EReal) :
    ∑ e : Fin 8192, g e = ∑ d : Fin 8, ∑ h : Fin 8, ∑ t : Fin 128, g ⟨128 * (8 * d.val + h.val) + t.val, by omega⟩ := by
  refine (sum_prod 64 128 g (fun x y => by omega)).trans ?_
  exact sum_prod 8 8 (fun x : Fin 64 => ∑ t : Fin 128, g ⟨128 * x.val + t.val, by omega⟩) (fun x y => by omega)

/-! ### Blocks -/

theorem block_x (X : FVec Ideal ⟨3, ![1, 2048, 1024]⟩ .f32) (c : Fin 8) (a : Fin 256) (d : Fin 1024) :
    Layout.block ⟨3, ![1, 256, 1024]⟩ ⟨3, ![1, 2048, 1024]⟩ 1 8 c X (by decide) (ix3 0 a d) = X (ix3 0 ⟨256 * c.val + a.val, by omega⟩ d) := by
  rw [Layout.block_apply]
  refine congrArg X (funext fun i => ?_)
  fin_cases i
  · rfl
  · exact Fin.ext (show c.val * 256 + a.val = 256 * c.val + a.val by omega)
  · rfl

theorem block_w (W : FVec Ideal ⟨2, ![1024, 8192]⟩ .f32) (c : Fin 8) (d e : Fin 1024) :
    Layout.block ⟨2, ![1024, 1024]⟩ ⟨2, ![1024, 8192]⟩ 1 8 c W (by decide) (ix2 d e) = W (ix2 d ⟨1024 * c.val + e.val, by omega⟩) := by
  rw [Layout.block_apply]
  refine congrArg W (funext fun i => ?_)
  fin_cases i
  · rfl
  · exact Fin.ext (show c.val * 1024 + e.val = 1024 * c.val + e.val by omega)

theorem block_o (O : FVec Ideal ⟨2, ![8192, 1024]⟩ .f32) (c : Fin 8) (e n : Fin 1024) :
    Layout.block ⟨2, ![1024, 1024]⟩ ⟨2, ![8192, 1024]⟩ 0 8 c O (by decide) (ix2 e n) = O (ix2 ⟨1024 * c.val + e.val, by omega⟩ n) := by
  rw [Layout.block_apply]
  refine congrArg O (funext fun i => ?_)
  fin_cases i
  · exact Fin.ext (show c.val * 1024 + e.val = 1024 * c.val + e.val by omega)
  · rfl

/-! ### The two results -/

section Values

open Cert.KernelIdeal Cert.KernelIdeal.Gen Cert.ReferenceIdeal.Value

variable (m : (ℓ : Loc nD τ sig) → Buf (Elt Ideal) ℓ)
variable (X : FVec Ideal Cert.ReferenceIdeal.S1x2048x1024 .f32) (W : FVec Ideal Cert.ReferenceIdeal.S1024x8192 .f32)
  (K V : FVec Ideal Cert.ReferenceIdeal.S1x4096x64x128 .f32) (O : FVec Ideal Cert.ReferenceIdeal.S8192x1024 .f32)
variable (hX : ∀ c a d, a0 m c (ix3 0 a d) = X (ix3 0 ⟨256 * c.val + a.val, by have : c.val < 8 := c.isLt; omega⟩ d))
  (hW : ∀ c d e, a1 m c (ix2 d e) = W (ix2 d ⟨1024 * c.val + e.val, by have : c.val < 8 := c.isLt; omega⟩))
  (hK : ∀ c, a2 m c = K) (hV : ∀ c, a3 m c = V)
  (hO : ∀ c e n, a4 m c (ix2 e n) = O (ix2 ⟨1024 * c.val + e.val, by have : c.val < 8 := c.isLt; omega⟩ n))

/-- Row `a` of chunk `c`. -/
abbrev row (c : Dev nD) (a : Fin 256) : Fin 2048 := ⟨256 * c.val + a.val, by have : c.val < 8 := c.isLt; omega⟩

include hX hW in
theorem que_eq (d c : Dev nD) (h : Fin 8) (a : Fin 256) (t : Fin 128) : qv (ins m) d c h (ix2 a t) = que X W (row c a) (head d h) t := by
  rw [qv_at]
  refine Finset.sum_congr rfl fun i _ => ?_
  rw [x_at, wq_at, hX, hW]
  refine congrArg (X _ * W ·) (congrArg (ix2 i) (Fin.ext ?_))
  show 1024 * d.val + (128 * h.val + t.val) = 128 * (8 * d.val + h.val) + t.val
  omega

include hK in
theorem key_eq (d : Dev nD) (h : Fin 8) (k : ℕ) (t : Fin 128) : at' (kvv ((ins m).k d) d h) k t = key K (head d h) k t := by
  rw [at'_kvv]
  unfold key
  split
  · rw [k_at, hK]
  · rfl

include hV in
theorem val_eq (d : Dev nD) (h : Fin 8) (k : ℕ) (t : Fin 128) : at' (kvv ((ins m).v d) d h) k t = key V (head d h) k t := by
  rw [at'_kvv]
  unfold key
  split
  · rw [v_at, hV]
  · rfl

include hX hW hK in
theorem raw_eq (d c : Dev nD) (h : Fin 8) (a : Fin 256) :
    raw (qv (ins m) d c h) (kvv ((ins m).k d) d h) a = rawR X W K (row c a) (head d h) := by
  funext k
  unfold raw rawR
  refine congrArg (· * scale) (Finset.sum_congr rfl fun t _ => ?_)
  rw [que_eq m X W hX hW, key_eq m K hK]

theorem raw_real (fx : ∀ c a d, Fin' (a0 m c (ix3 0 a d))) (fw : ∀ c d e, Fin' (a1 m c (ix2 d e))) (fk : ∀ c k g t, Fin' (a2 m c (ix4 0 k g t)))
    (d c : Dev nD) (h : Fin 8) (a : Fin 256) (k : ℕ) : Fin' (raw (qv (ins m) d c h) (kvv ((ins m).k d) d h) a k) := by
  unfold raw
  refine (Fin'.sum _ _ fun t => Fin'.mul ?_ ?_).mul scale_fin
  · rw [qv_at]
    exact Fin'.sum _ _ fun i => by rw [x_at, wq_at]; exact (fx _ _ _).mul (fw _ _ _)
  · rw [at'_kvv]
    split
    · rw [k_at]; exact fk _ _ _ _
    · exact ⟨0, rfl⟩

include hX hW hK hV hO in
/-- Device `c`'s rows are the reference's. -/
theorem out_eq (fx : ∀ c a d, Fin' (a0 m c (ix3 0 a d))) (fw : ∀ c d e, Fin' (a1 m c (ix2 d e))) (fk : ∀ c k g t, Fin' (a2 m c (ix4 0 k g t)))
    (c : Dev nD) (a : Fin 256) (n : Fin 1024) :
    outv (ins m) c (ix2 a n) = outT X W K V O (ix3 0 (row c a) n) := by
  have hr : ∀ (d : Dev nD) h a k, Fin' (raw (qv (ins m) d c h) (kvv ((ins m).k d) d h) a k) := fun d h a k => raw_real m fx fw fk d c h a k
  have hr' : ∀ (d : Dev nD) h k, Fin' (rawR X W K (row c a) (head d h) k) := fun d h k => by
    rw [← raw_eq m X W K hX hW hK]; exact hr d h a k
  rw [outv_value (ins m) c hr a n (fun d h => maxT X W K (ix3 0 (head d h) (row c a))) (fun d h => max_real X W K _ _ (hr' d h)), out_at, sum_heads]
  refine Finset.sum_congr rfl fun d _ => Finset.sum_congr rfl fun h _ => Finset.sum_congr rfl fun t _ => ?_
  have hh := h.isLt; have ht := t.isLt; have hd : d.val < 8 := d.isLt
  have e1 : (⟨(128 * (8 * d.val + h.val) + t.val) / 128, by omega⟩ : Fin 64) = head d h := Fin.ext (by show (128 * (8 * d.val + h.val) + t.val) / 128 = 8 * d.val + h.val; omega)
  have e2 : (⟨(128 * (8 * d.val + h.val) + t.val) % 128, by omega⟩ : Fin 128) = t := Fin.ext (by show (128 * (8 * d.val + h.val) + t.val) % 128 = t.val; omega)
  rw [e1, e2, ctx_at, wo_at, hO, raw_eq m X W K hX hW hK]
  have ev : (fun k => at' (kvv ((ins m).v d) d h) k t) = fun k => key V (head d h) k t := funext fun k => val_eq m V hV d h k t
  rw [ev]
  have e3 : (⟨1024 * d.val + (128 * h.val + t.val), by omega⟩ : Fin 8192) = ⟨128 * (8 * d.val + h.val) + t.val, by omega⟩ := Fin.ext (by
    show 1024 * d.val + (128 * h.val + t.val) = 128 * (8 * d.val + h.val) + t.val; omega)
  exact congrArg₂ (fun x y : EReal => x * y) rfl (congrArg (fun e => O (ix2 e n)) e3)

end Values

/-! ### The claim -/

instance pre_facts : Cert.Pre_finite_scores_KernelIdeal.Facts where
  bcast_S_S1x256x1024 := by decide
  bcast_S_S1024x1024 := by decide
  bcast_S_S1x4096x64x128 := by decide

instance pre_facts' : Cert.Pre_finite_scores_ReferenceIdeal.Facts where
  bcast_S_S1x2048x1024 := by decide
  bcast_S_S1024x8192 := by decide
  bcast_S_S1x4096x64x128 := by decide

open Cert.KernelIdeal in
theorem algebraic : Cert.algebraic_KernelIdeal_ReferenceIdeal_pre_finite_scores_KernelIdeal := by
  intro m g m' g' hpre hin
  refine ⟨Cert.ReferenceIdeal.Value.res_main_v43 m' 0, (θ_run _ _ _).mono (fun r h c => ?_) (run_main m g),
    (θ_run _ _ _).mono (fun r h => ⟨(h 0).1, (h 0).2⟩) (Cert.ReferenceIdeal.Value.run (F := Ideal) m' g')⟩
  obtain ⟨ho, h0, h1, h2, h3, h4⟩ := h.1 c
  refine ⟨ho.trans ?_, h0, h1, h2, h3, h4⟩
  rw [Cert.ReferenceIdeal.Value.res_eq]
  funext i
  have hi : i = ix3 (0 : Fin 1) (i 1 : Fin 256) (i 2 : Fin 1024) := by
    funext b
    fin_cases b
    · exact Subsingleton.elim (α := Fin 1) _ _
    · rfl
    · rfl
  generalize (i 1 : Fin 256) = a at hi
  generalize (i 2 : Fin 1024) = n at hi
  subst hi
  refine Eq.trans ?_ (block_x _ c a n).symm
  refine Eq.trans (b := outv (ins m) c (ix2 a n)) (by pointwise []) ?_
  exact out_eq m _ _ _ _ _ (fun c a d => (congrFun (hin c).1 _).trans (block_x _ c a d)) (fun c d e => (congrFun (hin c).2.1 _).trans (block_w _ c d e))
    (fun c => (hin c).2.2.1) (fun c => (hin c).2.2.2.1) (fun c e n => (congrFun (hin c).2.2.2.2 _).trans (block_o _ c e n))
    (fun c a d => fin_x _ _ _ _ _ (hpre c).1 a d) (fun c d e => fin_w _ _ _ _ _ (hpre c).2.1 d e) (fun c k g t => fin_k _ _ _ _ _ (hpre c).2.2 k g t) c a n

end Cert.Proof

end
-- ==== Proof.lean ====
module

public import proofs.«01_k».proof.Defs
public import proofs.«01_k».proof.Proof.Frames
public import proofs.«01_k».proof.Proof.Algebraic

@[expose] public section

noncomputable section

/-- The whole claim, at the side conditions proved for each program. -/
theorem Cert.Proof.claim : Cert.Claim :=
  ⟨Cert.Kernel.Gen.facts, Cert.KernelIdeal.Gen.facts, Cert.ReferenceIdeal.Gen.facts, Cert.Proof.pre_facts, Cert.Proof.pre_facts',
    Cert.Proof.frame_Kernel, Cert.Proof.frame_KernelIdeal, Cert.Proof.frame_KernelIdeal_pre, Cert.Proof.frame_ReferenceIdeal,
    Cert.Proof.frame_ReferenceIdeal_pre, Cert.Proof.preserves, Cert.Proof.algebraic⟩

end
